-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10)
      ∧ r.2.mem ((c.tc : Thread Cert.InProj.nD Cert.InProj.τ).loc Cert.InProj.main_arg11) = m ((c.tc : Thread Cert.InProj.nD Cert.InProj.τ).loc Cert.InProj.main_arg11)
      ∧ r.2.mem ((c.tc : Thread Cert.InProj.nD Cert.InProj.τ).loc Cert.InProj.main_arg12) = m ((c.tc : Thread Cert.InProj.nD Cert.InProj.τ).loc Cert.InProj.main_arg12))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
      ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11)
      ∧ r.2.mem ((c.tc : Thread Cert.InProjIdeal.nD Cert.InProjIdeal.τ).loc Cert.InProjIdeal.main_arg12) = m ((c.tc : Thread Cert.InProjIdeal.nD Cert.InProjIdeal.τ).loc Cert.InProjIdeal.main_arg12))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7)
      ∧ r.2.mem ((c.tc : Thread Cert.InProjReferenceIdeal.nD Cert.InProjReferenceIdeal.τ).loc Cert.InProjReferenceIdeal.main_arg8) = m ((c.tc : Thread Cert.InProjReferenceIdeal.nD Cert.InProjReferenceIdeal.τ).loc Cert.InProjReferenceIdeal.main_arg8)
      ∧ r.2.mem ((c.tc : Thread Cert.InProjReferenceIdeal.nD Cert.InProjReferenceIdeal.τ).loc Cert.InProjReferenceIdeal.main_arg9) = m ((c.tc : Thread Cert.InProjReferenceIdeal.nD Cert.InProjReferenceIdeal.τ).loc Cert.InProjReferenceIdeal.main_arg9)
      ∧ r.2.mem ((c.tc : Thread Cert.InProjReferenceIdeal.nD Cert.InProjReferenceIdeal.τ).loc Cert.InProjReferenceIdeal.main_arg10) = m ((c.tc : Thread Cert.InProjReferenceIdeal.nD Cert.InProjReferenceIdeal.τ).loc Cert.InProjReferenceIdeal.main_arg10)
      ∧ r.2.mem ((c.tc : Thread Cert.InProjReferenceIdeal.nD Cert.InProjReferenceIdeal.τ).loc Cert.InProjReferenceIdeal.main_arg11) = m ((c.tc : Thread Cert.InProjReferenceIdeal.nD Cert.InProjReferenceIdeal.τ).loc Cert.InProjReferenceIdeal.main_arg11)
      ∧ r.2.mem ((c.tc : Thread Cert.InProjReferenceIdeal.nD Cert.InProjReferenceIdeal.τ).loc Cert.InProjReferenceIdeal.main_arg12) = m ((c.tc : Thread Cert.InProjReferenceIdeal.nD Cert.InProjReferenceIdeal.τ).loc Cert.InProjReferenceIdeal.main_arg12))
      ∧ r.2.sem = fun _ => 0)

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)
      ∧ m' ((c.tc : Thread Cert.MlpReferenceIdeal.nD Cert.MlpReferenceIdeal.τ).loc Cert.MlpReferenceIdeal.main_arg8) = m ((c.tc : Thread Cert.MlpIdeal.nD Cert.MlpIdeal.τ).loc Cert.MlpIdeal.main_arg8)
      ∧ m' ((c.tc : Thread Cert.MlpReferenceIdeal.nD Cert.MlpReferenceIdeal.τ).loc Cert.MlpReferenceIdeal.main_arg9) = m ((c.tc : Thread Cert.MlpIdeal.nD Cert.MlpIdeal.τ).loc Cert.MlpIdeal.main_arg9)) →
    ∃ (v0 : (c : Dev Cert.MlpIdeal.nD) → Buf (Elt Ideal) ((c.tc : Thread Cert.MlpIdeal.nD Cert.MlpIdeal.τ).loc Cert.MlpIdeal.main_v3_0)) (v1 : (c : Dev Cert.MlpIdeal.nD) → Buf (Elt Ideal) ((c.tc : Thread Cert.MlpIdeal.nD Cert.MlpIdeal.τ).loc Cert.MlpIdeal.main_v3_1)) (v2 : (c : Dev Cert.MlpIdeal.nD) → Buf (Elt Ideal) ((c.tc : Thread Cert.MlpIdeal.nD Cert.MlpIdeal.τ).loc Cert.MlpIdeal.main_v3_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3_0) = v0 c
          ∧ r.2.mem ((c.tc : Thread Cert.MlpIdeal.nD Cert.MlpIdeal.τ).loc Cert.MlpIdeal.main_v3_1) = v1 c
          ∧ r.2.mem ((c.tc : Thread Cert.MlpIdeal.nD Cert.MlpIdeal.τ).loc Cert.MlpIdeal.main_v3_2) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v4_0) = v0 c
          ∧ r.2.mem ((c.tc : Thread Cert.MlpReferenceIdeal.nD Cert.MlpReferenceIdeal.τ).loc Cert.MlpReferenceIdeal.main_v4_1) = v1 c
          ∧ r.2.mem ((c.tc : Thread Cert.MlpReferenceIdeal.nD Cert.MlpReferenceIdeal.τ).loc Cert.MlpReferenceIdeal.main_v4_2) = v2 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7)
          ∧ r.2.mem ((c.tc : Thread Cert.MlpReferenceIdeal.nD Cert.MlpReferenceIdeal.τ).loc Cert.MlpReferenceIdeal.main_arg8) = m' ((c.tc : Thread Cert.MlpReferenceIdeal.nD Cert.MlpReferenceIdeal.τ).loc Cert.MlpReferenceIdeal.main_arg8)
          ∧ r.2.mem ((c.tc : Thread Cert.MlpReferenceIdeal.nD Cert.MlpReferenceIdeal.τ).loc Cert.MlpReferenceIdeal.main_arg9) = m' ((c.tc : Thread Cert.MlpReferenceIdeal.nD Cert.MlpReferenceIdeal.τ).loc Cert.MlpReferenceIdeal.main_arg9))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)
      ∧ m' ((c.tc : Thread Cert.InProjReferenceIdeal.nD Cert.InProjReferenceIdeal.τ).loc Cert.InProjReferenceIdeal.main_arg7) = m ((c.tc : Thread Cert.InProjIdeal.nD Cert.InProjIdeal.τ).loc Cert.InProjIdeal.main_arg7)
      ∧ m' ((c.tc : Thread Cert.InProjReferenceIdeal.nD Cert.InProjReferenceIdeal.τ).loc Cert.InProjReferenceIdeal.main_arg8) = m ((c.tc : Thread Cert.InProjIdeal.nD Cert.InProjIdeal.τ).loc Cert.InProjIdeal.main_arg8)
      ∧ m' ((c.tc : Thread Cert.InProjReferenceIdeal.nD Cert.InProjReferenceIdeal.τ).loc Cert.InProjReferenceIdeal.main_arg9) = m ((c.tc : Thread Cert.InProjIdeal.nD Cert.InProjIdeal.τ).loc Cert.InProjIdeal.main_arg9)
      ∧ m' ((c.tc : Thread Cert.InProjReferenceIdeal.nD Cert.InProjReferenceIdeal.τ).loc Cert.InProjReferenceIdeal.main_arg10) = m ((c.tc : Thread Cert.InProjIdeal.nD Cert.InProjIdeal.τ).loc Cert.InProjIdeal.main_arg10)
      ∧ m' ((c.tc : Thread Cert.InProjReferenceIdeal.nD Cert.InProjReferenceIdeal.τ).loc Cert.InProjReferenceIdeal.main_arg11) = m ((c.tc : Thread Cert.InProjIdeal.nD Cert.InProjIdeal.τ).loc Cert.InProjIdeal.main_arg11)
      ∧ m' ((c.tc : Thread Cert.InProjReferenceIdeal.nD Cert.InProjReferenceIdeal.τ).loc Cert.InProjReferenceIdeal.main_arg12) = m ((c.tc : Thread Cert.InProjIdeal.nD Cert.InProjIdeal.τ).loc Cert.InProjIdeal.main_arg12)) →
    ∃ (v0 : (c : Dev Cert.InProjIdeal.nD) → Buf (Elt Ideal) ((c.tc : Thread Cert.InProjIdeal.nD Cert.InProjIdeal.τ).loc Cert.InProjIdeal.main_v11_0)) (v1 : (c : Dev Cert.InProjIdeal.nD) → Buf (Elt Ideal) ((c.tc : Thread Cert.InProjIdeal.nD Cert.InProjIdeal.τ).loc Cert.InProjIdeal.main_v11_1)) (v2 : (c : Dev Cert.InProjIdeal.nD) → Buf (Elt Ideal) ((c.tc : Thread Cert.InProjIdeal.nD Cert.InProjIdeal.τ).loc Cert.InProjIdeal.main_v11_2)) (v3 : (c : Dev Cert.InProjIdeal.nD) → Buf (Elt Ideal) ((c.tc : Thread Cert.InProjIdeal.nD Cert.InProjIdeal.τ).loc Cert.InProjIdeal.main_v11_3)) (v4 : (c : Dev Cert.InProjIdeal.nD) → Buf (Elt Ideal) ((c.tc : Thread Cert.InProjIdeal.nD Cert.InProjIdeal.τ).loc Cert.InProjIdeal.main_v11_4)) (v5 : (c : Dev Cert.InProjIdeal.nD) → Buf (Elt Ideal) ((c.tc : Thread Cert.InProjIdeal.nD Cert.InProjIdeal.τ).loc Cert.InProjIdeal.main_v11_5)) (v6 : (c : Dev Cert.InProjIdeal.nD) → Buf (Elt Ideal) ((c.tc : Thread Cert.InProjIdeal.nD Cert.InProjIdeal.τ).loc Cert.InProjIdeal.main_v11_6)) (v7 : (c : Dev Cert.InProjIdeal.nD) → Buf (Elt Ideal) ((c.tc : Thread Cert.InProjIdeal.nD Cert.InProjIdeal.τ).loc Cert.InProjIdeal.main_v11_7)) (v8 : (c : Dev Cert.InProjIdeal.nD) → Buf (Elt Ideal) ((c.tc : Thread Cert.InProjIdeal.nD Cert.InProjIdeal.τ).loc Cert.InProjIdeal.main_v11_8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11_0) = v0 c
          ∧ r.2.mem ((c.tc : Thread Cert.InProjIdeal.nD Cert.InProjIdeal.τ).loc Cert.InProjIdeal.main_v11_1) = v1 c
          ∧ r.2.mem ((c.tc : Thread Cert.InProjIdeal.nD Cert.InProjIdeal.τ).loc Cert.InProjIdeal.main_v11_2) = v2 c
          ∧ r.2.mem ((c.tc : Thread Cert.InProjIdeal.nD Cert.InProjIdeal.τ).loc Cert.InProjIdeal.main_v11_3) = v3 c
          ∧ r.2.mem ((c.tc : Thread Cert.InProjIdeal.nD Cert.InProjIdeal.τ).loc Cert.InProjIdeal.main_v11_4) = v4 c
          ∧ r.2.mem ((c.tc : Thread Cert.InProjIdeal.nD Cert.InProjIdeal.τ).loc Cert.InProjIdeal.main_v11_5) = v5 c
          ∧ r.2.mem ((c.tc : Thread Cert.InProjIdeal.nD Cert.InProjIdeal.τ).loc Cert.InProjIdeal.main_v11_6) = v6 c
          ∧ r.2.mem ((c.tc : Thread Cert.InProjIdeal.nD Cert.InProjIdeal.τ).loc Cert.InProjIdeal.main_v11_7) = v7 c
          ∧ r.2.mem ((c.tc : Thread Cert.InProjIdeal.nD Cert.InProjIdeal.τ).loc Cert.InProjIdeal.main_v11_8) = v8 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
          ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11)
          ∧ r.2.mem ((c.tc : Thread Cert.InProjIdeal.nD Cert.InProjIdeal.τ).loc Cert.InProjIdeal.main_arg12) = m ((c.tc : Thread Cert.InProjIdeal.nD Cert.InProjIdeal.τ).loc Cert.InProjIdeal.main_arg12))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v4_0) = v0 c
          ∧ r.2.mem ((c.tc : Thread Cert.InProjReferenceIdeal.nD Cert.InProjReferenceIdeal.τ).loc Cert.InProjReferenceIdeal.main_v4_1) = v1 c
          ∧ r.2.mem ((c.tc : Thread Cert.InProjReferenceIdeal.nD Cert.InProjReferenceIdeal.τ).loc Cert.InProjReferenceIdeal.main_v4_2) = v2 c
          ∧ r.2.mem ((c.tc : Thread Cert.InProjReferenceIdeal.nD Cert.InProjReferenceIdeal.τ).loc Cert.InProjReferenceIdeal.main_v4_3) = v3 c
          ∧ r.2.mem ((c.tc : Thread Cert.InProjReferenceIdeal.nD Cert.InProjReferenceIdeal.τ).loc Cert.InProjReferenceIdeal.main_v4_4) = v4 c
          ∧ r.2.mem ((c.tc : Thread Cert.InProjReferenceIdeal.nD Cert.InProjReferenceIdeal.τ).loc Cert.InProjReferenceIdeal.main_v4_5) = v5 c
          ∧ r.2.mem ((c.tc : Thread Cert.InProjReferenceIdeal.nD Cert.InProjReferenceIdeal.τ).loc Cert.InProjReferenceIdeal.main_v4_6) = v6 c
          ∧ r.2.mem ((c.tc : Thread Cert.InProjReferenceIdeal.nD Cert.InProjReferenceIdeal.τ).loc Cert.InProjReferenceIdeal.main_v4_7) = v7 c
          ∧ r.2.mem ((c.tc : Thread Cert.InProjReferenceIdeal.nD Cert.InProjReferenceIdeal.τ).loc Cert.InProjReferenceIdeal.main_v4_8) = v8 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7)
          ∧ r.2.mem ((c.tc : Thread Cert.InProjReferenceIdeal.nD Cert.InProjReferenceIdeal.τ).loc Cert.InProjReferenceIdeal.main_arg8) = m' ((c.tc : Thread Cert.InProjReferenceIdeal.nD Cert.InProjReferenceIdeal.τ).loc Cert.InProjReferenceIdeal.main_arg8)
          ∧ r.2.mem ((c.tc : Thread Cert.InProjReferenceIdeal.nD Cert.InProjReferenceIdeal.τ).loc Cert.InProjReferenceIdeal.main_arg9) = m' ((c.tc : Thread Cert.InProjReferenceIdeal.nD Cert.InProjReferenceIdeal.τ).loc Cert.InProjReferenceIdeal.main_arg9)
          ∧ r.2.mem ((c.tc : Thread Cert.InProjReferenceIdeal.nD Cert.InProjReferenceIdeal.τ).loc Cert.InProjReferenceIdeal.main_arg10) = m' ((c.tc : Thread Cert.InProjReferenceIdeal.nD Cert.InProjReferenceIdeal.τ).loc Cert.InProjReferenceIdeal.main_arg10)
          ∧ r.2.mem ((c.tc : Thread Cert.InProjReferenceIdeal.nD Cert.InProjReferenceIdeal.τ).loc Cert.InProjReferenceIdeal.main_arg11) = m' ((c.tc : Thread Cert.InProjReferenceIdeal.nD Cert.InProjReferenceIdeal.τ).loc Cert.InProjReferenceIdeal.main_arg11)
          ∧ r.2.mem ((c.tc : Thread Cert.InProjReferenceIdeal.nD Cert.InProjReferenceIdeal.τ).loc Cert.InProjReferenceIdeal.main_arg12) = m' ((c.tc : Thread Cert.InProjReferenceIdeal.nD Cert.InProjReferenceIdeal.τ).loc Cert.InProjReferenceIdeal.main_arg12))

def Claim : Prop :=
  ∃ (hMlp : Cert.Mlp.Facts) (hMlpIdeal : Cert.MlpIdeal.Facts) (hMlpReferenceIdeal : Cert.MlpReferenceIdeal.Facts) (hInProj : Cert.InProj.Facts) (hInProjIdeal : Cert.InProjIdeal.Facts) (hInProjReferenceIdeal : Cert.InProjReferenceIdeal.Facts),
    quiescent_Mlp (hMlp := hMlp)
    ∧ quiescent_MlpIdeal (hMlpIdeal := hMlpIdeal)
    ∧ quiescent_MlpReferenceIdeal (hMlpReferenceIdeal := hMlpReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Mlp_MlpIdeal
    ∧ algebraic_MlpIdeal_MlpReferenceIdeal (hMlpIdeal := hMlpIdeal) (hMlpReferenceIdeal := hMlpReferenceIdeal)
    ∧ preserves_InProj_InProjIdeal
    ∧ algebraic_InProjIdeal_InProjReferenceIdeal (hInProjIdeal := hInProjIdeal) (hInProjReferenceIdeal := hInProjReferenceIdeal)
-- ==== Mlp.lean ====
abbrev S12 : Shape := ⟨1, ![12]⟩
abbrev S5x384x2048 : Shape := ⟨3, ![5, 384, 2048]⟩
abbrev S5x1x384 : Shape := ⟨3, ![5, 1, 384]⟩
abbrev S2048x4096 : Shape := ⟨2, ![2048, 4096]⟩
abbrev S4096 : Shape := ⟨1, ![4096]⟩
abbrev S4096x2048 : Shape := ⟨2, ![4096, 2048]⟩
abbrev S2048 : Shape := ⟨1, ![2048]⟩
abbrev S1x4096 : Shape := ⟨2, ![1, 4096]⟩
abbrev S1x2048 : Shape := ⟨2, ![1, 2048]⟩
abbrev S5x384x4096 : Shape := ⟨3, ![5, 384, 4096]⟩
abbrev S1x384x2048 : Shape := ⟨3, ![1, 384, 2048]⟩
abbrev S1x1x384 : Shape := ⟨3, ![1, 1, 384]⟩
abbrev S1x384x4096 : Shape := ⟨3, ![1, 384, 4096]⟩
abbrev S384x4096 : Shape := ⟨2, ![384, 4096]⟩
abbrev S384x128 : Shape := ⟨2, ![384, 128]⟩
abbrev S384x2048 : Shape := ⟨2, ![384, 2048]⟩
abbrev S1x384 : Shape := ⟨2, ![1, 384]⟩
abbrev S128x384 : Shape := ⟨2, ![128, 384]⟩
abbrev S384x256 : Shape := ⟨2, ![384, 256]⟩
abbrev S2048x256 : Shape := ⟨2, ![2048, 256]⟩
abbrev S1x256 : Shape := ⟨2, ![1, 256]⟩
abbrev S1 : Shape := ⟨1, ![1]⟩
abbrev S384 : Shape := ⟨1, ![384]⟩
abbrev S384x1 : Shape := ⟨2, ![384, 1]⟩
abbrev S1x384x256 : Shape := ⟨3, ![1, 384, 256]⟩
abbrev S4096x256 : Shape := ⟨2, ![4096, 256]⟩

abbrev nBuf : Space → Nat
  | .hbm => 16
  | .vmem => 20
  | .smem => 1
  | _ => 0

abbrev bufTy : (tb : Table) → Fin (tcTables nBuf tb) → BufTy
  | .hbm, ⟨0, _⟩ => ⟨S12, .f32⟩
  | .hbm, ⟨1, _⟩ => ⟨S5x384x2048, .fp8e4m3⟩
  | .hbm, ⟨2, _⟩ => ⟨S5x1x384, .f32⟩
  | .hbm, ⟨3, _⟩ => ⟨S5x384x2048, .f32⟩
  | .hbm, ⟨4, _⟩ => ⟨S2048x4096, .fp8e4m3⟩
  | .hbm, ⟨5, _⟩ => ⟨S4096, .f32⟩
  | .hbm, ⟨6, _⟩ => ⟨S2048x4096, .fp8e4m3⟩
  | .hbm, ⟨7, _⟩ => ⟨S4096, .f32⟩
  | .hbm, ⟨8, _⟩ => ⟨S4096x2048, .fp8e4m3⟩
  | .hbm, ⟨9, _⟩ => ⟨S2048, .f32⟩
  | .hbm, ⟨10, _⟩ => ⟨S1x4096, .f32⟩
  | .hbm, ⟨11, _⟩ => ⟨S1x4096, .f32⟩
  | .hbm, ⟨12, _⟩ => ⟨S1x2048, .f32⟩
  | .hbm, ⟨13, _⟩ => ⟨S5x384x2048, .bf16⟩
  | .hbm, ⟨14, _⟩ => ⟨S5x384x4096, .fp8e4m3⟩
  | .hbm, ⟨15, _⟩ => ⟨S5x1x384, .f32⟩
  | .local _ .vmem, ⟨0, _⟩ => ⟨S1x384x2048, .fp8e4m3⟩
  | .local _ .vmem, ⟨1, _⟩ => ⟨S1x384x2048, .fp8e4m3⟩
  | .local _ .vmem, ⟨2, _⟩ => ⟨S1x1x384, .f32⟩
  | .local _ .vmem, ⟨3, _⟩ => ⟨S1x1x384, .f32⟩
  | .local _ .vmem, ⟨4, _⟩ => ⟨S1x384x2048, .f32⟩
  | .local _ .vmem, ⟨5, _⟩ => ⟨S1x384x2048, .f32⟩
  | .local _ .vmem, ⟨6, _⟩ => ⟨S2048x4096, .fp8e4m3⟩
  | .local _ .vmem, ⟨7, _⟩ => ⟨S1x4096, .f32⟩
  | .local _ .vmem, ⟨8, _⟩ => ⟨S2048x4096, .fp8e4m3⟩
  | .local _ .vmem, ⟨9, _⟩ => ⟨S1x4096, .f32⟩
  | .local _ .vmem, ⟨10, _⟩ => ⟨S4096x2048, .fp8e4m3⟩
  | .local _ .vmem, ⟨11, _⟩ => ⟨S1x2048, .f32⟩
  | .local _ .vmem, ⟨12, _⟩ => ⟨S1x384x2048, .bf16⟩
  | .local _ .vmem, ⟨13, _⟩ => ⟨S1x384x2048, .bf16⟩
  | .local _ .vmem, ⟨14, _⟩ => ⟨S1x384x4096, .fp8e4m3⟩
  | .local _ .vmem, ⟨15, _⟩ => ⟨S1x384x4096, .fp8e4m3⟩
  | .local _ .vmem, ⟨16, _⟩ => ⟨S1x1x384, .f32⟩
  | .local _ .vmem, ⟨17, _⟩ => ⟨S1x1x384, .f32⟩
  | .local _ .vmem, ⟨18, _⟩ => ⟨S384x4096, .f32⟩
  | .local _ .vmem, ⟨19, _⟩ => ⟨S384x128, .f32⟩
  | .local _ .smem, ⟨0, _⟩ => ⟨S12, .f32⟩
  | _, _ => ⟨S12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![5], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x384x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x384x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x384x4096 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MlpReferenceIdeal.lean ====
abbrev S12 : Shape := ⟨1, ![12]⟩
abbrev S5x384x2048 : Shape := ⟨3, ![5, 384, 2048]⟩
abbrev S5x1x384 : Shape := ⟨3, ![5, 1, 384]⟩
abbrev S2048x4096 : Shape := ⟨2, ![2048, 4096]⟩
abbrev S4096 : Shape := ⟨1, ![4096]⟩
abbrev S4096x2048 : Shape := ⟨2, ![4096, 2048]⟩
abbrev S2048 : Shape := ⟨1, ![2048]⟩
abbrev S1920x1 : Shape := ⟨2, ![1920, 1]⟩
abbrev S1x4096 : Shape := ⟨2, ![1, 4096]⟩
abbrev S1x2048 : Shape := ⟨2, ![1, 2048]⟩
abbrev S5x384x4096 : Shape := ⟨3, ![5, 384, 4096]⟩
abbrev S1920x2048 : Shape := ⟨2, ![1920, 2048]⟩
abbrev S1920x4096 : Shape := ⟨2, ![1920, 4096]⟩
abbrev S1 : Shape := ⟨1, ![1]⟩
abbrev S1920 : Shape := ⟨1, ![1920]⟩

abbrev nBuf : Space → Nat
  | .hbm => 17
  | .vmem => 12
  | .smem => 1
  | _ => 0

abbrev bufTy : (tb : Table) → Fin (tcTables nBuf tb) → BufTy
  | .hbm, ⟨0, _⟩ => ⟨S12, .f32⟩
  | .hbm, ⟨1, _⟩ => ⟨S5x384x2048, .fp8e4m3⟩
  | .hbm, ⟨2, _⟩ => ⟨S5x1x384, .f32⟩
  | .hbm, ⟨3, _⟩ => ⟨S5x384x2048, .f32⟩
  | .hbm, ⟨4, _⟩ => ⟨S2048x4096, .fp8e4m3⟩
  | .hbm, ⟨5, _⟩ => ⟨S4096, .f32⟩
  | .hbm, ⟨6, _⟩ => ⟨S2048x4096, .fp8e4m3⟩
  | .hbm, ⟨7, _⟩ => ⟨S4096, .f32⟩
  | .hbm, ⟨8, _⟩ => ⟨S4096x2048, .fp8e4m3⟩
  | .hbm, ⟨9, _⟩ => ⟨S2048, .f32⟩
  | .hbm, ⟨10, _⟩ => ⟨S1920x1, .f32⟩
  | .hbm, ⟨11, _⟩ => ⟨S1x4096, .f32⟩
  | .hbm, ⟨12, _⟩ => ⟨S1x4096, .f32⟩
  | .hbm, ⟨13, _⟩ => ⟨S1x2048, .f32⟩
  | .hbm, ⟨14, _⟩ => ⟨S5x384x2048, .bf16⟩
  | .hbm, ⟨15, _⟩ => ⟨S5x384x4096, .fp8e4m3⟩
  | .hbm, ⟨16, _⟩ => ⟨S5x1x384, .f32⟩
  | .local _ .vmem, ⟨0, _⟩ => ⟨S5x384x2048, .fp8e4m3⟩
  | .local _ .vmem, ⟨1, _⟩ => ⟨S1920x1, .f32⟩
  | .local _ .vmem, ⟨2, _⟩ => ⟨S5x384x2048, .f32⟩
  | .local _ .vmem, ⟨3, _⟩ => ⟨S2048x4096, .fp8e4m3⟩
  | .local _ .vmem, ⟨4, _⟩ => ⟨S1x4096, .f32⟩
  | .local _ .vmem, ⟨5, _⟩ => ⟨S2048x4096, .fp8e4m3⟩
  | .local _ .vmem, ⟨6, _⟩ => ⟨S1x4096, .f32⟩
  | .local _ .vmem, ⟨7, _⟩ => ⟨S4096x2048, .fp8e4m3⟩
  | .local _ .vmem, ⟨8, _⟩ => ⟨S1x2048, .f32⟩
  | .local _ .vmem, ⟨9, _⟩ => ⟨S5x384x2048, .bf16⟩
  | .local _ .vmem, ⟨10, _⟩ => ⟨S5x384x4096, .fp8e4m3⟩
  | .local _ .vmem, ⟨11, _⟩ => ⟨S5x1x384, .f32⟩
  | .local _ .smem, ⟨0, _⟩ => ⟨S12, .f32⟩
  | _, _ => ⟨S12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x384x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5x384x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5x384x4096 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5x1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== InProj.lean ====
abbrev S5x384x2048 : Shape := ⟨3, ![5, 384, 2048]⟩
abbrev S2048 : Shape := ⟨1, ![2048]⟩
abbrev S2048x5144 : Shape := ⟨2, ![2048, 5144]⟩
abbrev S5144 : Shape := ⟨1, ![5144]⟩
abbrev S12 : Shape := ⟨1, ![12]⟩
abbrev S5x384x64 : Shape := ⟨3, ![5, 384, 64]⟩
abbrev S2 : Shape := ⟨1, ![2]⟩
abbrev S5x3x2048 : Shape := ⟨3, ![5, 3, 2048]⟩
abbrev S4x2048 : Shape := ⟨2, ![4, 2048]⟩
abbrev S24 : Shape := ⟨1, ![24]⟩
abbrev S5x64x384 : Shape := ⟨3, ![5, 64, 384]⟩
abbrev S5144x2048 : Shape := ⟨2, ![5144, 2048]⟩
abbrev S24x2048 : Shape := ⟨2, ![24, 2048]⟩
abbrev S1x5144 : Shape := ⟨2, ![1, 5144]⟩
abbrev S1x24 : Shape := ⟨2, ![1, 24]⟩
abbrev S_ : Shape := ⟨0, ![]⟩
abbrev S1x128 : Shape := ⟨2, ![1, 128]⟩
abbrev S32 : Shape := ⟨1, ![32]⟩
abbrev S32x1 : Shape := ⟨2, ![32, 1]⟩
abbrev S1x2048 : Shape := ⟨2, ![1, 2048]⟩
abbrev S5x1x384 : Shape := ⟨3, ![5, 1, 384]⟩
abbrev S5x2x128x1536 : Shape := ⟨4, ![5, 2, 128, 1536]⟩
abbrev S5x2x384x128 : Shape := ⟨4, ![5, 2, 384, 128]⟩
abbrev S5x384x1536 : Shape := ⟨3, ![5, 384, 1536]⟩
abbrev S5x32x384 : Shape := ⟨3, ![5, 32, 384]⟩
abbrev S1x384x2048 : Shape := ⟨3, ![1, 384, 2048]⟩
abbrev S5120x2048 : Shape := ⟨2, ![5120, 2048]⟩
abbrev S1x5120 : Shape := ⟨2, ![1, 5120]⟩
abbrev S1x64x384 : Shape := ⟨3, ![1, 64, 384]⟩
abbrev S1x3x2048 : Shape := ⟨3, ![1, 3, 2048]⟩
abbrev S1x1x384 : Shape := ⟨3, ![1, 1, 384]⟩
abbrev S1x2x128x1536 : Shape := ⟨4, ![1, 2, 128, 1536]⟩
abbrev S1x2x384x128 : Shape := ⟨4, ![1, 2, 384, 128]⟩
abbrev S1x384x1536 : Shape := ⟨3, ![1, 384, 1536]⟩
abbrev S1x32x384 : Shape := ⟨3, ![1, 32, 384]⟩
abbrev S384x128 : Shape := ⟨2, ![384, 128]⟩
abbrev S2x392x128 : Shape := ⟨3, ![2, 392, 128]⟩
abbrev S1x32x2048 : Shape := ⟨3, ![1, 32, 2048]⟩
abbrev S32x2048 : Shape := ⟨2, ![32, 2048]⟩
abbrev S32x128 : Shape := ⟨2, ![32, 128]⟩
abbrev S128x384 : Shape := ⟨2, ![128, 384]⟩
abbrev S1x384 : Shape := ⟨2, ![1, 384]⟩
abbrev S384x256 : Shape := ⟨2, ![384, 256]⟩
abbrev S384x2048 : Shape := ⟨2, ![384, 2048]⟩
abbrev S1 : Shape := ⟨1, ![1]⟩
abbrev S256x2048 : Shape := ⟨2, ![256, 2048]⟩
abbrev S1x256 : Shape := ⟨2, ![1, 256]⟩
abbrev S64x384 : Shape := ⟨2, ![64, 384]⟩
abbrev S1x1x128x384 : Shape := ⟨4, ![1, 1, 128, 384]⟩
abbrev S1x1x384x128 : Shape := ⟨4, ![1, 1, 384, 128]⟩
abbrev S1x384x256 : Shape := ⟨3, ![1, 384, 256]⟩
abbrev S3x256 : Shape := ⟨2, ![3, 256]⟩
abbrev S1x3x256 : Shape := ⟨3, ![1, 3, 256]⟩
abbrev S1x3x128 : Shape := ⟨3, ![1, 3, 128]⟩
abbrev S3x128 : Shape := ⟨2, ![3, 128]⟩
abbrev S1x384x128 : Shape := ⟨3, ![1, 384, 128]⟩
abbrev S104x2048 : Shape := ⟨2, ![104, 2048]⟩
abbrev S128x2048 : Shape := ⟨2, ![128, 2048]⟩
abbrev S32x384 : Shape := ⟨2, ![32, 384]⟩

abbrev nBuf : Space → Nat
  | .hbm => 37
  | .vmem => 36
  | .smem => 3
  | _ => 0

abbrev bufTy : (tb : Table) → Fin (tcTables nBuf tb) → BufTy
  | .hbm, ⟨0, _⟩ => ⟨S5x384x2048, .bf16⟩
  | .hbm, ⟨1, _⟩ => ⟨S2048, .f32⟩
  | .hbm, ⟨2, _⟩ => ⟨S2048x5144, .fp8e4m3⟩
  | .hbm, ⟨3, _⟩ => ⟨S5144, .f32⟩
  | .hbm, ⟨4, _⟩ => ⟨S12, .f32⟩
  | .hbm, ⟨5, _⟩ => ⟨S5x384x64, .f32⟩
  | .hbm, ⟨6, _⟩ => ⟨S5x384x64, .f32⟩
  | .hbm, ⟨7, _⟩ => ⟨S2, .f32⟩
  | .hbm, ⟨8, _⟩ => ⟨S2, .f32⟩
  | .hbm, ⟨9, _⟩ => ⟨S5x3x2048, .f32⟩
  | .hbm, ⟨10, _⟩ => ⟨S4x2048, .f32⟩
  | .hbm, ⟨11, _⟩ => ⟨S2048, .f32⟩
  | .hbm, ⟨12, _⟩ => ⟨S24, .f32⟩
  | .hbm, ⟨13, _⟩ => ⟨S5x64x384, .f32⟩
  | .hbm, ⟨14, _⟩ => ⟨S5x64x384, .f32⟩
  | .hbm, ⟨15, _⟩ => ⟨S5144x2048, .fp8e4m3⟩
  | .hbm, ⟨16, _⟩ => ⟨S24x2048, .fp8e4m3⟩
  | .hbm, ⟨17, _⟩ => ⟨S1x5144, .f32⟩
  | .hbm, ⟨18, _⟩ => ⟨S1x24, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S_, .f32⟩
  | .hbm, ⟨24, _⟩ => ⟨S32, .f32⟩
  | .hbm, ⟨25, _⟩ => ⟨S32x1, .f32⟩
  | .hbm, ⟨26, _⟩ => ⟨S1x2048, .f32⟩
  | .hbm, ⟨27, _⟩ => ⟨S1x2048, .f32⟩
  | .hbm, ⟨28, _⟩ => ⟨S5x384x2048, .fp8e4m3⟩
  | .hbm, ⟨29, _⟩ => ⟨S5x1x384, .f32⟩
  | .hbm, ⟨30, _⟩ => ⟨S5x2x128x1536, .bf16⟩
  | .hbm, ⟨31, _⟩ => ⟨S5x2x384x128, .fp8e4m3⟩
  | .hbm, ⟨32, _⟩ => ⟨S5x2x384x128, .fp8e4m3⟩
  | .hbm, ⟨33, _⟩ => ⟨S5x384x1536, .f32⟩
  | .hbm, ⟨34, _⟩ => ⟨S5x384x2048, .f32⟩
  | .hbm, ⟨35, _⟩ => ⟨S5x32x384, .f32⟩
  | .hbm, ⟨36, _⟩ => ⟨S5x3x2048, .f32⟩
  | .local _ .vmem, ⟨0, _⟩ => ⟨S1x384x2048, .bf16⟩
  | .local _ .vmem, ⟨1, _⟩ => ⟨S1x384x2048, .bf16⟩
  | .local _ .vmem, ⟨2, _⟩ => ⟨S1x2048, .f32⟩
  | .local _ .vmem, ⟨3, _⟩ => ⟨S5120x2048, .fp8e4m3⟩
  | .local _ .vmem, ⟨4, _⟩ => ⟨S24x2048, .fp8e4m3⟩
  | .local _ .vmem, ⟨5, _⟩ => ⟨S1x5120, .f32⟩
  | .local _ .vmem, ⟨6, _⟩ => ⟨S1x128, .f32⟩
  | .local _ .vmem, ⟨7, _⟩ => ⟨S1x64x384, .f32⟩
  | .local _ .vmem, ⟨8, _⟩ => ⟨S1x64x384, .f32⟩
  | .local _ .vmem, ⟨9, _⟩ => ⟨S1x64x384, .f32⟩
  | .local _ .vmem, ⟨10, _⟩ => ⟨S1x64x384, .f32⟩
  | .local _ .vmem, ⟨11, _⟩ => ⟨S1x3x2048, .f32⟩
  | .local _ .vmem, ⟨12, _⟩ => ⟨S1x3x2048, .f32⟩
  | .local _ .vmem, ⟨13, _⟩ => ⟨S4x2048, .f32⟩
  | .local _ .vmem, ⟨14, _⟩ => ⟨S1x2048, .f32⟩
  | .local _ .vmem, ⟨15, _⟩ => ⟨S32x1, .f32⟩
  | .local _ .vmem, ⟨16, _⟩ => ⟨S1x384x2048, .fp8e4m3⟩
  | .local _ .vmem, ⟨17, _⟩ => ⟨S1x384x2048, .fp8e4m3⟩
  | .local _ .vmem, ⟨18, _⟩ => ⟨S1x1x384, .f32⟩
  | .local _ .vmem, ⟨19, _⟩ => ⟨S1x1x384, .f32⟩
  | .local _ .vmem, ⟨20, _⟩ => ⟨S1x2x128x1536, .bf16⟩
  | .local _ .vmem, ⟨21, _⟩ => ⟨S1x2x128x1536, .bf16⟩
  | .local _ .vmem, ⟨22, _⟩ => ⟨S1x2x384x128, .fp8e4m3⟩
  | .local _ .vmem, ⟨23, _⟩ => ⟨S1x2x384x128, .fp8e4m3⟩
  | .local _ .vmem, ⟨24, _⟩ => ⟨S1x2x384x128, .fp8e4m3⟩
  | .local _ .vmem, ⟨25, _⟩ => ⟨S1x2x384x128, .fp8e4m3⟩
  | .local _ .vmem, ⟨26, _⟩ => ⟨S1x384x1536, .f32⟩
  | .local _ .vmem, ⟨27, _⟩ => ⟨S1x384x1536, .f32⟩
  | .local _ .vmem, ⟨28, _⟩ => ⟨S1x384x2048, .f32⟩
  | .local _ .vmem, ⟨29, _⟩ => ⟨S1x384x2048, .f32⟩
  | .local _ .vmem, ⟨30, _⟩ => ⟨S1x32x384, .f32⟩
  | .local _ .vmem, ⟨31, _⟩ => ⟨S1x32x384, .f32⟩
  | .local _ .vmem, ⟨32, _⟩ => ⟨S1x3x2048, .f32⟩
  | .local _ .vmem, ⟨33, _⟩ => ⟨S1x3x2048, .f32⟩
  | .local _ .vmem, ⟨34, _⟩ => ⟨S384x128, .f32⟩
  | .local _ .vmem, ⟨35, _⟩ => ⟨S2x392x128, .f32⟩
  | .local _ .smem, ⟨0, _⟩ => ⟨S12, .f32⟩
  | .local _ .smem, ⟨1, _⟩ => ⟨S2, .f32⟩
  | .local _ .smem, ⟨2, _⟩ => ⟨S2, .f32⟩
  | _, _ => ⟨S5x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_v0 : Ref sig .tc := ⟨.hbm, 20, rfl⟩
abbrev main_v6 : Ref sig .tc := ⟨.hbm, 21, rfl⟩
abbrev main_c_0 : Ref sig .tc := ⟨.hbm, 22, rfl⟩
abbrev main_call1_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v11_2 : Ref sig .tc := ⟨.hbm, 30, rfl⟩
abbrev main_v11_3 : Ref sig .tc := ⟨.hbm, 31, rfl⟩
abbrev main_v11_4 : Ref sig .tc := ⟨.hbm, 32, rfl⟩
abbrev main_v11_5 : Ref sig .tc := ⟨.hbm, 33, rfl⟩
abbrev main_v11_6 : Ref sig .tc := ⟨.hbm, 34, rfl⟩
abbrev main_v11_7 : Ref sig .tc := ⟨.hbm, 35, rfl⟩
abbrev main_v11_8 : Ref sig .tc := ⟨.hbm, 36, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg9_1 : Ref sig .tc := ⟨.vmem, 8, rfl⟩
abbrev cc0_stg10_0 : Ref sig .tc := ⟨.vmem, 9, rfl⟩
abbrev cc0_stg10_1 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_scratch0 : Ref sig .tc := ⟨.vmem, 34, rfl⟩
abbrev cc0_scratch1 : Ref sig .tc := ⟨.vmem, 35, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32 : BitVec 32 := 0#32
  let c12_i32 : BitVec 32 := 12#32
  let v0 : BitVec 32 := Scalar.addi c0_i32 c12_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg27 : BitVec 32 := Scf.iv c0_i32 c1_i32 k0_t1
  let c32_i32 : BitVec 32 := 32#32
  let v1227 : BitVec 32 := Scalar.muli arg27 c32_i32
  v1227
def k0_off1 (k0_t1 : Fin k0_t1_loop.trips) : Fin 3 → Nat :=
  let c0_807 : Index := 0#32
  let c0_i32 : BitVec 32 := 0#32
  let c1_i32 : BitVec 32 := 1#32
  let arg27 : BitVec 32 := Scf.iv c0_i32 c1_i32 k0_t1
  let c32_i32 : BitVec 32 := 32#32
  let v1227 : BitVec 32 := Scalar.muli arg27 c32_i32
  let v1228 : BitVec 32 := v1227
  let v1229 : Index := Scalar.indexCast v1228
  let c0_808 : Index := 0#32
  ![0, v1229.toNat, 0]
def k0_off2 (k0_t1 : Fin k0_t1_loop.trips) : Fin 2 → Nat :=
  let c0_i32 : BitVec 32 := 0#32
  let c1_i32 : BitVec 32 := 1#32
  let arg27 : BitVec 32 := Scf.iv c0_i32 c1_i32 k0_t1
  let c32_i32 : BitVec 32 := 32#32
  let v1227 : BitVec 32 := Scalar.muli arg27 c32_i32
  let v1228 : BitVec 32 := v1227
  let v1269 : Index := Scalar.indexCast v1228
  let c0_822 : Index := 0#32
  ![v1269.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x384x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5120x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x64x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x3x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x384x2048 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x2x128x1536 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x2x384x128 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x2x384x128 .fp8e4m3 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x384x1536 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x384x2048 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x32x384 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x3x2048 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== InProjReferenceIdeal.lean ====
abbrev S5x384x2048 : Shape := ⟨3, ![5, 384, 2048]⟩
abbrev S2048 : Shape := ⟨1, ![2048]⟩
abbrev S2048x5144 : Shape := ⟨2, ![2048, 5144]⟩
abbrev S5144 : Shape := ⟨1, ![5144]⟩
abbrev S12 : Shape := ⟨1, ![12]⟩
abbrev S5x384x64 : Shape := ⟨3, ![5, 384, 64]⟩
abbrev S2 : Shape := ⟨1, ![2]⟩
abbrev S5x3x2048 : Shape := ⟨3, ![5, 3, 2048]⟩
abbrev S4x2048 : Shape := ⟨2, ![4, 2048]⟩
abbrev S24 : Shape := ⟨1, ![24]⟩
abbrev S1x2048 : Shape := ⟨2, ![1, 2048]⟩
abbrev S1x5144 : Shape := ⟨2, ![1, 5144]⟩
abbrev S1x24 : Shape := ⟨2, ![1, 24]⟩
abbrev S5x1x384 : Shape := ⟨3, ![5, 1, 384]⟩
abbrev S5x2x128x1536 : Shape := ⟨4, ![5, 2, 128, 1536]⟩
abbrev S5x2x384x128 : Shape := ⟨4, ![5, 2, 384, 128]⟩
abbrev S5x384x1536 : Shape := ⟨3, ![5, 384, 1536]⟩
abbrev S5x32x384 : Shape := ⟨3, ![5, 32, 384]⟩
abbrev S1920x2048 : Shape := ⟨2, ![1920, 2048]⟩
abbrev S1920 : Shape := ⟨1, ![1920]⟩
abbrev S1920x1 : Shape := ⟨2, ![1920, 1]⟩
abbrev S1920x5144 : Shape := ⟨2, ![1920, 5144]⟩
abbrev S5x384x5144 : Shape := ⟨3, ![5, 384, 5144]⟩
abbrev S1 : Shape := ⟨1, ![1]⟩
abbrev S5x384x1024 : Shape := ⟨3, ![5, 384, 1024]⟩
abbrev S5x384x8x128 : Shape := ⟨4, ![5, 384, 8, 128]⟩
abbrev S5x384x256 : Shape := ⟨3, ![5, 384, 256]⟩
abbrev S5x384x2x128 : Shape := ⟨4, ![5, 384, 2, 128]⟩
abbrev S5x384x1x64 : Shape := ⟨4, ![5, 384, 1, 64]⟩
abbrev S5x384x8x64 : Shape := ⟨4, ![5, 384, 8, 64]⟩
abbrev S5x384x2x64 : Shape := ⟨4, ![5, 384, 2, 64]⟩
abbrev S5x384x2x4x128 : Shape := ⟨5, ![5, 384, 2, 4, 128]⟩
abbrev S5x2x128x4x384 : Shape := ⟨5, ![5, 2, 128, 4, 384]⟩
abbrev S5x384x128 : Shape := ⟨3, ![5, 384, 128]⟩
abbrev S5x384x1x128 : Shape := ⟨4, ![5, 384, 1, 128]⟩
abbrev S5x1x384x128 : Shape := ⟨4, ![5, 1, 384, 128]⟩
abbrev S5x387x2048 : Shape := ⟨3, ![5, 387, 2048]⟩
abbrev S1x1x2048 : Shape := ⟨3, ![1, 1, 2048]⟩
abbrev S5x384x24 : Shape := ⟨3, ![5, 384, 24]⟩
abbrev S1x1x24 : Shape := ⟨3, ![1, 1, 24]⟩
abbrev S5x384x8 : Shape := ⟨3, ![5, 384, 8]⟩
abbrev S5x384x32 : Shape := ⟨3, ![5, 384, 32]⟩

abbrev nBuf : Space → Nat
  | .hbm => 26
  | .vmem => 19
  | .smem => 3
  | _ => 0

abbrev bufTy : (tb : Table) → Fin (tcTables nBuf tb) → BufTy
  | .hbm, ⟨0, _⟩ => ⟨S5x384x2048, .bf16⟩
  | .hbm, ⟨1, _⟩ => ⟨S2048, .f32⟩
  | .hbm, ⟨2, _⟩ => ⟨S2048x5144, .fp8e4m3⟩
  | .hbm, ⟨3, _⟩ => ⟨S5144, .f32⟩
  | .hbm, ⟨4, _⟩ => ⟨S12, .f32⟩
  | .hbm, ⟨5, _⟩ => ⟨S5x384x64, .f32⟩
  | .hbm, ⟨6, _⟩ => ⟨S5x384x64, .f32⟩
  | .hbm, ⟨7, _⟩ => ⟨S2, .f32⟩
  | .hbm, ⟨8, _⟩ => ⟨S2, .f32⟩
  | .hbm, ⟨9, _⟩ => ⟨S5x3x2048, .f32⟩
  | .hbm, ⟨10, _⟩ => ⟨S4x2048, .f32⟩
  | .hbm, ⟨11, _⟩ => ⟨S2048, .f32⟩
  | .hbm, ⟨12, _⟩ => ⟨S24, .f32⟩
  | .hbm, ⟨13, _⟩ => ⟨S1x2048, .f32⟩
  | .hbm, ⟨14, _⟩ => ⟨S1x5144, .f32⟩
  | .hbm, ⟨15, _⟩ => ⟨S1x2048, .f32⟩
  | .hbm, ⟨16, _⟩ => ⟨S1x24, .f32⟩
  | .hbm, ⟨17, _⟩ => ⟨S5x384x2048, .fp8e4m3⟩
  | .hbm, ⟨18, _⟩ => ⟨S5x1x384, .f32⟩
  | .hbm, ⟨19, _⟩ => ⟨S5x2x128x1536, .bf16⟩
  | .hbm, ⟨20, _⟩ => ⟨S5x2x384x128, .fp8e4m3⟩
  | .hbm, ⟨21, _⟩ => ⟨S5x2x384x128, .fp8e4m3⟩
  | .hbm, ⟨22, _⟩ => ⟨S5x384x1536, .f32⟩
  | .hbm, ⟨23, _⟩ => ⟨S5x384x2048, .f32⟩
  | .hbm, ⟨24, _⟩ => ⟨S5x32x384, .f32⟩
  | .hbm, ⟨25, _⟩ => ⟨S5x3x2048, .f32⟩
  | .local _ .vmem, ⟨0, _⟩ => ⟨S5x384x2048, .bf16⟩
  | .local _ .vmem, ⟨1, _⟩ => ⟨S1x2048, .f32⟩
  | .local _ .vmem, ⟨2, _⟩ => ⟨S2048x5144, .fp8e4m3⟩
  | .local _ .vmem, ⟨3, _⟩ => ⟨S1x5144, .f32⟩
  | .local _ .vmem, ⟨4, _⟩ => ⟨S5x384x64, .f32⟩
  | .local _ .vmem, ⟨5, _⟩ => ⟨S5x384x64, .f32⟩
  | .local _ .vmem, ⟨6, _⟩ => ⟨S5x3x2048, .f32⟩
  | .local _ .vmem, ⟨7, _⟩ => ⟨S4x2048, .f32⟩
  | .local _ .vmem, ⟨8, _⟩ => ⟨S1x2048, .f32⟩
  | .local _ .vmem, ⟨9, _⟩ => ⟨S1x24, .f32⟩
  | .local _ .vmem, ⟨10, _⟩ => ⟨S5x384x2048, .fp8e4m3⟩
  | .local _ .vmem, ⟨11, _⟩ => ⟨S5x1x384, .f32⟩
  | .local _ .vmem, ⟨12, _⟩ => ⟨S5x2x128x1536, .bf16⟩
  | .local _ .vmem, ⟨13, _⟩ => ⟨S5x2x384x128, .fp8e4m3⟩
  | .local _ .vmem, ⟨14, _⟩ => ⟨S5x2x384x128, .fp8e4m3⟩
  | .local _ .vmem, ⟨15, _⟩ => ⟨S5x384x1536, .f32⟩
  | .local _ .vmem, ⟨16, _⟩ => ⟨S5x384x2048, .f32⟩
  | .local _ .vmem, ⟨17, _⟩ => ⟨S5x32x384, .f32⟩
  | .local _ .vmem, ⟨18, _⟩ => ⟨S5x3x2048, .f32⟩
  | .local _ .smem, ⟨0, _⟩ => ⟨S12, .f32⟩
  | .local _ .smem, ⟨1, _⟩ => ⟨S2, .f32⟩
  | .local _ .smem, ⟨2, _⟩ => ⟨S2, .f32⟩
  | _, _ => ⟨S5x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev main_v4_5 : Ref sig .tc := ⟨.hbm, 22, rfl⟩
abbrev main_v4_6 : Ref sig .tc := ⟨.hbm, 23, rfl⟩
abbrev main_v4_7 : Ref sig .tc := ⟨.hbm, 24, rfl⟩
abbrev main_v4_8 : Ref sig .tc := ⟨.hbm, 25, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg13_0 : Ref sig .tc := ⟨.vmem, 10, rfl⟩
abbrev cc0_stg14_0 : Ref sig .tc := ⟨.vmem, 11, rfl⟩
abbrev cc0_stg15_0 : Ref sig .tc := ⟨.vmem, 12, rfl⟩
abbrev cc0_stg16_0 : Ref sig .tc := ⟨.vmem, 13, rfl⟩
abbrev cc0_stg17_0 : Ref sig .tc := ⟨.vmem, 14, rfl⟩
abbrev cc0_stg18_0 : Ref sig .tc := ⟨.vmem, 15, rfl⟩
abbrev cc0_stg19_0 : Ref sig .tc := ⟨.vmem, 16, rfl⟩
abbrev cc0_stg20_0 : Ref sig .tc := ⟨.vmem, 17, rfl⟩
abbrev cc0_stg21_0 : Ref sig .tc := ⟨.vmem, 18, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x5144 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x384x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x384x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5x3x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x24 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S5x384x2048 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S5x1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S5x2x128x1536 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S5x2x384x128 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S5x2x384x128 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S5x384x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S5x384x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S5x32x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S5x3x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Proof.Mlp.Spec.lean ====
/-
  The gated MLP of one token row, in plain formulas over the extended reals. Both programs are shown to compute these: a row
  of codes with its scale goes through the gate and up products, the row of activations is quantised with the scale that its
  largest magnitude sets, and the codes go through the down product onto the residual stream.
-/
module

public import Idealize.ShloMosaic.Lib.Pipeline.ValueKit

@[expose] public section

noncomputable section
namespace Cert.MlpRow
open Idealize.ShloMosaic

/-- One entry of the activations: `silu(g) * u`, where `g` and `u` are the row `x` of codes against a column of the gate and of the
    up weights, each times the row's scale `s` and its column's scale (`cg`, `cu`), the gate also times the multiplier `mg`. -/
def act (mg : EReal) (x : Fin 2048 → EReal) (s : EReal) (wg : Fin 2048 → EReal) (cg : EReal) (wu : Fin 2048 → EReal) (cu : EReal) : EReal :=
  ((∑ k, x k * wg k) * s * cg * mg * Ideal.logistic ((∑ k, x k * wg k) * s * cg * mg)) * ((∑ k, x k * wu k) * s * cu)

/-- The largest magnitude of a row of activations. -/
def rowMax (a : Fin 4096 → EReal) : EReal :=
  Finset.univ.fold max (Ideal.ofBits FTy.f32 0xFF800000#32) fun j => FloatOps.absf (F := Ideal) (φ := .f32) (a j)

/-- The scale of a row with largest magnitude `x`: `x / 448`, and 1 for a row of zeros. -/
def scale (x : EReal) : EReal := if x = 0 then 1 else Ideal.div x (Ideal.ofBits FTy.f32 0x43E00000#32)

/-- The code of the value `v` under the scale `s`: the quotient clipped to ±448. -/
def code (v s : EReal) : EReal :=
  min (Ideal.ofBits FTy.f32 0x43E00000#32) (max (Ideal.ofBits FTy.f32 0xC3E00000#32) (Ideal.div v s))

/-- One entry of the result: the residual entry `h`, plus the row of codes against a column `w` of the down weights times the row's
    scale, the column's scale `cd` and the multiplier `md`. -/
def down (md h : EReal) (q w : Fin 4096 → EReal) (s cd : EReal) : EReal :=
  h + (∑ j, q j * w j) * s * cd * md

end Cert.MlpRow
-- ==== Proof.Mlp.Act.lean ====
module

public import proofs.«01_k».proof.Proof.Gen.MlpIdeal.Value
public import proofs.«01_k».proof.Proof.Mlp.Spec
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
namespace Cert.MlpIdeal.Body
open Cert.MlpIdeal Cert.MlpIdeal.Gen
variable (c : Dev nD) (arg1 : Memref sig .tc .smem S12 .f32) (harg1 : arg1.IsWhole)
  (arg2 : Memref sig .tc .vmem S1x384x2048 .fp8e4m3) (harg2 : arg2.IsWhole) (arg3 : Memref sig .tc .vmem S1x1x384 .f32) (harg3 : arg3.IsWhole)
  (arg5 : Memref sig .tc .vmem S2048x4096 .fp8e4m3) (harg5 : arg5.IsWhole) (arg6 : Memref sig .tc .vmem S1x4096 .f32) (harg6 : arg6.IsWhole)
  (arg7 : Memref sig .tc .vmem S2048x4096 .fp8e4m3) (harg7 : arg7.IsWhole) (arg8 : Memref sig .tc .vmem S1x4096 .f32) (harg8 : arg8.IsWhole)
  (arg14 : Memref sig .tc .vmem S384x4096 .f32) (arg15 : Memref sig .tc .vmem S384x128 .f32)
  (x0 : Vec Ideal S12 .f32) (x1 : Vec Ideal S1x384x2048 .fp8e4m3) (x2 : Vec Ideal S1x1x384 .f32) (x4 : Vec Ideal S2048x4096 .fp8e4m3)
  (x5 : Vec Ideal S1x4096 .f32) (x6 : Vec Ideal S2048x4096 .fp8e4m3) (x7 : Vec Ideal S1x4096 .f32)

/-- The activations of the block at row `r`, column `j`. -/
def actAt (r : Fin 384) (j : Fin 4096) : EReal :=
  MlpRow.act (x0 (ix1 5)) (fun k => x1 (ix3 0 r k)) (x2 (ix3 0 0 r)) (fun k => x4 (ix2 k j)) (x5 (ix2 0 j)) (fun k => x6 (ix2 k j)) (x7 (ix2 0 j))

/-- A column block of gate and up products is the activations at the block's columns. -/
theorem chunk_raw (o : ℕ) (ib4 : ∀ a, (![0, o] : Fin 2 → ℕ) a + (![2048, 256] : Fin 2 → ℕ) a ≤ S2048x4096.size a)
    (ib5 : ∀ a, (![0, o] : Fin 2 → ℕ) a + (![1, 256] : Fin 2 → ℕ) a ≤ S1x4096.size a) (i0 : ∀ a, (![5] : Fin 1 → ℕ) a + (![1] : Fin 1 → ℕ) a ≤ S12.size a)
    (z : (Rect.unit (s := S12) ![5] ![1] i0).shape.Idx)
    (x : S384x256.Idx) (r : Fin 384) (j : Fin 4096) (hr : (r : ℕ) = x 0) (hj : (j : ℕ) = o + x 1) :
    k0_pay8 (k0_pay2 x1) (k0_pay3 x2) (View.ld x4 (Rect.unit ![0, o] ![2048, 256] ib4)) (View.ld x5 (Rect.unit ![0, o] ![1, 256] ib5))
      (View.ld x0 (Rect.unit ![5] ![1] i0) z) (View.ld x6 (Rect.unit ![0, o] ![2048, 256] ib4)) (View.ld x7 (Rect.unit ![0, o] ![1, 256] ib5)) x
      = actAt x0 x1 x2 x4 x5 x6 x7 r j := by
  obtain rfl : r = x 0 := Fin.ext hr
  have h4 (X : Vec Ideal S2048x4096 .fp8e4m3) (k : Fin 2048) : View.ld X (Rect.unit ![0, o] ![2048, 256] ib4) (ix2 k (x 1)) = X (ix2 k j) := by
    rw [View.ld_unit]; refine congrArg X (funext fun a => Fin.ext ?_)
    match a with
    | 0 => exact Nat.zero_add _
    | 1 => exact hj.symm
  have h5 (X : Vec Ideal S1x4096 .f32) : View.ld X (Rect.unit ![0, o] ![1, 256] ib5) (ix2 0 (x 1)) = X (ix2 0 j) := by
    rw [View.ld_unit]; refine congrArg X (funext fun a => Fin.ext ?_)
    match a with
    | 0 => rfl
    | 1 => exact hj.symm
  have h0 : View.ld x0 (Rect.unit ![5] ![1] i0) z = x0 (ix1 5) := by
    rw [View.ld_unit]; refine congrArg x0 (funext fun a => Fin.ext ?_)
    match a with
    | 0 => have : (z 0 : ℕ) < 1 := (z 0).isLt
           show 5 + (z 0 : ℕ) = 5; omega
  have hA := h4 x4; have hC := h4 x6; have hB := h5 x5; have hD := h5 x7
  revert h0 hA hC hB hD
  generalize View.ld x4 (Rect.unit ![0, o] ![2048, 256] ib4) = A, View.ld x6 (Rect.unit ![0, o] ![2048, 256] ib4) = C, View.ld x5 (Rect.unit ![0, o] ![1, 256] ib5) = B,
    View.ld x7 (Rect.unit ![0, o] ![1, 256] ib5) = D, View.ld x0 (Rect.unit ![5] ![1] i0) z = s
  intro h0 hA hC hB hD
  pointwise [k0_pay8, k0_pay2, k0_pay3, actAt, MlpRow.act]
  simp only [hA, hB, hC, hD, h0, dite_eq_ite, ite_self]

/-- What a column block stores in the scratch is the activations at the block's columns. -/
theorem chunk_at (o : ℕ) (ib4 : ∀ a, (![0, o] : Fin 2 → ℕ) a + (![2048, 256] : Fin 2 → ℕ) a ≤ S2048x4096.size a)
    (ib5 : ∀ a, (![0, o] : Fin 2 → ℕ) a + (![1, 256] : Fin 2 → ℕ) a ≤ S1x4096.size a) (i0 : ∀ a, (![5] : Fin 1 → ℕ) a + (![1] : Fin 1 → ℕ) a ≤ S12.size a)
    (z : (Rect.unit (s := S12) ![5] ![1] i0).shape.Idx)
    (x : S384x256.Idx) (r : Fin 384) (j : Fin 4096) (hr : (r : ℕ) = x 0) (hj : (j : ℕ) = o + x 1) :
    k0_pay9 (k0_pay2 x1) (k0_pay3 x2) (View.ld x4 (Rect.unit ![0, o] ![2048, 256] ib4)) (View.ld x5 (Rect.unit ![0, o] ![1, 256] ib5))
      (View.ld x0 (Rect.unit ![5] ![1] i0) z) (View.ld x6 (Rect.unit ![0, o] ![2048, 256] ib4)) (View.ld x7 (Rect.unit ![0, o] ![1, 256] ib5)) x
      = actAt x0 x1 x2 x4 x5 x6 x7 r j := by
  rw [← chunk_raw x0 x1 x2 x4 x5 x6 x7 o ib4 ib5 i0 z x r j hr hj]
  generalize View.ld x4 (Rect.unit ![0, o] ![2048, 256] ib4) = A, View.ld x6 (Rect.unit ![0, o] ![2048, 256] ib4) = C, View.ld x5 (Rect.unit ![0, o] ![1, 256] ib5) = B,
    View.ld x7 (Rect.unit ![0, o] ![1, 256] ib5) = D, View.ld x0 (Rect.unit ![5] ![1] i0) z = s
  unfold k0_pay9
  generalize k0_pay8 (F := Ideal) _ _ _ _ _ _ _ = w
  pointwise

/-- Lane `l` of the running maximum of the absolute activations, after the first `n` columns, is at most `b` exactly if
    the absolute activations at those columns of lane `l` are. -/
def BoundedBy (n : ℕ) (r : Fin 384) (l : ℕ) (b : EReal) : Prop :=
  ∀ j : Fin 4096, (j : ℕ) < n → (j : ℕ) % 128 = l → FloatOps.absf (F := Ideal) (φ := .f32) (actAt x0 x1 x2 x4 x5 x6 x7 r j) ≤ b

/-- The bound over 256 further columns is the bound before them and at the two new columns of the lane. -/
theorem boundedBy_step (o : ℕ) (ho : o + 256 ≤ 4096) (hd : o % 128 = 0) (r : Fin 384) (l : Fin 128) (b : EReal) :
    BoundedBy x0 x1 x2 x4 x5 x6 x7 (o + 256) r l b ↔ BoundedBy x0 x1 x2 x4 x5 x6 x7 o r l b ∧
      max (FloatOps.absf (F := Ideal) (φ := .f32) (actAt x0 x1 x2 x4 x5 x6 x7 r ⟨o + l, by omega⟩))
        (FloatOps.absf (F := Ideal) (φ := .f32) (actAt x0 x1 x2 x4 x5 x6 x7 r ⟨o + (128 + l), by omega⟩)) ≤ b := by
  rw [max_le_iff]
  constructor
  · intro h
    exact ⟨fun j hj hl => h j (by omega) hl, h _ (by show o + (l : ℕ) < _; omega) (by show (o + (l : ℕ)) % 128 = _; omega),
      h _ (by show o + (128 + (l : ℕ)) < _; omega) (by show (o + (128 + (l : ℕ))) % 128 = _; omega)⟩
  · rintro ⟨h, h1, h2⟩ j hj hl
    by_cases hlt : (j : ℕ) < o
    · exact h j hlt hl
    by_cases hlt' : (j : ℕ) < o + 128
    · have : j = ⟨o + l, by omega⟩ := Fin.ext (by show (j : ℕ) = o + l; omega)
      rw [this]; exact h1
    · have : j = ⟨o + (128 + l), by omega⟩ := Fin.ext (by show (j : ℕ) = o + (128 + l); omega)
      rw [this]; exact h2

/-- One store of the running maximum takes the bound over the next 256 columns. -/
theorem max_step (o : ℕ) (ib4 : ∀ a, (![0, o] : Fin 2 → ℕ) a + (![2048, 256] : Fin 2 → ℕ) a ≤ S2048x4096.size a)
    (ib5 : ∀ a, (![0, o] : Fin 2 → ℕ) a + (![1, 256] : Fin 2 → ℕ) a ≤ S1x4096.size a) (i0 : ∀ a, (![5] : Fin 1 → ℕ) a + (![1] : Fin 1 → ℕ) a ≤ S12.size a)
    (z : (Rect.unit (s := S12) ![5] ![1] i0).shape.Idx)
    (ho : o + 256 ≤ 4096) (hd : o % 128 = 0) (M : Vec Ideal S384x128 .f32) (x : S384x128.Idx) (b : EReal)
    (hM : M x ≤ b ↔ BoundedBy x0 x1 x2 x4 x5 x6 x7 o (x 0) (x 1) b) :
    k0_pay10 (k0_pay2 x1) (k0_pay3 x2) (View.ld x4 (Rect.unit ![0, o] ![2048, 256] ib4)) (View.ld x5 (Rect.unit ![0, o] ![1, 256] ib5))
      (View.ld x0 (Rect.unit ![5] ![1] i0) z) (View.ld x6 (Rect.unit ![0, o] ![2048, 256] ib4)) (View.ld x7 (Rect.unit ![0, o] ![1, 256] ib5)) M x ≤ b
      ↔ BoundedBy x0 x1 x2 x4 x5 x6 x7 (o + 256) (x 0) (x 1) b := by
  rw [boundedBy_step x0 x1 x2 x4 x5 x6 x7 o ho hd (x 0) (x 1) b, ← hM, ← max_le_iff]
  have h1 := chunk_raw x0 x1 x2 x4 x5 x6 x7 o ib4 ib5 i0 z
  revert h1
  unfold k0_pay10
  generalize k0_pay8 (F := Ideal) _ _ _ _ _ _ _ = w
  intro h1
  pointwise
  have e1 := h1 (ix2 (x 0) ⟨x 1, by have : (x 1 : ℕ) < 128 := (x 1).isLt; show (x 1 : ℕ) < 256; omega⟩) (x 0) ⟨o + (x 1 : ℕ), by have : (x 1 : ℕ) < 128 := (x 1).isLt; omega⟩ rfl rfl
  have e2 := h1 (ix2 (x 0) ⟨128 + (x 1 : ℕ), by have : (x 1 : ℕ) < 128 := (x 1).isLt; show 128 + (x 1 : ℕ) < 256; omega⟩) (x 0) ⟨o + (128 + (x 1 : ℕ)), by have : (x 1 : ℕ) < 128 := (x 1).isLt; omega⟩ rfl rfl
  rw [← e1, ← e2]

/-- The first store of the running maximum takes the bound over the first 256 columns. -/
theorem max_first (ib4 : ∀ a, (![0, 0] : Fin 2 → ℕ) a + (![2048, 256] : Fin 2 → ℕ) a ≤ S2048x4096.size a)
    (ib5 : ∀ a, (![0, 0] : Fin 2 → ℕ) a + (![1, 256] : Fin 2 → ℕ) a ≤ S1x4096.size a) (i0 : ∀ a, (![5] : Fin 1 → ℕ) a + (![1] : Fin 1 → ℕ) a ≤ S12.size a)
    (z : (Rect.unit (s := S12) ![5] ![1] i0).shape.Idx) (x : S384x128.Idx) (b : EReal) :
    k0_pay7 (k0_pay6 x1 x2 (View.ld x4 (Rect.unit ![0, 0] ![2048, 256] ib4)) (View.ld x5 (Rect.unit ![0, 0] ![1, 256] ib5))
      (View.ld x0 (Rect.unit ![5] ![1] i0) z) (View.ld x6 (Rect.unit ![0, 0] ![2048, 256] ib4)) (View.ld x7 (Rect.unit ![0, 0] ![1, 256] ib5))) x ≤ b
      ↔ BoundedBy x0 x1 x2 x4 x5 x6 x7 256 (x 0) (x 1) b := by
  have hb := boundedBy_step x0 x1 x2 x4 x5 x6 x7 0 (by decide) (by decide) (x 0) (x 1) b
  have h0 : BoundedBy x0 x1 x2 x4 x5 x6 x7 0 (x 0) (x 1) b := fun j hj => absurd hj (Nat.not_lt_zero _)
  refine Iff.trans ?_ (hb.trans (and_iff_right h0)).symm
  have h1 : ∀ (x : S384x256.Idx) (r : Fin 384) (j : Fin 4096), (r : ℕ) = x 0 → (j : ℕ) = 0 + x 1 →
      k0_pay4 x1 x2 (View.ld x4 (Rect.unit ![0, 0] ![2048, 256] ib4)) (View.ld x5 (Rect.unit ![0, 0] ![1, 256] ib5))
        (View.ld x0 (Rect.unit ![5] ![1] i0) z) (View.ld x6 (Rect.unit ![0, 0] ![2048, 256] ib4)) (View.ld x7 (Rect.unit ![0, 0] ![1, 256] ib5)) x
      = actAt x0 x1 x2 x4 x5 x6 x7 r j := chunk_raw x0 x1 x2 x4 x5 x6 x7 0 ib4 ib5 i0 z
  revert h1
  unfold k0_pay7 k0_pay6
  generalize k0_pay4 (F := Ideal) _ _ _ _ _ _ _ = w
  intro h1
  pointwise
  have e1 := h1 (ix2 (x 0) ⟨x 1, by have : (x 1 : ℕ) < 128 := (x 1).isLt; show (x 1 : ℕ) < 256; omega⟩) (x 0) ⟨(x 1 : ℕ), by have : (x 1 : ℕ) < 128 := (x 1).isLt; omega⟩ rfl (Nat.zero_add _).symm
  have e2 := h1 (ix2 (x 0) ⟨128 + (x 1 : ℕ), by have : (x 1 : ℕ) < 128 := (x 1).isLt; show 128 + (x 1 : ℕ) < 256; omega⟩) (x 0) ⟨128 + (x 1 : ℕ), by have : (x 1 : ℕ) < 128 := (x 1).isLt; omega⟩ rfl (Nat.zero_add _).symm
  rw [← e1, ← e2]

/-- The scratch of activations, after the block's sixteen stores, holds the block's activations. -/
theorem act_canon (y : S384x4096.Idx) :
    View.canon (kernelRun0_A.sl.HS0_16 c arg1 harg1 arg2 harg2 arg3 harg3 arg5 harg5 arg6 harg6 arg7 harg7 arg8 harg8 x0 x1 x2 x4 x5 x6 x7) y
      = actAt x0 x1 x2 x4 x5 x6 x7 (y 0) (y 1) := by
  unfold kernelRun0_A.sl.HS0_16
  canon_tiles x h

  case piece0 =>
    sl_unfold_words
    simp (disch := decide) only [View.readAt_eq_ld, Memref.IsWhole.read_unread, View.ld_unit_lit]
    exact chunk_at x0 x1 x2 x4 x5 x6 x7 3840 _ _ _ _ x _ _ h0 (by omega)

  case piece1 =>
    sl_unfold_words
    simp (disch := decide) only [View.readAt_eq_ld, Memref.IsWhole.read_unread, View.ld_unit_lit]
    exact chunk_at x0 x1 x2 x4 x5 x6 x7 3584 _ _ _ _ x _ _ h0 (by omega)

  case piece2 =>
    sl_unfold_words
    simp (disch := decide) only [View.readAt_eq_ld, Memref.IsWhole.read_unread, View.ld_unit_lit]
    exact chunk_at x0 x1 x2 x4 x5 x6 x7 3328 _ _ _ _ x _ _ h0 (by omega)

  case piece3 =>
    sl_unfold_words
    simp (disch := decide) only [View.readAt_eq_ld, Memref.IsWhole.read_unread, View.ld_unit_lit]
    exact chunk_at x0 x1 x2 x4 x5 x6 x7 3072 _ _ _ _ x _ _ h0 (by omega)

  case piece4 =>
    sl_unfold_words
    simp (disch := decide) only [View.readAt_eq_ld, Memref.IsWhole.read_unread, View.ld_unit_lit]
    exact chunk_at x0 x1 x2 x4 x5 x6 x7 2816 _ _ _ _ x _ _ h0 (by omega)

  case piece5 =>
    sl_unfold_words
    simp (disch := decide) only [View.readAt_eq_ld, Memref.IsWhole.read_unread, View.ld_unit_lit]
    exact chunk_at x0 x1 x2 x4 x5 x6 x7 2560 _ _ _ _ x _ _ h0 (by omega)

  case piece6 =>
    sl_unfold_words
    simp (disch := decide) only [View.readAt_eq_ld, Memref.IsWhole.read_unread, View.ld_unit_lit]
    exact chunk_at x0 x1 x2 x4 x5 x6 x7 2304 _ _ _ _ x _ _ h0 (by omega)

  case piece7 =>
    sl_unfold_words
    simp (disch := decide) only [View.readAt_eq_ld, Memref.IsWhole.read_unread, View.ld_unit_lit]
    exact chunk_at x0 x1 x2 x4 x5 x6 x7 2048 _ _ _ _ x _ _ h0 (by omega)

  case piece8 =>
    sl_unfold_words
    simp (disch := decide) only [View.readAt_eq_ld, Memref.IsWhole.read_unread, View.ld_unit_lit]
    exact chunk_at x0 x1 x2 x4 x5 x6 x7 1792 _ _ _ _ x _ _ h0 (by omega)

  case piece9 =>
    sl_unfold_words
    simp (disch := decide) only [View.readAt_eq_ld, Memref.IsWhole.read_unread, View.ld_unit_lit]
    exact chunk_at x0 x1 x2 x4 x5 x6 x7 1536 _ _ _ _ x _ _ h0 (by omega)

  case piece10 =>
    sl_unfold_words
    simp (disch := decide) only [View.readAt_eq_ld, Memref.IsWhole.read_unread, View.ld_unit_lit]
    exact chunk_at x0 x1 x2 x4 x5 x6 x7 1280 _ _ _ _ x _ _ h0 (by omega)

  case piece11 =>
    sl_unfold_words
    simp (disch := decide) only [View.readAt_eq_ld, Memref.IsWhole.read_unread, View.ld_unit_lit]
    exact chunk_at x0 x1 x2 x4 x5 x6 x7 1024 _ _ _ _ x _ _ h0 (by omega)

  case piece12 =>
    sl_unfold_words
    simp (disch := decide) only [View.readAt_eq_ld, Memref.IsWhole.read_unread, View.ld_unit_lit]
    exact chunk_at x0 x1 x2 x4 x5 x6 x7 768 _ _ _ _ x _ _ h0 (by omega)

  case piece13 =>
    sl_unfold_words
    simp (disch := decide) only [View.readAt_eq_ld, Memref.IsWhole.read_unread, View.ld_unit_lit]
    exact chunk_at x0 x1 x2 x4 x5 x6 x7 512 _ _ _ _ x _ _ h0 (by omega)

  case piece14 =>
    sl_unfold_words
    simp (disch := decide) only [View.readAt_eq_ld, Memref.IsWhole.read_unread, View.ld_unit_lit]
    exact chunk_at x0 x1 x2 x4 x5 x6 x7 256 _ _ _ _ x _ _ h0 (by omega)

  case piece15 =>
    sl_unfold_words
    simp (disch := decide) only [View.readAt_eq_ld, Memref.IsWhole.read_unread, View.ld_unit_lit]
    exact chunk_at x0 x1 x2 x4 x5 x6 x7 0 _ _ _ _ x _ _ h0 (by omega)

/-- The running maximum after 256 columns. -/
theorem max_1 (x : S384x128.Idx) (b : EReal) :
    kernelRun0_A.sl.v65 c arg1 harg1 arg2 harg2 arg3 harg3 arg5 harg5 arg6 harg6 arg7 harg7 arg8 harg8 arg15 x0 x1 x2 x4 x5 x6 x7 x ≤ b ↔ BoundedBy x0 x1 x2 x4 x5 x6 x7 256 (x 0) (x 1) b := by
  unfold kernelRun0_A.sl.v65 kernelRun0_A.sl.HS1_1
  rw [View.readCov_cons_toLoadRect]
  sl_unfold_words
  simp (disch := decide) only [View.readAt_eq_ld, Memref.IsWhole.read_unread, View.ld_unit_lit]
  exact max_first x0 x1 x2 x4 x5 x6 x7 _ _ _ _ x b

/-- The running maximum after 512 columns. -/
theorem max_2 (x : S384x128.Idx) (b : EReal) :
    kernelRun0_A.sl.v97 c arg1 harg1 arg2 harg2 arg3 harg3 arg5 harg5 arg6 harg6 arg7 harg7 arg8 harg8 arg15 x0 x1 x2 x4 x5 x6 x7 x ≤ b ↔ BoundedBy x0 x1 x2 x4 x5 x6 x7 512 (x 0) (x 1) b := by
  unfold kernelRun0_A.sl.v97 kernelRun0_A.sl.HS1_2
  have hM := max_1 c arg1 harg1 arg2 harg2 arg3 harg3 arg5 harg5 arg6 harg6 arg7 harg7 arg8 harg8 arg15 x0 x1 x2 x4 x5 x6 x7 x b
  revert hM
  generalize kernelRun0_A.sl.v65 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 256 _ _ _ _ (by decide) (by decide) M x b hM

/-- The running maximum after 768 columns. -/
theorem max_3 (x : S384x128.Idx) (b : EReal) :
    kernelRun0_A.sl.v129 c arg1 harg1 arg2 harg2 arg3 harg3 arg5 harg5 arg6 harg6 arg7 harg7 arg8 harg8 arg15 x0 x1 x2 x4 x5 x6 x7 x ≤ b ↔ BoundedBy x0 x1 x2 x4 x5 x6 x7 768 (x 0) (x 1) b := by
  unfold kernelRun0_A.sl.v129 kernelRun0_A.sl.HS1_3
  have hM := max_2 c arg1 harg1 arg2 harg2 arg3 harg3 arg5 harg5 arg6 harg6 arg7 harg7 arg8 harg8 arg15 x0 x1 x2 x4 x5 x6 x7 x b
  revert hM
  generalize kernelRun0_A.sl.v97 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 512 _ _ _ _ (by decide) (by decide) M x b hM

/-- The running maximum after 1024 columns. -/
theorem max_4 (x : S384x128.Idx) (b : EReal) :
    kernelRun0_A.sl.v161 c arg1 harg1 arg2 harg2 arg3 harg3 arg5 harg5 arg6 harg6 arg7 harg7 arg8 harg8 arg15 x0 x1 x2 x4 x5 x6 x7 x ≤ b ↔ BoundedBy x0 x1 x2 x4 x5 x6 x7 1024 (x 0) (x 1) b := by
  unfold kernelRun0_A.sl.v161 kernelRun0_A.sl.HS1_4
  have hM := max_3 c arg1 harg1 arg2 harg2 arg3 harg3 arg5 harg5 arg6 harg6 arg7 harg7 arg8 harg8 arg15 x0 x1 x2 x4 x5 x6 x7 x b
  revert hM
  generalize kernelRun0_A.sl.v129 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 768 _ _ _ _ (by decide) (by decide) M x b hM

/-- The running maximum after 1280 columns. -/
theorem max_5 (x : S384x128.Idx) (b : EReal) :
    kernelRun0_A.sl.v193 c arg1 harg1 arg2 harg2 arg3 harg3 arg5 harg5 arg6 harg6 arg7 harg7 arg8 harg8 arg15 x0 x1 x2 x4 x5 x6 x7 x ≤ b ↔ BoundedBy x0 x1 x2 x4 x5 x6 x7 1280 (x 0) (x 1) b := by
  unfold kernelRun0_A.sl.v193 kernelRun0_A.sl.HS1_5
  have hM := max_4 c arg1 harg1 arg2 harg2 arg3 harg3 arg5 harg5 arg6 harg6 arg7 harg7 arg8 harg8 arg15 x0 x1 x2 x4 x5 x6 x7 x b
  revert hM
  generalize kernelRun0_A.sl.v161 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 1024 _ _ _ _ (by decide) (by decide) M x b hM

/-- The running maximum after 1536 columns. -/
theorem max_6 (x : S384x128.Idx) (b : EReal) :
    kernelRun0_A.sl.v225 c arg1 harg1 arg2 harg2 arg3 harg3 arg5 harg5 arg6 harg6 arg7 harg7 arg8 harg8 arg15 x0 x1 x2 x4 x5 x6 x7 x ≤ b ↔ BoundedBy x0 x1 x2 x4 x5 x6 x7 1536 (x 0) (x 1) b := by
  unfold kernelRun0_A.sl.v225 kernelRun0_A.sl.HS1_6
  have hM := max_5 c arg1 harg1 arg2 harg2 arg3 harg3 arg5 harg5 arg6 harg6 arg7 harg7 arg8 harg8 arg15 x0 x1 x2 x4 x5 x6 x7 x b
  revert hM
  generalize kernelRun0_A.sl.v193 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 1280 _ _ _ _ (by decide) (by decide) M x b hM

/-- The running maximum after 1792 columns. -/
theorem max_7 (x : S384x128.Idx) (b : EReal) :
    kernelRun0_A.sl.v257 c arg1 harg1 arg2 harg2 arg3 harg3 arg5 harg5 arg6 harg6 arg7 harg7 arg8 harg8 arg15 x0 x1 x2 x4 x5 x6 x7 x ≤ b ↔ BoundedBy x0 x1 x2 x4 x5 x6 x7 1792 (x 0) (x 1) b := by
  unfold kernelRun0_A.sl.v257 kernelRun0_A.sl.HS1_7
  have hM := max_6 c arg1 harg1 arg2 harg2 arg3 harg3 arg5 harg5 arg6 harg6 arg7 harg7 arg8 harg8 arg15 x0 x1 x2 x4 x5 x6 x7 x b
  revert hM
  generalize kernelRun0_A.sl.v225 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 1536 _ _ _ _ (by decide) (by decide) M x b hM

/-- The running maximum after 2048 columns. -/
theorem max_8 (x : S384x128.Idx) (b : EReal) :
    kernelRun0_A.sl.v289 c arg1 harg1 arg2 harg2 arg3 harg3 arg5 harg5 arg6 harg6 arg7 harg7 arg8 harg8 arg15 x0 x1 x2 x4 x5 x6 x7 x ≤ b ↔ BoundedBy x0 x1 x2 x4 x5 x6 x7 2048 (x 0) (x 1) b := by
  unfold kernelRun0_A.sl.v289 kernelRun0_A.sl.HS1_8
  have hM := max_7 c arg1 harg1 arg2 harg2 arg3 harg3 arg5 harg5 arg6 harg6 arg7 harg7 arg8 harg8 arg15 x0 x1 x2 x4 x5 x6 x7 x b
  revert hM
  generalize kernelRun0_A.sl.v257 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 1792 _ _ _ _ (by decide) (by decide) M x b hM

/-- The running maximum after 2304 columns. -/
theorem max_9 (x : S384x128.Idx) (b : EReal) :
    kernelRun0_A.sl.v321 c arg1 harg1 arg2 harg2 arg3 harg3 arg5 harg5 arg6 harg6 arg7 harg7 arg8 harg8 arg15 x0 x1 x2 x4 x5 x6 x7 x ≤ b ↔ BoundedBy x0 x1 x2 x4 x5 x6 x7 2304 (x 0) (x 1) b := by
  unfold kernelRun0_A.sl.v321 kernelRun0_A.sl.HS1_9
  have hM := max_8 c arg1 harg1 arg2 harg2 arg3 harg3 arg5 harg5 arg6 harg6 arg7 harg7 arg8 harg8 arg15 x0 x1 x2 x4 x5 x6 x7 x b
  revert hM
  generalize kernelRun0_A.sl.v289 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 2048 _ _ _ _ (by decide) (by decide) M x b hM

/-- The running maximum after 2560 columns. -/
theorem max_10 (x : S384x128.Idx) (b : EReal) :
    kernelRun0_A.sl.v353 c arg1 harg1 arg2 harg2 arg3 harg3 arg5 harg5 arg6 harg6 arg7 harg7 arg8 harg8 arg15 x0 x1 x2 x4 x5 x6 x7 x ≤ b ↔ BoundedBy x0 x1 x2 x4 x5 x6 x7 2560 (x 0) (x 1) b := by
  unfold kernelRun0_A.sl.v353 kernelRun0_A.sl.HS1_10
  have hM := max_9 c arg1 harg1 arg2 harg2 arg3 harg3 arg5 harg5 arg6 harg6 arg7 harg7 arg8 harg8 arg15 x0 x1 x2 x4 x5 x6 x7 x b
  revert hM
  generalize kernelRun0_A.sl.v321 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 2304 _ _ _ _ (by decide) (by decide) M x b hM

/-- The running maximum after 2816 columns. -/
theorem max_11 (x : S384x128.Idx) (b : EReal) :
    kernelRun0_A.sl.v385 c arg1 harg1 arg2 harg2 arg3 harg3 arg5 harg5 arg6 harg6 arg7 harg7 arg8 harg8 arg15 x0 x1 x2 x4 x5 x6 x7 x ≤ b ↔ BoundedBy x0 x1 x2 x4 x5 x6 x7 2816 (x 0) (x 1) b := by
  unfold kernelRun0_A.sl.v385 kernelRun0_A.sl.HS1_11
  have hM := max_10 c arg1 harg1 arg2 harg2 arg3 harg3 arg5 harg5 arg6 harg6 arg7 harg7 arg8 harg8 arg15 x0 x1 x2 x4 x5 x6 x7 x b
  revert hM
  generalize kernelRun0_A.sl.v353 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 2560 _ _ _ _ (by decide) (by decide) M x b hM

/-- The running maximum after 3072 columns. -/
theorem max_12 (x : S384x128.Idx) (b : EReal) :
    kernelRun0_A.sl.v417 c arg1 harg1 arg2 harg2 arg3 harg3 arg5 harg5 arg6 harg6 arg7 harg7 arg8 harg8 arg15 x0 x1 x2 x4 x5 x6 x7 x ≤ b ↔ BoundedBy x0 x1 x2 x4 x5 x6 x7 3072 (x 0) (x 1) b := by
  unfold kernelRun0_A.sl.v417 kernelRun0_A.sl.HS1_12
  have hM := max_11 c arg1 harg1 arg2 harg2 arg3 harg3 arg5 harg5 arg6 harg6 arg7 harg7 arg8 harg8 arg15 x0 x1 x2 x4 x5 x6 x7 x b
  revert hM
  generalize kernelRun0_A.sl.v385 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 2816 _ _ _ _ (by decide) (by decide) M x b hM

/-- The running maximum after 3328 columns. -/
theorem max_13 (x : S384x128.Idx) (b : EReal) :
    kernelRun0_A.sl.v449 c arg1 harg1 arg2 harg2 arg3 harg3 arg5 harg5 arg6 harg6 arg7 harg7 arg8 harg8 arg15 x0 x1 x2 x4 x5 x6 x7 x ≤ b ↔ BoundedBy x0 x1 x2 x4 x5 x6 x7 3328 (x 0) (x 1) b := by
  unfold kernelRun0_A.sl.v449 kernelRun0_A.sl.HS1_13
  have hM := max_12 c arg1 harg1 arg2 harg2 arg3 harg3 arg5 harg5 arg6 harg6 arg7 harg7 arg8 harg8 arg15 x0 x1 x2 x4 x5 x6 x7 x b
  revert hM
  generalize kernelRun0_A.sl.v417 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 3072 _ _ _ _ (by decide) (by decide) M x b hM

/-- The running maximum after 3584 columns. -/
theorem max_14 (x : S384x128.Idx) (b : EReal) :
    kernelRun0_A.sl.v481 c arg1 harg1 arg2 harg2 arg3 harg3 arg5 harg5 arg6 harg6 arg7 harg7 arg8 harg8 arg15 x0 x1 x2 x4 x5 x6 x7 x ≤ b ↔ BoundedBy x0 x1 x2 x4 x5 x6 x7 3584 (x 0) (x 1) b := by
  unfold kernelRun0_A.sl.v481 kernelRun0_A.sl.HS1_14 kernelRun0_A.sl.r_18
  have hM := max_13 c arg1 harg1 arg2 harg2 arg3 harg3 arg5 harg5 arg6 harg6 arg7 harg7 arg8 harg8 arg15 x0 x1 x2 x4 x5 x6 x7 x b
  revert hM
  generalize kernelRun0_A.sl.v449 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 3328 _ _ _ _ (by decide) (by decide) M x b hM

/-- The running maximum after 3840 columns. -/
theorem max_15 (x : S384x128.Idx) (b : EReal) :
    kernelRun0_A.sl.v513 c arg1 harg1 arg2 harg2 arg3 harg3 arg5 harg5 arg6 harg6 arg7 harg7 arg8 harg8 arg15 x0 x1 x2 x4 x5 x6 x7 x ≤ b ↔ BoundedBy x0 x1 x2 x4 x5 x6 x7 3840 (x 0) (x 1) b := by
  unfold kernelRun0_A.sl.v513 kernelRun0_A.sl.HS1_15
  have hM := max_14 c arg1 harg1 arg2 harg2 arg3 harg3 arg5 harg5 arg6 harg6 arg7 harg7 arg8 harg8 arg15 x0 x1 x2 x4 x5 x6 x7 x b
  revert hM
  generalize kernelRun0_A.sl.v481 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 3584 _ _ _ _ (by decide) (by decide) M x b hM

/-- The running maximum after 4096 columns. -/
theorem max_16 (x : S384x128.Idx) (b : EReal) :
    kernelRun0_A.sl.v518 c arg1 harg1 arg2 harg2 arg3 harg3 arg5 harg5 arg6 harg6 arg7 harg7 arg8 harg8 arg15 x0 x1 x2 x4 x5 x6 x7 x ≤ b ↔ BoundedBy x0 x1 x2 x4 x5 x6 x7 4096 (x 0) (x 1) b := by
  unfold kernelRun0_A.sl.v518 kernelRun0_A.sl.HS1_16
  have hM := max_15 c arg1 harg1 arg2 harg2 arg3 harg3 arg5 harg5 arg6 harg6 arg7 harg7 arg8 harg8 arg15 x0 x1 x2 x4 x5 x6 x7 x b
  revert hM
  generalize kernelRun0_A.sl.v513 c arg1 harg1 arg2 harg2 arg3 harg3 arg5 harg5 arg6 harg6 arg7 harg7 arg8 harg8 arg15 x0 x1 x2 x4 x5 x6 x7 = M
  intro hM
  rw [View.readCov_cons_toLoadRect]
  sl_unfold_words
  simp (disch := decide) only [View.readAt_eq_ld, Memref.IsWhole.read_unread, View.ld_unit_lit]
  exact max_step x0 x1 x2 x4 x5 x6 x7 3840 _ _ _ _ (by decide) (by decide) M x b hM

end Cert.MlpIdeal.Body
-- ==== Proof.Mlp.Body.lean ====
module

public import proofs.«01_k».proof.Proof.Mlp.Act

@[expose] public section

set_option maxRecDepth 16384
noncomputable section
open Idealize.ShloMosaic Idealize.ShloMosaic.TcCoe Idealize.SL.Sem
namespace Cert.MlpIdeal.Body
open Cert.MlpIdeal Cert.MlpIdeal.Gen
variable (c : Dev nD) (arg1 : Memref sig .tc .smem S12 .f32) (harg1 : arg1.IsWhole)
  (arg2 : Memref sig .tc .vmem S1x384x2048 .fp8e4m3) (harg2 : arg2.IsWhole) (arg3 : Memref sig .tc .vmem S1x1x384 .f32) (harg3 : arg3.IsWhole)
  (arg5 : Memref sig .tc .vmem S2048x4096 .fp8e4m3) (harg5 : arg5.IsWhole) (arg6 : Memref sig .tc .vmem S1x4096 .f32) (harg6 : arg6.IsWhole)
  (arg7 : Memref sig .tc .vmem S2048x4096 .fp8e4m3) (harg7 : arg7.IsWhole) (arg8 : Memref sig .tc .vmem S1x4096 .f32) (harg8 : arg8.IsWhole)
  (arg14 : Memref sig .tc .vmem S384x4096 .f32) (arg15 : Memref sig .tc .vmem S384x128 .f32)
  (x0 : Vec Ideal S12 .f32) (x1 : Vec Ideal S1x384x2048 .fp8e4m3) (x2 : Vec Ideal S1x1x384 .f32) (x4 : Vec Ideal S2048x4096 .fp8e4m3)
  (x5 : Vec Ideal S1x4096 .f32) (x6 : Vec Ideal S2048x4096 .fp8e4m3) (x7 : Vec Ideal S1x4096 .f32)

/-- The last running maximum, taken over its lanes, is the row's largest absolute activation. -/
theorem rowMax_eq (r : Fin 384) :
    Finset.univ.fold max (Ideal.ofBits FTy.f32 0xFF800000#32) (fun l : Fin 128 => kernelRun0_A.sl.v518 c arg1 harg1 arg2 harg2 arg3 harg3 arg5 harg5 arg6 harg6 arg7 harg7 arg8 harg8 arg15 x0 x1 x2 x4 x5 x6 x7 (ix2 r l))
      = MlpRow.rowMax (actAt x0 x1 x2 x4 x5 x6 x7 r) := by
  refine eq_of_forall_ge_iff fun b => ?_
  unfold MlpRow.rowMax
  rw [Finset.fold_max_le, Finset.fold_max_le]
  refine and_congr_right fun _ => ⟨fun h j _ => ?_, fun h l _ => ?_⟩
  · exact (max_16 c arg1 harg1 arg2 harg2 arg3 harg3 arg5 harg5 arg6 harg6 arg7 harg7 arg8 harg8 arg15 x0 x1 x2 x4 x5 x6 x7 (ix2 r ⟨(j : ℕ) % 128, Nat.mod_lt _ (by decide)⟩) b).mp (h _ (Finset.mem_univ _)) j j.isLt rfl
  · exact (max_16 c arg1 harg1 arg2 harg2 arg3 harg3 arg5 harg5 arg6 harg6 arg7 harg7 arg8 harg8 arg15 x0 x1 x2 x4 x5 x6 x7 (ix2 r l) b).mpr fun j _ _ => h j (Finset.mem_univ _)

/-- The scale of row `r` of the block's activations. -/
def scaleAt (r : Fin 384) : EReal := MlpRow.scale (MlpRow.rowMax (actAt x0 x1 x2 x4 x5 x6 x7 r))

/-- The scale column of the block. -/
theorem scale_eq (y : S384x1.Idx) : kernelRun0_A.sl.r_22 c arg1 harg1 arg2 harg2 arg3 harg3 arg5 harg5 arg6 harg6 arg7 harg7 arg8 harg8 arg15 x0 x1 x2 x4 x5 x6 x7 y = scaleAt x0 x1 x2 x4 x5 x6 x7 (y 0) := by
  unfold scaleAt
  rw [← rowMax_eq c arg1 harg1 arg2 harg2 arg3 harg3 arg5 harg5 arg6 harg6 arg7 harg7 arg8 harg8 arg15 x0 x1 x2 x4 x5 x6 x7 (y 0)]
  unfold kernelRun0_A.sl.r_22 kernelRun0_A.sl.r_20 kernelRun0_A.sl.r_21 kernelRun0_A.sl.cst_263
  generalize kernelRun0_A.sl.v518 c arg1 harg1 arg2 harg2 arg3 harg3 arg5 harg5 arg6 harg6 arg7 harg7 arg8 harg8 arg15 x0 x1 x2 x4 x5 x6 x7 = M
  pointwise [k0_pay67, k0_pay65, k0_pay66, k0_pay64, MlpRow.scale]

/-- Codes of a column block from its activations and the rows' scales. -/
theorem code_at (S : FVec Ideal S384x1 .f32) (A : Vec Ideal S384x256 .f32) (x : S1x384x256.Idx) (r : Fin 384) (j : Fin 4096)
    (hS : S (ix2 (x 1) 0) = scaleAt x0 x1 x2 x4 x5 x6 x7 r) (hA : A (ix2 (x 1) (x 2)) = actAt x0 x1 x2 x4 x5 x6 x7 r j) :
    k0_pay88 S A x = MlpRow.code (actAt x0 x1 x2 x4 x5 x6 x7 r j) (scaleAt x0 x1 x2 x4 x5 x6 x7 r) := by
  rw [← hS, ← hA]
  pointwise [k0_pay88, MlpRow.code]

/-- A read of a column block of the scratch of activations. -/
theorem read_at (L : List (View.Piece (Elt Ideal) S384x4096 .f32)) (hL : ∀ y, View.canon L y = actAt x0 x1 x2 x4 x5 x6 x7 (y 0) (y 1))
    (o : ℕ) (ib : ∀ a, (![0, o] : Fin 2 → ℕ) a + S384x256.size a ≤ S384x4096.size a)
    (r : Fin 384) (k : Fin 256) (r' : Fin 384) (j : Fin 4096) (hr : (r' : ℕ) = r) (hj : (j : ℕ) = o + k) :
    arg14.view.readCov L (Rect.unit (s := S384x4096) ![0, o] S384x256.size ib).toLoadRect (ix2 r k) = actAt x0 x1 x2 x4 x5 x6 x7 r' j := by
  rw [View.readCov_eq_canon']
  refine (hL _).trans ?_
  congr 1
  · exact Fin.ext (by rw [hr]; show 0 + 1 * (r : ℕ) = r; omega)
  · exact Fin.ext (by rw [hj]; show o + 1 * (k : ℕ) = _; omega)

/-- The stored codes of the block. -/
theorem code_canon (y : S1x384x4096.Idx) :
    View.canon (kernelRun0_A.sl.H11_16 c arg1 harg1 arg2 harg2 arg3 harg3 arg5 harg5 arg6 harg6 arg7 harg7 arg8 harg8 arg14 arg15 x0 x1 x2 x4 x5 x6 x7) y
      = MlpRow.code (actAt x0 x1 x2 x4 x5 x6 x7 (y 1) (y 2)) (scaleAt x0 x1 x2 x4 x5 x6 x7 (y 1)) := by
  have hact := act_canon c arg1 harg1 arg2 harg2 arg3 harg3 arg5 harg5 arg6 harg6 arg7 harg7 arg8 harg8 x0 x1 x2 x4 x5 x6 x7
  have hsc (r : Fin 384) : kernelRun0_A.sl.r_22 c arg1 harg1 arg2 harg2 arg3 harg3 arg5 harg5 arg6 harg6 arg7 harg7 arg8 harg8 arg15 x0 x1 x2 x4 x5 x6 x7 (ix2 r 0) = scaleAt x0 x1 x2 x4 x5 x6 x7 r := scale_eq c arg1 harg1 arg2 harg2 arg3 harg3 arg5 harg5 arg6 harg6 arg7 harg7 arg8 harg8 arg15 x0 x1 x2 x4 x5 x6 x7 (ix2 r 0)
  unfold kernelRun0_A.sl.H11_16
  canon_tiles x h
  case piece0 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v699 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 3840 _ (x 1) (x 2) (y 1) (y 2) h1 (by omega))
  case piece1 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v688 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 3584 _ (x 1) (x 2) (y 1) (y 2) h1 (by omega))
  case piece2 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v677 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 3328 _ (x 1) (x 2) (y 1) (y 2) h1 (by omega))
  case piece3 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v666 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 3072 _ (x 1) (x 2) (y 1) (y 2) h1 (by omega))
  case piece4 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v655 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 2816 _ (x 1) (x 2) (y 1) (y 2) h1 (by omega))
  case piece5 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v644 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 2560 _ (x 1) (x 2) (y 1) (y 2) h1 (by omega))
  case piece6 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v633 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 2304 _ (x 1) (x 2) (y 1) (y 2) h1 (by omega))
  case piece7 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v622 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 2048 _ (x 1) (x 2) (y 1) (y 2) h1 (by omega))
  case piece8 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v611 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 1792 _ (x 1) (x 2) (y 1) (y 2) h1 (by omega))
  case piece9 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v600 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 1536 _ (x 1) (x 2) (y 1) (y 2) h1 (by omega))
  case piece10 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v589 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 1280 _ (x 1) (x 2) (y 1) (y 2) h1 (by omega))
  case piece11 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v578 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 1024 _ (x 1) (x 2) (y 1) (y 2) h1 (by omega))
  case piece12 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v567 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 768 _ (x 1) (x 2) (y 1) (y 2) h1 (by omega))
  case piece13 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v556 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 512 _ (x 1) (x 2) (y 1) (y 2) h1 (by omega))
  case piece14 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v545 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 256 _ (x 1) (x 2) (y 1) (y 2) h1 (by omega))
  case piece15 =>

    exact code_at x0 x1 x2 x4 x5 x6 x7 (kernelRun0_A.sl.r_22 c arg1 harg1 arg2 harg2 arg3 harg3 arg5 harg5 arg6 harg6 arg7 harg7 arg8 harg8 arg15 x0 x1 x2 x4 x5 x6 x7) (kernelRun0_A.sl.v534 c arg1 harg1 arg2 harg2 arg3 harg3 arg5 harg5 arg6 harg6 arg7 harg7 arg8 harg8 arg14 x0 x1 x2 x4 x5 x6 x7) x (y 1) (y 2)
      ((hsc _).trans (congrArg _ (Fin.ext h1.symm)))
      (read_at arg14 x0 x1 x2 x4 x5 x6 x7 _ hact 0 _ (x 1) (x 2) (y 1) (y 2) h1 (by omega))

/-- The scale broadcast over 128 lanes. -/
theorem scaleLanes_eq (r : Fin 384) (l : Fin 128) : kernelRun0_A.sl.r_23 c arg1 harg1 arg2 harg2 arg3 harg3 arg5 harg5 arg6 harg6 arg7 harg7 arg8 harg8 arg15 x0 x1 x2 x4 x5 x6 x7 (ix2 r l) = scaleAt x0 x1 x2 x4 x5 x6 x7 r := by
  refine Eq.trans ?_ (scale_eq c arg1 harg1 arg2 harg2 arg3 harg3 arg5 harg5 arg6 harg6 arg7 harg7 arg8 harg8 arg15 x0 x1 x2 x4 x5 x6 x7 (ix2 r 0))
  unfold kernelRun0_A.sl.r_23 kernelRun0_A.sl.r_22 k0_pay68
  generalize k0_pay67 (F := Ideal) _ _ _ = w
  pointwise

/-- The stored scales of the block. -/
theorem scaleRow_eq (y : S1x1x384.Idx) :
    k0_pay69 (kernelRun0_A.sl.r_20 c arg1 harg1 arg2 harg2 arg3 harg3 arg5 harg5 arg6 harg6 arg7 harg7 arg8 harg8 arg15 x0 x1 x2 x4 x5 x6 x7) (kernelRun0_A.sl.r_21 c arg1 harg1 arg2 harg2 arg3 harg3 arg5 harg5 arg6 harg6 arg7 harg7 arg8 harg8 arg15 x0 x1 x2 x4 x5 x6 x7) kernelRun0_A.sl.cst_263 y = scaleAt x0 x1 x2 x4 x5 x6 x7 (y 2) := by
  refine Eq.trans ?_ (scale_eq c arg1 harg1 arg2 harg2 arg3 harg3 arg5 harg5 arg6 harg6 arg7 harg7 arg8 harg8 arg15 x0 x1 x2 x4 x5 x6 x7 (ix2 (y 2) 0))
  unfold kernelRun0_A.sl.r_22 k0_pay69 k0_pay68
  generalize k0_pay67 (F := Ideal) _ _ _ = w
  pointwise

/-- The read back of the stored codes. -/
theorem readCodes_eq (r : Fin 384) (j : Fin 4096) (arg12 : Memref sig .tc .vmem S1x384x4096 .fp8e4m3) :
    kernelRun0_A.sl.v710 c arg1 harg1 arg2 harg2 arg3 harg3 arg5 harg5 arg6 harg6 arg7 harg7 arg8 harg8 arg12 arg14 arg15 x0 x1 x2 x4 x5 x6 x7 (ix3 0 r j)
      = MlpRow.code (actAt x0 x1 x2 x4 x5 x6 x7 r j) (scaleAt x0 x1 x2 x4 x5 x6 x7 r) := by
  unfold kernelRun0_A.sl.v710
  rw [View.readCov_eq_canon']
  refine (code_canon c arg1 harg1 arg2 harg2 arg3 harg3 arg5 harg5 arg6 harg6 arg7 harg7 arg8 harg8 arg14 arg15 x0 x1 x2 x4 x5 x6 x7 _).trans ?_
  have e1 : ((Rect.unit (s := S1x384x4096) ![0, 0, 0] S1x384x4096.size inb_S1x384x4096_S1x384x4096_0_0_0).toLoadRect.idx (ix3 0 r j)) 1 = r :=
    Fin.ext (by show 0 + 1 * (r : ℕ) = r; omega)
  have e2 : ((Rect.unit (s := S1x384x4096) ![0, 0, 0] S1x384x4096.size inb_S1x384x4096_S1x384x4096_0_0_0).toLoadRect.idx (ix3 0 r j)) 2 = j :=
    Fin.ext (by show 0 + 1 * (j : ℕ) = j; omega)
  rw [e1, e2]

/-- A column block of the down product, scaled and added to the residual stream. -/
theorem down_at (x3 : Vec Ideal S1x384x2048 .f32) (x8 : Vec Ideal S4096x2048 .fp8e4m3) (x9 : Vec Ideal S1x2048 .f32)
    (q : Vec Ideal S1x384x4096 .fp8e4m3) (T : FVec Ideal S384x128 .f32) (s : EReal) (o : ℕ)
    (ib8 : ∀ a, (![0, o] : Fin 2 → ℕ) a + (![4096, 256] : Fin 2 → ℕ) a ≤ S4096x2048.size a)
    (ib9 : ∀ a, (![0, o] : Fin 2 → ℕ) a + (![1, 256] : Fin 2 → ℕ) a ≤ S1x2048.size a)
    (ib3 : ∀ a, (![0, 0, o] : Fin 3 → ℕ) a + (![1, 384, 256] : Fin 3 → ℕ) a ≤ S1x384x2048.size a)
    (i0 : ∀ a, (![6] : Fin 1 → ℕ) a + (![1] : Fin 1 → ℕ) a ≤ S12.size a) (z : (Rect.unit (s := S12) ![6] ![1] i0).shape.Idx)
    (x : S1x384x256.Idx) (r : Fin 384) (n : Fin 2048) (hr : (r : ℕ) = x 1) (hn : (n : ℕ) = o + x 2) (hT : ∀ l, T (ix2 r l) = s)
    (qr : Fin 4096 → EReal) (hq : ∀ j, q (ix3 0 r j) = qr j) :
    k0_pay94 (k0_pay89 q) (k0_pay90 T) (View.ld x8 (Rect.unit ![0, o] ![4096, 256] ib8)) (View.ld x9 (Rect.unit ![0, o] ![1, 256] ib9)) (View.ld x0 (Rect.unit ![6] ![1] i0) z) (View.ld x3 (Rect.unit ![0, 0, o] ![1, 384, 256] ib3)) x
      = MlpRow.down (x0 (ix1 6)) (x3 (ix3 0 r n)) qr (fun j => x8 (ix2 j n)) s (x9 (ix2 0 n)) := by
  obtain rfl : r = x 1 := Fin.ext hr
  have h8 (k : Fin 4096) : View.ld x8 (Rect.unit ![0, o] ![4096, 256] ib8) (ix2 k (x 2)) = x8 (ix2 k n) := by
    rw [View.ld_unit]; refine congrArg x8 (funext fun a => Fin.ext ?_)
    match a with
    | 0 => exact Nat.zero_add _
    | 1 => exact hn.symm
  have h9 : View.ld x9 (Rect.unit ![0, o] ![1, 256] ib9) (ix2 0 (x 2)) = x9 (ix2 0 n) := by
    rw [View.ld_unit]; refine congrArg x9 (funext fun a => Fin.ext ?_)
    match a with
    | 0 => rfl
    | 1 => exact hn.symm
  have h3 : View.ld x3 (Rect.unit ![0, 0, o] ![1, 384, 256] ib3) x = x3 (ix3 0 (x 1) n) := by
    rw [View.ld_unit]; refine congrArg x3 (funext fun a => Fin.ext ?_)
    match a with
    | 0 => have : (x 0 : ℕ) < 1 := (x 0).isLt
           show 0 + (x 0 : ℕ) = 0; omega
    | 1 => exact Nat.zero_add _
    | 2 => exact hn.symm
  have h0 : View.ld x0 (Rect.unit ![6] ![1] i0) z = x0 (ix1 6) := by
    rw [View.ld_unit]; refine congrArg x0 (funext fun a => Fin.ext ?_)
    match a with
    | 0 => have : (z 0 : ℕ) < 1 := (z 0).isLt
           show 6 + (z 0 : ℕ) = 6; omega
  revert h8 h9 h3 h0
  generalize View.ld x8 (Rect.unit ![0, o] ![4096, 256] ib8) = A, View.ld x9 (Rect.unit ![0, o] ![1, 256] ib9) = B,
    View.ld x3 (Rect.unit ![0, 0, o] ![1, 384, 256] ib3) = C, View.ld x0 (Rect.unit ![6] ![1] i0) z = md
  intro h8 h9 h3 h0
  pointwise [k0_pay94, k0_pay89, k0_pay90, MlpRow.down]
  simp only [h8, h9, h3, h0, hT, hq, dite_eq_ite, ite_self]

section Block
variable (m : (ℓ : Loc nD τ sig) → Buf (Elt Ideal) ℓ) (t : Fin cfg0.N)

/-- What one point leaves in the block of scales. -/
theorem out12 (y : S1x1x384.Idx) : (outsAt0 m c t).2.2 y = scaleAt (iblk m c 0 t) (iblk m c 1 t) (iblk m c 2 t) (iblk m c 4 t) (iblk m c 5 t) (iblk m c 6 t) (iblk m c 7 t) (y 2) := by
  unfold outsAt0; dsimp only; unfold out0_A_12; rw [View.read_writes_junk_eq_canon]; unfold kernelRun0_A; dsimp only
  rw [View.canon_cons_unit_lit' _ _ _ (by decide)]
  exact scaleRow_eq c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) scM0_1 (iblk m c 0 t) (iblk m c 1 t) (iblk m c 2 t) (iblk m c 4 t) (iblk m c 5 t) (iblk m c 6 t) (iblk m c 7 t) y

/-- What one point leaves in the block of codes. -/
theorem out11 (y : S1x384x4096.Idx) :
    (outsAt0 m c t).2.1 y = MlpRow.code (actAt (iblk m c 0 t) (iblk m c 1 t) (iblk m c 2 t) (iblk m c 4 t) (iblk m c 5 t) (iblk m c 6 t) (iblk m c 7 t) (y 1) (y 2)) (scaleAt (iblk m c 0 t) (iblk m c 1 t) (iblk m c 2 t) (iblk m c 4 t) (iblk m c 5 t) (iblk m c 6 t) (iblk m c 7 t) (y 1)) := by
  unfold outsAt0; dsimp only; unfold out0_A_11; rw [View.read_writes_junk_eq_canon]; unfold kernelRun0_A; dsimp only
  exact code_canon c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) scM0_0 scM0_1 (iblk m c 0 t) (iblk m c 1 t) (iblk m c 2 t) (iblk m c 4 t) (iblk m c 5 t) (iblk m c 6 t) (iblk m c 7 t) y

/-- What one point leaves in the block of the layer's output. -/
theorem out10 (y : S1x384x2048.Idx) :
    (outsAt0 m c t).1 y = MlpRow.down (iblk m c 0 t (ix1 6)) (iblk m c 3 t (ix3 0 (y 1) (y 2)))
      (fun j => MlpRow.code (actAt (iblk m c 0 t) (iblk m c 1 t) (iblk m c 2 t) (iblk m c 4 t) (iblk m c 5 t) (iblk m c 6 t) (iblk m c 7 t) (y 1) j) (scaleAt (iblk m c 0 t) (iblk m c 1 t) (iblk m c 2 t) (iblk m c 4 t) (iblk m c 5 t) (iblk m c 6 t) (iblk m c 7 t) (y 1))) (fun j => iblk m c 8 t (ix2 j (y 2)))
      (scaleAt (iblk m c 0 t) (iblk m c 1 t) (iblk m c 2 t) (iblk m c 4 t) (iblk m c 5 t) (iblk m c 6 t) (iblk m c 7 t) (y 1)) (iblk m c 9 t (ix2 0 (y 2))) := by
  have hT (r : Fin 384) (l : Fin 128) := scaleLanes_eq c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) scM0_1 (iblk m c 0 t) (iblk m c 1 t) (iblk m c 2 t) (iblk m c 4 t) (iblk m c 5 t) (iblk m c 6 t) (iblk m c 7 t) r l
  have hq (r : Fin 384) (j : Fin 4096) := readCodes_eq c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) scM0_0 scM0_1 (iblk m c 0 t) (iblk m c 1 t) (iblk m c 2 t) (iblk m c 4 t) (iblk m c 5 t) (iblk m c 6 t) (iblk m c 7 t) r j (ms0_11 t)
  revert hT hq
  unfold outsAt0; dsimp only; unfold out0_A_10; rw [View.read_writes_junk_eq_canon]; unfold kernelRun0_A; dsimp only
  unfold kernelRun0_A.sl.r_35 kernelRun0_A.sl.r_34 kernelRun0_A.sl.r_33 kernelRun0_A.sl.r_32 kernelRun0_A.sl.r_31 kernelRun0_A.sl.r_30 kernelRun0_A.sl.r_29 kernelRun0_A.sl.r_28
  generalize kernelRun0_A.sl.v710 (F := Ideal) _ _ _ _ _ _ _ _ _ _ _ _ _ _ _ _ _ _ _ _ _ _ _ _ _ = q
  generalize kernelRun0_A.sl.r_23 (F := Ideal) _ _ _ _ _ _ _ _ _ _ _ _ _ _ _ _ _ _ _ _ _ _ _ = T
  intro hT hq
  canon_tiles x h
  case piece0 =>
    simp only [View.readAt_eq_ld, Memref.IsWhole.read_unread]
    exact down_at (iblk m c 0 t) (iblk m c 3 t) (iblk m c 8 t) (iblk m c 9 t) q T _ 1792 _ _ _ _ _ x (y 1) (y 2) h1 (by omega) (hT (y 1)) _ (hq (y 1))
  case piece1 =>
    simp only [View.readAt_eq_ld, Memref.IsWhole.read_unread]
    exact down_at (iblk m c 0 t) (iblk m c 3 t) (iblk m c 8 t) (iblk m c 9 t) q T _ 1536 _ _ _ _ _ x (y 1) (y 2) h1 (by omega) (hT (y 1)) _ (hq (y 1))
  case piece2 =>
    simp only [View.readAt_eq_ld, Memref.IsWhole.read_unread]
    exact down_at (iblk m c 0 t) (iblk m c 3 t) (iblk m c 8 t) (iblk m c 9 t) q T _ 1280 _ _ _ _ _ x (y 1) (y 2) h1 (by omega) (hT (y 1)) _ (hq (y 1))
  case piece3 =>
    simp only [View.readAt_eq_ld, Memref.IsWhole.read_unread]
    exact down_at (iblk m c 0 t) (iblk m c 3 t) (iblk m c 8 t) (iblk m c 9 t) q T _ 1024 _ _ _ _ _ x (y 1) (y 2) h1 (by omega) (hT (y 1)) _ (hq (y 1))
  case piece4 =>
    simp only [View.readAt_eq_ld, Memref.IsWhole.read_unread]
    exact down_at (iblk m c 0 t) (iblk m c 3 t) (iblk m c 8 t) (iblk m c 9 t) q T _ 768 _ _ _ _ _ x (y 1) (y 2) h1 (by omega) (hT (y 1)) _ (hq (y 1))
  case piece5 =>
    simp only [View.readAt_eq_ld, Memref.IsWhole.read_unread]
    exact down_at (iblk m c 0 t) (iblk m c 3 t) (iblk m c 8 t) (iblk m c 9 t) q T _ 512 _ _ _ _ _ x (y 1) (y 2) h1 (by omega) (hT (y 1)) _ (hq (y 1))
  case piece6 =>
    simp only [View.readAt_eq_ld, Memref.IsWhole.read_unread]
    exact down_at (iblk m c 0 t) (iblk m c 3 t) (iblk m c 8 t) (iblk m c 9 t) q T _ 256 _ _ _ _ _ x (y 1) (y 2) h1 (by omega) (hT (y 1)) _ (hq (y 1))
  case piece7 =>
    simp only [View.readAt_eq_ld, Memref.IsWhole.read_unread]
    exact down_at (iblk m c 0 t) (iblk m c 3 t) (iblk m c 8 t) (iblk m c 9 t) q T _ 0 _ _ _ _ _ x (y 1) (y 2) h1 (by omega) (hT (y 1)) _ (hq (y 1))

end Block
end Cert.MlpIdeal.Body
-- ==== Proof.Mlp.Target.lean ====
module

public import proofs.«01_k».proof.Proof.Gen.MlpIdeal.Value
public import proofs.«01_k».proof.Proof.Mlp.Spec

@[expose] public section

noncomputable section
open Idealize.ShloMosaic Idealize.ShloMosaic.TcCoe Idealize.SL.Sem
namespace Cert.MlpRow
open Cert.MlpIdeal Cert.MlpIdeal.Gen

variable (mults : Vec Ideal S12 .f32) (codes : Vec Ideal S5x384x2048 .fp8e4m3) (scales : Vec Ideal S5x1x384 .f32) (hmid : Vec Ideal S5x384x2048 .f32)
  (wg : Vec Ideal S2048x4096 .fp8e4m3) (cg : Vec Ideal S4096 .f32) (wu : Vec Ideal S2048x4096 .fp8e4m3) (cu : Vec Ideal S4096 .f32)
  (wd : Vec Ideal S4096x2048 .fp8e4m3) (cd : Vec Ideal S2048 .f32)

/-- The activation of token `r` of sequence `b` at column `j`, from the ten arguments. -/
def actG (b : Fin 5) (r : Fin 384) (j : Fin 4096) : EReal :=
  act (mults (ix1 5)) (fun k => codes (ix3 b r k)) (scales (ix3 b 0 r)) (fun k => wg (ix2 k j)) (cg (ix1 j)) (fun k => wu (ix2 k j)) (cu (ix1 j))

/-- The scale of token `r` of sequence `b`. -/
def scaleG (b : Fin 5) (r : Fin 384) : EReal := scale (rowMax (actG mults codes scales wg cg wu cu b r))

/-- The code of token `r` of sequence `b` at column `j`. -/
def codeG (b : Fin 5) (r : Fin 384) (j : Fin 4096) : EReal :=
  code (actG mults codes scales wg cg wu cu b r j) (scaleG mults codes scales wg cg wu cu b r)

/-- The output of token `r` of sequence `b` at column `n`. -/
def outG (b : Fin 5) (r : Fin 384) (n : Fin 2048) : EReal :=
  down (mults (ix1 6)) (hmid (ix3 b r n)) (codeG mults codes scales wg cg wu cu b r) (fun j => wd (ix2 j n))
    (scaleG mults codes scales wg cg wu cu b r) (cd (ix1 n))

end Cert.MlpRow
-- ==== Proof.Mlp.Kernel.lean ====
module

public import proofs.«01_k».proof.Proof.Mlp.Body
public import proofs.«01_k».proof.Proof.Mlp.Target

@[expose] public section

set_option maxRecDepth 16384
noncomputable section
open Idealize.ShloMosaic Idealize.ShloMosaic.TcCoe Idealize.SL.Sem
open Idealize.ShloMosaic.Pipeline (Dat)
namespace Cert.MlpIdeal.Final
open Cert.MlpIdeal Cert.MlpIdeal.Gen
variable (m : (ℓ : Loc nD τ sig) → Buf (Elt Ideal) ℓ)

/-- The index maps of the windows. -/
theorem idx : ∀ t : Fin cfg0.N, win0_0.index t = ![0] ∧ win0_1.index t = ![t.val, 0, 0] ∧ win0_2.index t = ![t.val, 0, 0] ∧ win0_3.index t = ![t.val, 0, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![t.val, 0, 0] ∧ win0_11.index t = ![t.val, 0, 0] ∧ win0_12.index t = ![t.val, 0, 0] :=
  (by decide +kernel : ∀ t : Fin grid0.N, _)

/-! Every block read by a point is the argument array read at the point's sequence. -/

theorem blk0 (c : Dev nD) (t : Fin cfg0.N) (i : Fin 12) : iblk m c 0 t (ix1 i) = m ((c : Thread nD τ).loc main_arg0) (ix1 i) := by
  blk_point [iblk, V, idx t]

theorem blk1 (c : Dev nD) (t : Fin cfg0.N) (b : Fin 5) (hb : (b : ℕ) = t.val) (r : Fin 384) (k : Fin 2048) : iblk m c 1 t (ix3 0 r k) = m ((c : Thread nD τ).loc main_arg1) (ix3 b r k) := by
  blk_point [iblk, V, idx t]

theorem blk2 (c : Dev nD) (t : Fin cfg0.N) (b : Fin 5) (hb : (b : ℕ) = t.val) (r : Fin 384) : iblk m c 2 t (ix3 0 0 r) = m ((c : Thread nD τ).loc main_arg2) (ix3 b 0 r) := by
  blk_point [iblk, V, idx t]

theorem blk3 (c : Dev nD) (t : Fin cfg0.N) (b : Fin 5) (hb : (b : ℕ) = t.val) (r : Fin 384) (k : Fin 2048) : iblk m c 3 t (ix3 0 r k) = m ((c : Thread nD τ).loc main_arg3) (ix3 b r k) := by
  blk_point [iblk, V, idx t]

theorem blk4 (c : Dev nD) (t : Fin cfg0.N) (k : Fin 2048) (j : Fin 4096) : iblk m c 4 t (ix2 k j) = m ((c : Thread nD τ).loc main_arg4) (ix2 k j) := by
  blk_point [iblk, V, idx t]

theorem blk6 (c : Dev nD) (t : Fin cfg0.N) (k : Fin 2048) (j : Fin 4096) : iblk m c 6 t (ix2 k j) = m ((c : Thread nD τ).loc main_arg6) (ix2 k j) := by
  blk_point [iblk, V, idx t]

theorem blk8 (c : Dev nD) (t : Fin cfg0.N) (k : Fin 4096) (j : Fin 2048) : iblk m c 8 t (ix2 k j) = m ((c : Thread nD τ).loc main_arg8) (ix2 k j) := by
  blk_point [iblk, V, idx t]

theorem blk5 (c : Dev nD) (t : Fin cfg0.N) (j : Fin 4096) : iblk m c 5 t (ix2 0 j) = m ((c : Thread nD τ).loc main_arg5) (ix1 j) := by
  blk_point [iblk, V, idx t]

theorem blk7 (c : Dev nD) (t : Fin cfg0.N) (j : Fin 4096) : iblk m c 7 t (ix2 0 j) = m ((c : Thread nD τ).loc main_arg7) (ix1 j) := by
  blk_point [iblk, V, idx t]

theorem blk9 (c : Dev nD) (t : Fin cfg0.N) (j : Fin 2048) : iblk m c 9 t (ix2 0 j) = m ((c : Thread nD τ).loc main_arg9) (ix1 j) := by
  blk_point [iblk, V, idx t]

/-- The activations of a point's block are those of its sequence. -/
theorem act_blk (c : Dev nD) (t : Fin cfg0.N) (b : Fin 5) (hb : (b : ℕ) = t.val) (r : Fin 384) :
    Body.actAt (iblk m c 0 t) (iblk m c 1 t) (iblk m c 2 t) (iblk m c 4 t) (iblk m c 5 t) (iblk m c 6 t) (iblk m c 7 t) r
      = MlpRow.actG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) b r := by
  funext j
  unfold Body.actAt MlpRow.actG
  rw [blk0, blk2 m c t b hb, blk5, blk7, funext (blk1 m c t b hb r), funext fun k => blk4 m c t k j, funext fun k => blk6 m c t k j]

/-- The scale of a point's row is that of its sequence's token. -/
theorem scale_blk (c : Dev nD) (t : Fin cfg0.N) (b : Fin 5) (hb : (b : ℕ) = t.val) (r : Fin 384) :
    Body.scaleAt (iblk m c 0 t) (iblk m c 1 t) (iblk m c 2 t) (iblk m c 4 t) (iblk m c 5 t) (iblk m c 6 t) (iblk m c 7 t) r = MlpRow.scaleG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) b r := by
  unfold Body.scaleAt MlpRow.scaleG
  rw [act_blk m c t b hb]

/-- The code of a point's row is that of its sequence's token. -/
theorem code_blk (c : Dev nD) (t : Fin cfg0.N) (b : Fin 5) (hb : (b : ℕ) = t.val) (r : Fin 384) (j : Fin 4096) :
    MlpRow.code (Body.actAt (iblk m c 0 t) (iblk m c 1 t) (iblk m c 2 t) (iblk m c 4 t) (iblk m c 5 t) (iblk m c 6 t) (iblk m c 7 t) r j) (Body.scaleAt (iblk m c 0 t) (iblk m c 1 t) (iblk m c 2 t) (iblk m c 4 t) (iblk m c 5 t) (iblk m c 6 t) (iblk m c 7 t) r) = MlpRow.codeG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) b r j := by
  unfold MlpRow.codeG
  rw [act_blk m c t b hb, scale_blk m c t b hb]

/-- The output of a point's row is that of its sequence's token. -/
theorem out_blk (c : Dev nD) (t : Fin cfg0.N) (b : Fin 5) (hb : (b : ℕ) = t.val) (r : Fin 384) (n : Fin 2048) :
    MlpRow.down (iblk m c 0 t (ix1 6)) (iblk m c 3 t (ix3 0 r n)) (fun j => MlpRow.code (Body.actAt (iblk m c 0 t) (iblk m c 1 t) (iblk m c 2 t) (iblk m c 4 t) (iblk m c 5 t) (iblk m c 6 t) (iblk m c 7 t) r j) (Body.scaleAt (iblk m c 0 t) (iblk m c 1 t) (iblk m c 2 t) (iblk m c 4 t) (iblk m c 5 t) (iblk m c 6 t) (iblk m c 7 t) r))
      (fun j => iblk m c 8 t (ix2 j n)) (Body.scaleAt (iblk m c 0 t) (iblk m c 1 t) (iblk m c 2 t) (iblk m c 4 t) (iblk m c 5 t) (iblk m c 6 t) (iblk m c 7 t) r) (iblk m c 9 t (ix2 0 n)) = MlpRow.outG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b r n := by
  unfold MlpRow.outG
  rw [funext fun j => code_blk m c t b hb r j, scale_blk m c t b hb, blk0, blk3 m c t b hb, blk9, funext fun k => blk8 m c t k n]

/-- The scales of the codes, after the run. -/
theorem final12 (c : Dev nD) : (dats m 0 c).arrAt 12 (cfgs 0).N = fun i : S5x1x384.Idx => MlpRow.scaleG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (i 0) (i 2) := by
  refine (dats m 0 c).arrAt_eq_of_covers 12 _ (by decide +kernel) fun t _ y => ?_
  blk_simp
  rw [after0_12]
  have e0 : (((win0_12.blk t).view.emb y) 0 : ℕ) = t.val := by
    have : (y 0 : ℕ) < 1 := (y 0).isLt
    blk_simp [idx t] <;> omega
  have e2 : ((win0_12.blk t).view.emb y) 2 = y 2 := Fin.ext (by blk_simp [idx t])
  refine (Body.out12 c m t y).trans ?_
  exact (scale_blk m c t _ e0 (y 2)).trans (congrArg _ e2.symm)

/-- The codes of the activations, after the run. -/
theorem final11 (c : Dev nD) : (dats m 0 c).arrAt 11 (cfgs 0).N = fun i : S5x384x4096.Idx => MlpRow.codeG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (i 0) (i 1) (i 2) := by
  refine (dats m 0 c).arrAt_eq_of_covers 11 _ (by decide +kernel) fun t _ y => ?_
  blk_simp
  rw [after0_11]
  have e0 : (((win0_11.blk t).view.emb y) 0 : ℕ) = t.val := by
    have : (y 0 : ℕ) < 1 := (y 0).isLt
    blk_simp [idx t] <;> omega
  have e1 : ((win0_11.blk t).view.emb y) 1 = y 1 := Fin.ext (by blk_simp [idx t])
  have e2 : ((win0_11.blk t).view.emb y) 2 = y 2 := Fin.ext (by blk_simp [idx t])
  refine (Body.out11 c m t y).trans ?_
  exact (code_blk m c t _ e0 (y 1) (y 2)).trans (congrArg₂ _ e1.symm e2.symm)

/-- The layer's output, after the run. -/
theorem final10 (c : Dev nD) : (dats m 0 c).arrAt 10 (cfgs 0).N = fun i : S5x384x2048.Idx => MlpRow.outG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1) (i 2) := by
  refine (dats m 0 c).arrAt_eq_of_covers 10 _ (by decide +kernel) fun t _ y => ?_
  blk_simp
  rw [after0_10]
  have e0 : (((win0_10.blk t).view.emb y) 0 : ℕ) = t.val := by
    have : (y 0 : ℕ) < 1 := (y 0).isLt
    blk_simp [idx t] <;> omega
  have e1 : ((win0_10.blk t).view.emb y) 1 = y 1 := Fin.ext (by blk_simp [idx t])
  have e2 : ((win0_10.blk t).view.emb y) 2 = y 2 := Fin.ext (by blk_simp [idx t])
  refine (Body.out10 c m t y).trans ?_
  exact (out_blk m c t _ e0 (y 1) (y 2)).trans (congrArg₂ _ e1.symm e2.symm)
end Cert.MlpIdeal.Final
-- ==== Proof.Mlp.Reference.lean ====
module

public import proofs.«01_k».proof.Proof.Gen.MlpReferenceIdeal.Value
public import proofs.«01_k».proof.Proof.Mlp.Target
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
namespace Cert.MlpReferenceIdeal.Final
open Cert.MlpReferenceIdeal Cert.MlpReferenceIdeal.Gen
variable (m : (ℓ : Loc nD τ sig) → Buf (Elt Ideal) ℓ)

/-- The index maps of the windows. -/
theorem idx : ∀ t : Fin cfg0.N, win0_0.index t = ![0] ∧ win0_1.index t = ![0, 0, 0] ∧ win0_2.index t = ![0, 0] ∧ win0_3.index t = ![0, 0, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![0, 0, 0] ∧ win0_11.index t = ![0, 0, 0] ∧ win0_12.index t = ![0, 0, 0] :=
  (by decide +kernel : ∀ t : Fin grid0.N, _)

/-- Row `b * 384 + r` of the stacked tokens. -/
def row (b : Fin 5) (r : Fin 384) : Fin 1920 := ⟨b * 384 + r, by omega⟩

/-! ## The block's arithmetic at an entry -/

section
variable (v0 : Vec Ideal S5x384x2048 .fp8e4m3) (v2 : Vec Ideal S1920x1 .f32) (v4 : Vec Ideal S2048x4096 .fp8e4m3) (v5 : Vec Ideal S1x4096 .f32)
  (v12 : Elt Ideal .f32) (v15 : Vec Ideal S2048x4096 .fp8e4m3) (v16 : Vec Ideal S1x4096 .f32)

/-- An activation of the stacked tokens. -/
theorem act_at (b : Fin 5) (r : Fin 384) (j : Fin 4096) :
    k0_pay5 v0 v2 v4 v5 v12 v15 v16 (ix2 (row b r) j) = MlpRow.act v12 (fun k => v0 (ix3 b r k)) (v2 (ix2 (row b r) 0)) (fun k => v4 (ix2 k j)) (v5 (ix2 0 j)) (fun k => v15 (ix2 k j)) (v16 (ix2 0 j)) := by
  generalize hi : row b r = i
  have e : (i : ℕ) = b * 384 + r := by rw [← hi]; rfl
  have hb : ∀ h : (i : ℕ) / 384 < 5, (⟨(i : ℕ) / 384, h⟩ : Fin 5) = b := fun h => Fin.ext (by show (i : ℕ) / 384 = b; omega)
  have hr : ∀ h : (i : ℕ) % 384 < 384, (⟨(i : ℕ) % 384, h⟩ : Fin 384) = r := fun h => Fin.ext (by show (i : ℕ) % 384 = r; omega)
  unfold MlpRow.act
  pointwise [k0_pay5]
  simp only [hb, hr]
  try rfl

end

/-- The scales of rows with largest magnitudes `v27`. -/
def scalesOf (v27 : FVec Ideal S1920 .f32) : FVec Ideal S1920x1 .f32 :=
  have v28 : FVec Ideal S1920x1 .f32 := shapeCast S1920x1 v27 shapeCasts_S1920_S1920x1
  have cst_14 : Ideal .f32 := Scalar.ofBits .f32 0x00000000#32
  have v29 : FVec Ideal S1920x1 .f32 := broadcast S1920x1 cst_14
  have v30 : IVec S1920x1 1 := cmpf .oeq v28 v29
  have cst_15 : Ideal .f32 := Scalar.ofBits .f32 0x43E00000#32
  have v31 : FVec Ideal S1920x1 .f32 := broadcast S1920x1 cst_15
  have v32 : FVec Ideal S1920x1 .f32 := divf v28 v31
  have cst_16 : Ideal .f32 := Scalar.ofBits .f32 0x3F800000#32
  have v33 : FVec Ideal S1920x1 .f32 := broadcast S1920x1 cst_16
  have v34 : FVec Ideal S1920x1 .f32 := select v30 v33 v32
  v34

/-- The scale of a row with its largest magnitude given. -/
theorem scalesOf_apply (w : FVec Ideal S1920 .f32) (i : Fin 1920) :
    scalesOf w (ix2 i 0) = MlpRow.scale (w (ix1 i)) := by
  unfold MlpRow.scale
  pointwise [scalesOf]

/-- The largest magnitudes of the rows of an array. -/
def maxes (a : FVec Ideal S1920x4096 .f32) : FVec Ideal S1920 .f32 :=
  multiReduction (F := Ideal) .maximumf [1] S1920 (absf a) 0xFF800000#32 reduces_S1920x4096_S1920 (.inl rfl) rfl

/-- The reduction drops the column: its source index is the row and the column. -/
theorem lift_row (i : Fin 1920) (j : Fin 4096) : reduces_S1920x4096_S1920.lift (ix1 i) j = ix2 i j := by
  funext d; fin_cases d <;> rfl

/-- The largest magnitude of a row. -/
theorem maxes_apply (a : FVec Ideal S1920x4096 .f32) (i : Fin 1920) : maxes a (ix1 i) = MlpRow.rowMax fun j => a (ix2 i j) := by
  unfold MlpRow.rowMax maxes
  refine (Ideal.multiReduction_maximumf_single ..).trans ?_
  exact congrArg (fun f : Fin 4096 → EReal => Finset.univ.fold max (Ideal.ofBits FTy.f32 0xFF800000#32) f)
    (funext fun j => congrArg (fun k => FloatOps.absf (F := Ideal) (φ := .f32) (a k)) (lift_row i j))

/-- The scales of the rows of an array of activations. -/
def scales (a : FVec Ideal S1920x4096 .f32) : FVec Ideal S1920x1 .f32 := scalesOf (maxes a)

/-- The scale of a row. -/
theorem scales_apply (a : FVec Ideal S1920x4096 .f32) (i : Fin 1920) :
    scales a (ix2 i 0) = MlpRow.scale (MlpRow.rowMax fun j => a (ix2 i j)) := by
  unfold scales
  rw [scalesOf_apply, maxes_apply]

/-- The quotient a code is clipped from. -/
theorem quot_apply (a : FVec Ideal S1920x4096 .f32) (s : FVec Ideal S1920x1 .f32) (i : Fin 1920) (j : Fin 4096) :
    divf a (broadcastTo S1920x4096 s broadcasts_S1920x1_S1920x4096) (ix2 i j) = Ideal.div (a (ix2 i j)) (s (ix2 i 0)) := by
  pointwise []

section
variable (v0 : Vec Ideal S5x384x2048 .fp8e4m3) (v2 : Vec Ideal S1920x1 .f32) (v4 : Vec Ideal S2048x4096 .fp8e4m3) (v5 : Vec Ideal S1x4096 .f32)
  (v12 : Elt Ideal .f32) (v15 : Vec Ideal S2048x4096 .fp8e4m3) (v16 : Vec Ideal S1x4096 .f32)

theorem pay6_eq : k0_pay6 v0 v2 v4 v5 v12 v15 v16 = scales (k0_pay5 v0 v2 v4 v5 v12 v15 v16) := by
  unfold k0_pay6 scales scalesOf maxes
  generalize k0_pay5 (F := Ideal) v0 v2 v4 v5 v12 v15 v16 = a
  rfl

theorem pay7_eq : k0_pay7 v0 v2 v4 v5 v12 v15 v16 = divf (k0_pay5 v0 v2 v4 v5 v12 v15 v16) (broadcastTo S1920x4096 (scales (k0_pay5 v0 v2 v4 v5 v12 v15 v16)) broadcasts_S1920x1_S1920x4096) := by
  rw [← pay6_eq]
  unfold k0_pay7
  rfl
end

/-- A code read from the stacked rows. -/
theorem clip_at (q : Vec Ideal S1920x4096 .f32) (i : Fin 1920) (j : Fin 4096) :
    k0_pay1 (F := Ideal) q (FloatOps.ofBits FTy.f32 1138753536#32) k0_pay8 (ix2 i j)
      = min (Ideal.ofBits FTy.f32 0x43E00000#32) (max (Ideal.ofBits FTy.f32 0xC3E00000#32) (q (ix2 i j))) := by
  pointwise [k0_pay1, k0_pay8]
  try rfl

/-- The codes cut back into sequences. -/
theorem codes_at (q : Vec Ideal S1920x4096 .f32) (b : Fin 5) (r : Fin 384) (j : Fin 4096) :
    k0_pay3 (F := Ideal) q (FloatOps.ofBits FTy.f32 1138753536#32) k0_pay8 (ix3 b r j)
      = k0_pay1 (F := Ideal) q (FloatOps.ofBits FTy.f32 1138753536#32) k0_pay8 (ix2 (row b r) j) := by
  unfold k0_pay3
  generalize k0_pay1 (F := Ideal) q _ _ = w
  pointwise []
  try rfl

/-- The scales cut back into sequences. -/
theorem scales_at (s : Vec Ideal S1920x1 .f32) (b : Fin 5) (r : Fin 384) : k0_pay4 (F := Ideal) s (ix3 b 0 r) = s (ix2 (row b r) 0) := by
  pointwise [k0_pay4]
  try rfl

/-- An entry of the output. -/
theorem down_at (s : Vec Ideal S1920x1 .f32) (q : Vec Ideal S1920x4096 .f32) (h : Vec Ideal S5x384x2048 .f32) (w : Vec Ideal S4096x2048 .fp8e4m3) (cd : Vec Ideal S1x2048 .f32) (md : Elt Ideal .f32)
    (b : Fin 5) (r : Fin 384) (n : Fin 2048) :
    k0_pay2 (F := Ideal) s q (FloatOps.ofBits FTy.f32 1138753536#32) k0_pay8 h w cd md (ix3 b r n)
      = MlpRow.down md (h (ix3 b r n)) (fun j => k0_pay1 (F := Ideal) q (FloatOps.ofBits FTy.f32 1138753536#32) k0_pay8 (ix2 (row b r) j)) (fun j => w (ix2 j n)) (s (ix2 (row b r) 0)) (cd (ix2 0 n)) := by
  unfold k0_pay2 MlpRow.down
  generalize k0_pay1 (F := Ideal) q _ _ = v
  pointwise []
  try rfl

/-! ## The blocks read are the arguments -/

theorem blk1 (c : Dev nD) (b : Fin 5) (r : Fin 384) (k : Fin 2048) : iblk m c 1 t0_0 (ix3 b r k) = (m ((c : Thread nD τ).loc main_arg1)) (ix3 b r k) := by
  blk_point [iblk, V, idx t0_0]

theorem blk3 (c : Dev nD) (b : Fin 5) (r : Fin 384) (k : Fin 2048) : iblk m c 3 t0_0 (ix3 b r k) = (m ((c : Thread nD τ).loc main_arg3)) (ix3 b r k) := by
  blk_point [iblk, V, idx t0_0]

theorem blk4 (c : Dev nD) (k : Fin 2048) (j : Fin 4096) : iblk m c 4 t0_0 (ix2 k j) = (m ((c : Thread nD τ).loc main_arg4)) (ix2 k j) := by
  blk_point [iblk, V, idx t0_0]

theorem blk6 (c : Dev nD) (k : Fin 2048) (j : Fin 4096) : iblk m c 6 t0_0 (ix2 k j) = (m ((c : Thread nD τ).loc main_arg6)) (ix2 k j) := by
  blk_point [iblk, V, idx t0_0]

theorem blk8 (c : Dev nD) (k : Fin 4096) (j : Fin 2048) : iblk m c 8 t0_0 (ix2 k j) = (m ((c : Thread nD τ).loc main_arg8)) (ix2 k j) := by
  blk_point [iblk, V, idx t0_0]

theorem blk0 (c : Dev nD) (i : Fin 12) : iblk m c 0 t0_0 (ix1 i) = (m ((c : Thread nD τ).loc main_arg0)) (ix1 i) := by
  blk_point [iblk, V, idx t0_0]

theorem blk5 (c : Dev nD) (j : Fin 4096) : iblk m c 5 t0_0 (ix2 0 j) = (m ((c : Thread nD τ).loc main_arg5)) (ix1 j) := by
  blk_point [iblk, V, idx t0_0]

theorem blk7 (c : Dev nD) (j : Fin 4096) : iblk m c 7 t0_0 (ix2 0 j) = (m ((c : Thread nD τ).loc main_arg7)) (ix1 j) := by
  blk_point [iblk, V, idx t0_0]

theorem blk9 (c : Dev nD) (j : Fin 2048) : iblk m c 9 t0_0 (ix2 0 j) = (m ((c : Thread nD τ).loc main_arg9)) (ix1 j) := by
  blk_point [iblk, V, idx t0_0]

theorem blk2 (c : Dev nD) (b : Fin 5) (r : Fin 384) : iblk m c 2 t0_0 (ix2 (row b r) 0) = (m ((c : Thread nD τ).loc main_arg2)) (ix3 b 0 r) := by
  have h0 : ((row b r : Fin 1920) : ℕ) = b * 384 + r := rfl
  blk_point [iblk, V, idx t0_0]

/-- The activations of a token. -/
theorem act_blk (c : Dev nD) (b : Fin 5) (r : Fin 384) :
    (fun j => k0_pay5 (F := Ideal) (iblk m c 1 t0_0) (iblk m c 2 t0_0) (iblk m c 4 t0_0) (iblk m c 5 t0_0) (iblk m c 0 t0_0 (ix1 5)) (iblk m c 6 t0_0) (iblk m c 7 t0_0) (ix2 (row b r) j)) = MlpRow.actG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) b r := by
  funext j
  refine (act_at (iblk m c 1 t0_0) (iblk m c 2 t0_0) (iblk m c 4 t0_0) (iblk m c 5 t0_0) (iblk m c 0 t0_0 (ix1 5)) (iblk m c 6 t0_0) (iblk m c 7 t0_0) b r j).trans ?_
  unfold MlpRow.actG
  rw [blk0, blk2, blk5, blk7, funext (blk1 m c b r), funext fun k => blk4 m c k j, funext fun k => blk6 m c k j]

/-- The scale of a token. -/
theorem scale_blk (c : Dev nD) (b : Fin 5) (r : Fin 384) :
    k0_pay6 (F := Ideal) (iblk m c 1 t0_0) (iblk m c 2 t0_0) (iblk m c 4 t0_0) (iblk m c 5 t0_0) (iblk m c 0 t0_0 (ix1 5)) (iblk m c 6 t0_0) (iblk m c 7 t0_0) (ix2 (row b r) 0) = MlpRow.scaleG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) b r := by
  rw [pay6_eq]
  exact (scales_apply _ _).trans (congrArg (fun a => MlpRow.scale (MlpRow.rowMax a)) (act_blk m c b r))

/-- The code of a token at a column. -/
theorem code_blk (c : Dev nD) (b : Fin 5) (r : Fin 384) (j : Fin 4096) :
    k0_pay1 (F := Ideal) (k0_pay7 (F := Ideal) (iblk m c 1 t0_0) (iblk m c 2 t0_0) (iblk m c 4 t0_0) (iblk m c 5 t0_0) (iblk m c 0 t0_0 (ix1 5)) (iblk m c 6 t0_0) (iblk m c 7 t0_0)) (FloatOps.ofBits FTy.f32 1138753536#32) k0_pay8 (ix2 (row b r) j) = MlpRow.codeG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) b r j := by
  rw [pay7_eq]
  refine (clip_at _ _ _).trans ?_
  rw [quot_apply, ← pay6_eq, scale_blk]
  exact congrArg (fun a => MlpRow.code a (MlpRow.scaleG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) b r)) (congrFun (act_blk m c b r) j)

/-- A multiplier read from the twelve. -/
theorem mult_read (k : ℕ) (hk : k < 12) (x : Vec Ideal S12 .f32) (i0 : ∀ a, (![k] : Fin 1 → ℕ) a + (![1] : Fin 1 → ℕ) a ≤ S12.size a)
    (z : (Rect.unit (s := S12) ![k] ![1] i0).shape.Idx) : View.ld x (Rect.unit ![k] ![1] i0) z = x (ix1 ⟨k, hk⟩) := by
  rw [View.ld_unit]; refine congrArg x (funext fun a => Fin.ext ?_)
  match a with
  | 0 => have : (z 0 : ℕ) < 1 := (z 0).isLt
         show k + (z 0 : ℕ) = k; omega

/-- The gate's multiplier. -/
theorem mult5 (x : Vec Ideal S12 .f32) (i0 : ∀ a, (![5] : Fin 1 → ℕ) a + (![1] : Fin 1 → ℕ) a ≤ S12.size a) (z : (Rect.unit (s := S12) ![5] ![1] i0).shape.Idx) :
    View.ld x (Rect.unit ![5] ![1] i0) z = x (ix1 5) := mult_read 5 (by decide) x i0 z

/-- The down product's multiplier. -/
theorem mult6 (x : Vec Ideal S12 .f32) (i0 : ∀ a, (![6] : Fin 1 → ℕ) a + (![1] : Fin 1 → ℕ) a ≤ S12.size a) (z : (Rect.unit (s := S12) ![6] ![1] i0).shape.Idx) :
    View.ld x (Rect.unit ![6] ![1] i0) z = x (ix1 6) := mult_read 6 (by decide) x i0 z

/-- The scales of the codes, after the run. -/
theorem final12 (c : Dev nD) : (dats m 0 c).arrAt 12 (cfgs 0).N = fun i : S5x1x384.Idx => MlpRow.scaleG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (i 0) (i 2) := by
  refine (dats m 0 c).arrAt_eq_of_after_last 12 t0_0 (by decide +kernel) _ fun j => ?_
  blk_simp
  rw [after0_12]; frame_out
  have hj : (j : S5x1x384.Idx) = ix3 (j 0) 0 (j 2) := by
    funext d; fin_cases d
    · rfl
    · exact Fin.ext (by have : (j 1 : ℕ) < 1 := (j 1).isLt
                        show (j 1 : ℕ) = 0; omega)
    · rfl
  refine (congrFun (g := k0_pay4 (F := Ideal) (k0_pay6 (iblk m c 1 t0_0) (iblk m c 2 t0_0) (iblk m c 4 t0_0) (iblk m c 5 t0_0) (iblk m c 0 t0_0 (ix1 5)) (iblk m c 6 t0_0) (iblk m c 7 t0_0))) ?_ j).trans ?_
  · simp only [read_unread_whole]
    exact congrArg (fun v => k0_pay4 (F := Ideal) (k0_pay6 (iblk m c 1 t0_0) (iblk m c 2 t0_0) (iblk m c 4 t0_0) (iblk m c 5 t0_0) v (iblk m c 6 t0_0) (iblk m c 7 t0_0))) (mult5 _ _ _)
  · refine (congrArg _ hj).trans ((scales_at _ (j 0) (j 2)).trans (scale_blk m c (j 0) (j 2)))

/-- The codes of the activations, after the run. -/
theorem final11 (c : Dev nD) : (dats m 0 c).arrAt 11 (cfgs 0).N = fun i : S5x384x4096.Idx => MlpRow.codeG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (i 0) (i 1) (i 2) := by
  refine (dats m 0 c).arrAt_eq_of_after_last 11 t0_0 (by decide +kernel) _ fun j => ?_
  blk_simp
  rw [after0_11]; frame_out
  have hj : (j : S5x384x4096.Idx) = ix3 (j 0) (j 1) (j 2) := by
    funext d; fin_cases d <;> rfl
  refine (congrFun (g := k0_pay3 (F := Ideal) (k0_pay7 (iblk m c 1 t0_0) (iblk m c 2 t0_0) (iblk m c 4 t0_0) (iblk m c 5 t0_0) (iblk m c 0 t0_0 (ix1 5)) (iblk m c 6 t0_0) (iblk m c 7 t0_0)) (FloatOps.ofBits FTy.f32 1138753536#32) k0_pay8) ?_ j).trans ?_
  · simp only [read_unread_whole]
    exact congrArg (fun v => k0_pay3 (F := Ideal) (k0_pay7 (iblk m c 1 t0_0) (iblk m c 2 t0_0) (iblk m c 4 t0_0) (iblk m c 5 t0_0) v (iblk m c 6 t0_0) (iblk m c 7 t0_0)) (FloatOps.ofBits FTy.f32 1138753536#32) k0_pay8) (mult5 _ _ _)
  · refine (congrArg _ hj).trans ((codes_at _ (j 0) (j 1) (j 2)).trans (code_blk m c (j 0) (j 1) (j 2)))

/-- An output entry from the blocks. -/
theorem out_blk (c : Dev nD) (b : Fin 5) (r : Fin 384) (n : Fin 2048) :
    k0_pay2 (F := Ideal) (k0_pay6 (iblk m c 1 t0_0) (iblk m c 2 t0_0) (iblk m c 4 t0_0) (iblk m c 5 t0_0) (iblk m c 0 t0_0 (ix1 5)) (iblk m c 6 t0_0) (iblk m c 7 t0_0)) (k0_pay7 (iblk m c 1 t0_0) (iblk m c 2 t0_0) (iblk m c 4 t0_0) (iblk m c 5 t0_0) (iblk m c 0 t0_0 (ix1 5)) (iblk m c 6 t0_0) (iblk m c 7 t0_0)) (FloatOps.ofBits FTy.f32 1138753536#32) k0_pay8 (iblk m c 3 t0_0) (iblk m c 8 t0_0) (iblk m c 9 t0_0) (iblk m c 0 t0_0 (ix1 6)) (ix3 b r n)
      = MlpRow.outG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b r n := by
  refine (down_at _ _ _ _ _ _ b r n).trans ?_
  unfold MlpRow.outG
  rw [funext fun j => code_blk m c b r j, scale_blk m c b r, blk0, blk3 m c b r, blk9, funext fun k => blk8 m c k n]

/-- The layer's output, after the run. -/
theorem final10 (c : Dev nD) : (dats m 0 c).arrAt 10 (cfgs 0).N = fun i : S5x384x2048.Idx => MlpRow.outG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1) (i 2) := by
  refine (dats m 0 c).arrAt_eq_of_after_last 10 t0_0 (by decide +kernel) _ fun j => ?_
  blk_simp
  rw [after0_10]
  unfold outsAt0
  frame_out
  have hj : (j : S5x384x2048.Idx) = ix3 (j 0) (j 1) (j 2) := by
    funext d; fin_cases d <;> rfl
  refine (congrFun (g := k0_pay2 (F := Ideal) (k0_pay6 (iblk m c 1 t0_0) (iblk m c 2 t0_0) (iblk m c 4 t0_0) (iblk m c 5 t0_0) (iblk m c 0 t0_0 (ix1 5)) (iblk m c 6 t0_0) (iblk m c 7 t0_0)) (k0_pay7 (iblk m c 1 t0_0) (iblk m c 2 t0_0) (iblk m c 4 t0_0) (iblk m c 5 t0_0) (iblk m c 0 t0_0 (ix1 5)) (iblk m c 6 t0_0) (iblk m c 7 t0_0)) (FloatOps.ofBits FTy.f32 1138753536#32) k0_pay8 (iblk m c 3 t0_0) (iblk m c 8 t0_0) (iblk m c 9 t0_0) (iblk m c 0 t0_0 (ix1 6))) ?_ j).trans ?_
  · simp only [read_unread_whole]
    exact congrArg₂ (fun v w => k0_pay2 (F := Ideal) (k0_pay6 (iblk m c 1 t0_0) (iblk m c 2 t0_0) (iblk m c 4 t0_0) (iblk m c 5 t0_0) v (iblk m c 6 t0_0) (iblk m c 7 t0_0)) (k0_pay7 (iblk m c 1 t0_0) (iblk m c 2 t0_0) (iblk m c 4 t0_0) (iblk m c 5 t0_0) v (iblk m c 6 t0_0) (iblk m c 7 t0_0)) (FloatOps.ofBits FTy.f32 1138753536#32) k0_pay8 (iblk m c 3 t0_0) (iblk m c 8 t0_0) (iblk m c 9 t0_0) w) (mult5 _ _ _) (mult6 _ _ _)
  · exact (congrArg _ hj).trans (out_blk m c (j 0) (j 1) (j 2))
end Cert.MlpReferenceIdeal.Final
-- ==== Proof.Mlp.Algebraic.lean ====
module

public import proofs.«01_k».proof.Defs
public import proofs.«01_k».proof.Proof.Mlp.Kernel
public import proofs.«01_k».proof.Proof.Mlp.Reference

@[expose] public section

/-!
The MLP kernel and its reference end with the same three arrays: each side's arrays are the formulas of
`Proof/Mlp/Target.lean` over that side's arguments, and the arguments agree.
-/
noncomputable section
open Idealize.ShloMosaic Idealize.ShloMosaic.TcCoe Idealize.SL.Sem
namespace Cert.Proof

/-- From memories agreeing on the arguments, the kernel's and the reference's output, codes and scales are equal. -/
theorem mlp : Cert.algebraic_MlpIdeal_MlpReferenceIdeal (hMlpIdeal := Cert.MlpIdeal.Gen.facts) (hMlpReferenceIdeal := Cert.MlpReferenceIdeal.Gen.facts) := by
  intro m g m' g' _ hagree
  refine ⟨fun c i => MlpRow.outG (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (i 0) (i 1) (i 2),
    fun c i => MlpRow.codeG (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (i 0) (i 1) (i 2),
    fun c i => MlpRow.scaleG (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (i 0) (i 2), ?_, ?_⟩
  · refine (θ_run _ _ _).mono (fun r h c => ?_) (Cert.MlpIdeal.Value.run_blocks m g)
    obtain ⟨h0, h1, h2, hargs⟩ := h c
    exact ⟨h0.trans (Cert.MlpIdeal.Final.final10 m c), h1.trans (Cert.MlpIdeal.Final.final11 m c), h2.trans (Cert.MlpIdeal.Final.final12 m c), hargs⟩
  · refine (θ_run _ _ _).mono (fun r h c => ?_) (Cert.MlpReferenceIdeal.Value.run_blocks m' g')
    obtain ⟨h0, h1, h2, hargs⟩ := h c
    obtain ⟨a0, a1, a2, a3, a4, a5, a6, a7, a8, a9⟩ := hagree c
    refine ⟨h0.trans ((Cert.MlpReferenceIdeal.Final.final10 m' c).trans ?_), h1.trans ((Cert.MlpReferenceIdeal.Final.final11 m' c).trans ?_),
      h2.trans ((Cert.MlpReferenceIdeal.Final.final12 m' c).trans ?_), hargs⟩
    · rw [a0, a1, a2, a3, a4, a5, a6, a7, a8, a9]; rfl
    · rw [a0, a1, a2, a4, a5, a6, a7]; rfl
    · rw [a0, a1, a2, a4, a5, a6, a7]; rfl
end Cert.Proof
-- ==== Proof.InProj.Spec.lean ====
/-
  The input projection of one token row, in plain formulas over the extended reals. Both programs are shown to compute these: a row
  is normalised and quantised, its codes go against the columns of the projection weights, and the entries are rotated, quantised,
  gated or convolved.
-/
module

public import proofs.«01_k».proof.Proof.Mlp.Spec

@[expose] public section

noncomputable section
namespace Cert.InRow
open Idealize.ShloMosaic

/-- One entry of the normalised row: `x / sqrt(mean(x²) + ε)` times the weight `g`. -/
def hid (x g : Fin 2048 → EReal) (k : Fin 2048) : EReal :=
  Ideal.div (x k) (Ideal.sqrt (Ideal.div (∑ j, x j * x j) (Ideal.ofBits FTy.f32 0x45000000#32) + Ideal.ofBits FTy.f32 0x3727C5AC#32)) * g k

/-- The largest magnitude of a row. -/
def rowMax (a : Fin 2048 → EReal) : EReal :=
  Finset.univ.fold max (Ideal.ofBits FTy.f32 0xFF800000#32) fun j => FloatOps.absf (F := Ideal) (φ := .f32) (a j)

/-- The scale of the normalised row. -/
def scaleOf (x g : Fin 2048 → EReal) : EReal := MlpRow.scale (rowMax (hid x g))

/-- The codes of the normalised row. -/
def codeOf (x g : Fin 2048 → EReal) (k : Fin 2048) : EReal := MlpRow.code (hid x g k) (scaleOf x g)

/-- A row of codes `q` against a column `w` of the weights, times the row's scale `s` and the column's scale `c`. -/
def proj (q w : Fin 2048 → EReal) (s c : EReal) : EReal := (∑ k, q k * w k) * s * c

/-- `v` times the logistic function of `v`. -/
def silu (v : EReal) : EReal := v * Ideal.logistic v

/-- The four-tap convolution with weights `w` on the values `p`, and the bias `b`. -/
def conv (b w0 w1 w2 w3 p0 p1 p2 p3 : EReal) : EReal := b + (w0 * p0 + w1 * p1 + w2 * p2 + w3 * p3)

/-- The rotated first half of a head. -/
def rotA (a b c s : EReal) : EReal := a * c - b * s

/-- The rotated second half of a head. -/
def rotB (a b c s : EReal) : EReal := b * c + a * s

/-- A head's entries `v` rotated by the angles with cosines `c` and sines `s`. -/
def rope (v : Fin 128 → EReal) (c s : Fin 64 → EReal) (d : Fin 128) : EReal :=
  if h : (d : ℕ) < 64 then rotA (v ⟨d, by omega⟩) (v ⟨64 + d, by omega⟩) (c ⟨d, h⟩) (s ⟨d, h⟩)
  else rotB (v ⟨d - 64, by omega⟩) (v ⟨64 + (d - 64), by omega⟩) (c ⟨d - 64, by omega⟩) (s ⟨d - 64, by omega⟩)

/-- Three kept values `p`, then a sequence's values `v`. -/
def padded (p : Fin 3 → EReal) (v : Fin 384 → EReal) (i : Fin 387) : EReal :=
  if h : (i : ℕ) < 3 then p ⟨i, h⟩ else v ⟨i - 3, by omega⟩

/-- A value at column `j` of the convolved columns, times the multiplier of its segment: `x` (1536 columns), `B` or `C` (256 each). -/
def segX (mx mb mc : EReal) (j : Fin 2048) (v : EReal) : EReal :=
  if (j : ℕ) < 1536 then v * mx else if (j : ℕ) < 1792 then v * mb else v * mc

/-- The softplus `log(1 + exp v)`, in the form `max(v, 0) + log1p(exp(-|v|))`. -/
def softplus (v : EReal) : EReal := max v 0 + Ideal.log1p (Ideal.exp (0 - FloatOps.absf (F := Ideal) (φ := .f32) v))

end Cert.InRow
-- ==== Proof.InProj.KerPay.lean ====
module
public import proofs.«01_k».proof.Proof.Gen.InProjIdeal.Skeleton
public import proofs.«01_k».proof.Proof.InProj.Spec
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.InProjIdeal.Body
open Cert.InProjIdeal Cert.InProjIdeal.Gen

/-! ## Thirty-two rows of the block, normalised and quantised -/

section
variable (x : Vec Ideal S1x32x2048 .bf16) (g : Vec Ideal S1x2048 .f32)

/-- An entry of the normalised rows. -/
theorem hid_at (r : Fin 32) (k : Fin 2048) : k0_pay2 x g (ix2 r k) = InRow.hid (fun k => x (ix3 0 r k)) (fun k => g (ix2 0 k)) k := by
  pointwise [k0_pay2, InRow.hid]
  try rfl

/-- The reduction drops the column: its source index is the row and the column. -/
theorem lift_row (i : Fin 32) (j : Fin 2048) : reduces_S32x2048_S32.lift (ix1 i) j = ix2 i j := by
  funext d; fin_cases d <;> rfl

/-- The scale of a row. -/
theorem scale_at (r : Fin 32) : k0_pay3 x g (ix2 r 0) = InRow.scaleOf (fun k => x (ix3 0 r k)) (fun k => g (ix2 0 k)) := by
  unfold InRow.scaleOf InRow.rowMax
  have h : multiReduction (F := Ideal) .maximumf [1] S32 (absf (k0_pay2 x g)) 0xFF800000#32 reduces_S32x2048_S32 (.inl rfl) rfl (ix1 r)
      = Finset.univ.fold max (Ideal.ofBits FTy.f32 0xFF800000#32) fun j => FloatOps.absf (F := Ideal) (φ := .f32) (InRow.hid (fun k => x (ix3 0 r k)) (fun k => g (ix2 0 k)) j) := by
    refine (Ideal.multiReduction_maximumf_single ..).trans ?_
    exact congrArg (fun f : Fin 2048 → EReal => Finset.univ.fold max (Ideal.ofBits FTy.f32 0xFF800000#32) f)
      (funext fun j => congrArg (fun k => FloatOps.absf (F := Ideal) (φ := .f32) k) ((congrArg (k0_pay2 x g) (lift_row r j)).trans (hid_at x g r j)))
  rw [← h]
  unfold k0_pay3 MlpRow.scale
  generalize multiReduction (F := Ideal) .maximumf [1] S32 (absf (k0_pay2 x g)) 0xFF800000#32 reduces_S32x2048_S32 (.inl rfl) rfl = w
  pointwise []

/-- A code of a row. -/
theorem code_at (r : Fin 32) (k : Fin 2048) : k0_pay4 x g (ix3 0 r k) = InRow.codeOf (fun k => x (ix3 0 r k)) (fun k => g (ix2 0 k)) k := by
  unfold InRow.codeOf
  rw [← hid_at, ← scale_at]
  unfold k0_pay4 MlpRow.code
  generalize k0_pay2 (F := Ideal) x g = a
  generalize k0_pay3 (F := Ideal) x g = s
  pointwise []
  try rfl

/-- The scale of a row, repeated along the lanes. -/
theorem lanes_at (r : Fin 32) (l : Fin 128) : k0_pay6 (k0_pay5 x g) (ix2 r l) = InRow.scaleOf (fun k => x (ix3 0 r k)) (fun k => g (ix2 0 k)) := by
  rw [← scale_at]
  unfold k0_pay6 k0_pay5
  generalize k0_pay3 (F := Ideal) x g = s
  pointwise []
  try rfl
end

/-! ## The block's results from the scales `S` and the codes `Q` -/

section
variable (S : Vec Ideal S384x128 .f32) (Q : Vec Ideal S1x384x2048 .fp8e4m3) (w : Vec Ideal S256x2048 .fp8e4m3) (c : Vec Ideal S1x256 .f32)
  (σ : Fin 384 → EReal) (κ : Fin 384 → Fin 2048 → EReal)

/-- An entry of the projection on the column block. -/
def blkP (r : Fin 384) (j : Fin 256) : EReal := InRow.proj (κ r) (fun k => w (ix2 j k)) (σ r) (c (ix2 0 j))

/-- The scales as a result row. -/
theorem h1s_at (hS : ∀ r l, S (ix2 r l) = σ r) (r : Fin 384) : k0_pay7 S (ix3 0 0 r) = σ r := by
  pointwise [k0_pay7]
  exact hS _ _

/-- The scales, repeated along two hundred and fifty-six lanes. -/
theorem s2_at (hS : ∀ r l, S (ix2 r l) = σ r) (r : Fin 384) (j : Fin 256) : k0_pay8 S (ix2 r j) = σ r := by
  pointwise [k0_pay8]
  simp only [hS, ite_self, dite_eq_ite]

/-- The codes as a matrix. -/
theorem q2_at (hQ : ∀ r k, Q (ix3 0 r k) = κ r k) (r : Fin 384) (k : Fin 2048) : k0_pay9 Q (ix2 r k) = κ r k := by
  pointwise [k0_pay9]
  exact hQ _ _

variable (s2 : FVec Ideal S384x256 .f32) (q2 : FVec Ideal S384x2048 .fp8e4m3)

/-- The projection times a multiplier. -/
theorem pm_at (hs : ∀ r j, s2 (ix2 r j) = σ r) (hq : ∀ r k, q2 (ix2 r k) = κ r k) (m : Elt Ideal .f32) (r : Fin 384) (j : Fin 256) :
    k0_pay20 s2 q2 m w c (ix2 r j) = blkP w c σ κ r j * m := by
  unfold blkP InRow.proj
  pointwise [k0_pay20]
  simp only [hs, hq]
  try rfl

/-- The even query head of the block, rotated and turned. -/
def qA (m : Elt Ideal .f32) (cs sn : Vec Ideal S1x64x384 .f32) : FVec Ideal S1x1x128x384 .bf16 := k0_pay22 (k0_pay21 s2 q2 m w c) cs sn
/-- The odd query head of the block, rotated and turned. -/
def qB (m : Elt Ideal .f32) (cs sn : Vec Ideal S1x64x384 .f32) : FVec Ideal S1x1x128x384 .bf16 := k0_pay23 (k0_pay20 s2 q2 m w c) cs sn

/-- The rotated query of the first head of a 256-column block, at an entry. -/
theorem qA_at (hs : ∀ r j, s2 (ix2 r j) = σ r) (hq : ∀ r k, q2 (ix2 r k) = κ r k) (m : Elt Ideal .f32) (cs sn : Vec Ideal S1x64x384 .f32) (d : Fin 128) (r : Fin 384) :
    qA w c s2 q2 m cs sn (ix4 0 0 d r) = InRow.rope (fun d => blkP w c σ κ r ⟨d, by omega⟩ * m) (fun k => cs (ix3 0 k r)) (fun k => sn (ix3 0 k r)) d := by
  simp only [← pm_at w c σ κ s2 q2 hs hq]
  unfold qA k0_pay21 InRow.rope InRow.rotA InRow.rotB
  generalize k0_pay20 (F := Ideal) s2 q2 m w c = P
  pointwise [k0_pay22]
  try rfl

/-- The rotated query of the second head of a 256-column block, at an entry. -/
theorem qB_at (hs : ∀ r j, s2 (ix2 r j) = σ r) (hq : ∀ r k, q2 (ix2 r k) = κ r k) (m : Elt Ideal .f32) (cs sn : Vec Ideal S1x64x384 .f32) (d : Fin 128) (r : Fin 384) :
    qB w c s2 q2 m cs sn (ix4 0 0 d r) = InRow.rope (fun d => blkP w c σ κ r ⟨128 + d, by omega⟩ * m) (fun k => cs (ix3 0 k r)) (fun k => sn (ix3 0 k r)) d := by
  simp only [← pm_at w c σ κ s2 q2 hs hq]
  unfold qB InRow.rope InRow.rotA InRow.rotB
  generalize k0_pay20 (F := Ideal) s2 q2 m w c = P
  pointwise [k0_pay23]
  try rfl

/-- The projection times a product of two multipliers. -/
theorem pmm_at (hs : ∀ r j, s2 (ix2 r j) = σ r) (hq : ∀ r k, q2 (ix2 r k) = κ r k) (m mx : Elt Ideal .f32) (r : Fin 384) (j : Fin 256) :
    k0_pay132 s2 q2 m w c mx (ix2 r j) = blkP w c σ κ r j * (m * mx) := by
  unfold blkP InRow.proj
  pointwise [k0_pay132]
  simp only [hs, hq]
  try rfl

/-- The codes of the first key head. -/
def kA (m mx : Elt Ideal .f32) (cs sn : Vec Ideal S1x64x384 .f32) (sc : Elt Ideal .f32) : FVec Ideal S1x1x384x128 .fp8e4m3 :=
  k0_pay43 (k0_pay39 s2 q2 m w c mx) (k0_pay40 cs) (k0_pay41 sn) (k0_pay42 s2 q2 m w c mx) sc
/-- The codes of the second key head. -/
def kB (m mx : Elt Ideal .f32) (cs sn : Vec Ideal S1x64x384 .f32) (sc : Elt Ideal .f32) : FVec Ideal S1x1x384x128 .fp8e4m3 :=
  k0_pay45 (k0_pay44 (k0_pay38 s2 q2 m w c mx) cs sn sc)

/-- The key code of the first head of a 256-column block, at an entry. -/
theorem kA_at (hs : ∀ r j, s2 (ix2 r j) = σ r) (hq : ∀ r k, q2 (ix2 r k) = κ r k) (m mx : Elt Ideal .f32) (cs sn : Vec Ideal S1x64x384 .f32) (sc : Elt Ideal .f32) (r : Fin 384) (d : Fin 128) :
    kA w c s2 q2 m mx cs sn sc (ix4 0 0 r d)
      = MlpRow.code (InRow.rope (fun d => blkP w c σ κ r ⟨d, by omega⟩ * (m * mx)) (fun k => cs (ix3 0 k r)) (fun k => sn (ix3 0 k r)) d) sc := by
  have e : k0_pay38 s2 q2 m w c mx = k0_pay132 s2 q2 m w c mx := rfl
  simp only [← pmm_at w c σ κ s2 q2 hs hq]
  unfold kA k0_pay42 k0_pay39 InRow.rope InRow.rotA InRow.rotB MlpRow.code
  rw [e]
  generalize k0_pay132 (F := Ideal) s2 q2 m w c mx = P
  pointwise [k0_pay43, k0_pay40, k0_pay41]
  try rfl

/-- The key code of the second head of a 256-column block, at an entry. -/
theorem kB_at (hs : ∀ r j, s2 (ix2 r j) = σ r) (hq : ∀ r k, q2 (ix2 r k) = κ r k) (m mx : Elt Ideal .f32) (cs sn : Vec Ideal S1x64x384 .f32) (sc : Elt Ideal .f32) (r : Fin 384) (d : Fin 128) :
    kB w c s2 q2 m mx cs sn sc (ix4 0 0 r d)
      = MlpRow.code (InRow.rope (fun d => blkP w c σ κ r ⟨128 + d, by omega⟩ * (m * mx)) (fun k => cs (ix3 0 k r)) (fun k => sn (ix3 0 k r)) d) sc := by
  have e : k0_pay38 s2 q2 m w c mx = k0_pay132 s2 q2 m w c mx := rfl
  simp only [← pmm_at w c σ κ s2 q2 hs hq]
  unfold kB InRow.rope InRow.rotA InRow.rotB MlpRow.code
  rw [e]
  generalize k0_pay132 (F := Ideal) s2 q2 m w c mx = P
  pointwise [k0_pay45, k0_pay44]
  try rfl

/-- The value code of the first head of a 256-column block, at an entry. -/
theorem vA_at (hs : ∀ r j, s2 (ix2 r j) = σ r) (hq : ∀ r k, q2 (ix2 r k) = κ r k) (m : Elt Ideal .f32) (sc : Elt Ideal .f32) (r : Fin 384) (d : Fin 128) :
    k0_pay47 s2 q2 m w c sc (ix4 0 0 r d) = MlpRow.code (blkP w c σ κ r ⟨d, by omega⟩ * m) sc := by
  have e : k0_pay46 s2 q2 m w c = k0_pay20 s2 q2 m w c := rfl
  simp only [← pm_at w c σ κ s2 q2 hs hq]
  unfold k0_pay47 MlpRow.code
  rw [e]
  generalize k0_pay20 (F := Ideal) s2 q2 m w c = P
  pointwise []
  try rfl

/-- The codes of the second value head. -/
def vB (m : Elt Ideal .f32) (sc : Elt Ideal .f32) : FVec Ideal S1x1x384x128 .fp8e4m3 := k0_pay49 (k0_pay48 s2 q2 m w c sc)

/-- The value code of the second head of a 256-column block, at an entry. -/
theorem vB_at (hs : ∀ r j, s2 (ix2 r j) = σ r) (hq : ∀ r k, q2 (ix2 r k) = κ r k) (m : Elt Ideal .f32) (sc : Elt Ideal .f32) (r : Fin 384) (d : Fin 128) :
    vB w c s2 q2 m sc (ix4 0 0 r d) = MlpRow.code (blkP w c σ κ r ⟨128 + d, by omega⟩ * m) sc := by
  have e : k0_pay46 s2 q2 m w c = k0_pay20 s2 q2 m w c := rfl
  simp only [← pm_at w c σ κ s2 q2 hs hq]
  unfold vB k0_pay48 MlpRow.code
  rw [e]
  generalize k0_pay20 (F := Ideal) s2 q2 m w c = P
  pointwise [k0_pay49]
  try rfl

/-- A gate of a 256-column block, at an entry. -/
theorem z_at (hs : ∀ r j, s2 (ix2 r j) = σ r) (hq : ∀ r k, q2 (ix2 r k) = κ r k) (m mx : Elt Ideal .f32) (r : Fin 384) (j : Fin 256) :
    k0_pay50 s2 q2 m w c mx (ix3 0 r j) = InRow.silu (blkP w c σ κ r j * (m * mx)) := by
  unfold blkP InRow.proj InRow.silu
  pointwise [k0_pay50]
  simp only [hs, hq]
  try rfl

/-- The last three rows of a 256-column block before the convolution, at an entry. -/
theorem tl_at (hs : ∀ r j, s2 (ix2 r j) = σ r) (hq : ∀ r k, q2 (ix2 r k) = κ r k) (m mx : Elt Ideal .f32) (p : Fin 3) (j : Fin 256) :
    k0_pay133 s2 q2 m w c mx (ix3 0 p j) = blkP w c σ κ ⟨381 + p, by omega⟩ j * (m * mx) := by
  rw [← pmm_at w c σ κ s2 q2 hs hq]
  unfold k0_pay133
  generalize k0_pay132 (F := Ideal) s2 q2 m w c mx = P
  pointwise []
  try rfl

/-- The first hundred and twenty-eight columns of the block, kept for the convolution. -/
theorem pA_at (hs : ∀ r j, s2 (ix2 r j) = σ r) (hq : ∀ r k, q2 (ix2 r k) = κ r k) (m mx : Elt Ideal .f32) (r : Fin 384) (j : Fin 128) :
    k0_pay135 s2 q2 m w c mx (ix3 0 r j) = blkP w c σ κ r ⟨j, by omega⟩ * (m * mx) := by
  rw [← pmm_at w c σ κ s2 q2 hs hq]
  unfold k0_pay135
  generalize k0_pay132 (F := Ideal) s2 q2 m w c mx = P
  pointwise []
  try rfl

/-- The last hundred and twenty-eight columns of the block, kept for the convolution. -/
def pB (m mx : Elt Ideal .f32) : FVec Ideal S1x384x128 .f32 := k0_pay140 (k0_pay139 (k0_pay132 s2 q2 m w c mx))

/-- The second half of a 256-column block before the convolution, at an entry. -/
theorem pB_at (hs : ∀ r j, s2 (ix2 r j) = σ r) (hq : ∀ r k, q2 (ix2 r k) = κ r k) (m mx : Elt Ideal .f32) (r : Fin 384) (j : Fin 128) :
    pB w c s2 q2 m mx (ix3 0 r j) = blkP w c σ κ r ⟨128 + j, by omega⟩ * (m * mx) := by
  rw [← pmm_at w c σ κ s2 q2 hs hq]
  unfold pB
  generalize k0_pay132 (F := Ideal) s2 q2 m w c mx = P
  pointwise [k0_pay140, k0_pay139]
  try rfl

/-- The logits of the step sizes, and their softplus. -/
theorem dt_at (hS : ∀ r l, S (ix2 r l) = σ r) (hq : ∀ r k, q2 (ix2 r k) = κ r k) (m mx : Elt Ideal .f32) (wd : Vec Ideal S24x2048 .fp8e4m3) (cd : Vec Ideal S1x128 .f32)
    (bd : Vec Ideal S32x1 .f32) (h : Fin 32) (r : Fin 384) :
    k0_pay1 (k0_pay143 S q2 m wd cd mx) bd (ix3 0 h r)
      = InRow.softplus ((if hh : (h : ℕ) < 24 then InRow.proj (κ r) (fun k => wd (ix2 ⟨h, hh⟩ k)) (σ r) (cd (ix2 0 ⟨h, by omega⟩)) * (m * mx) else 0) + bd (ix2 h 0)) := by
  have e : k0_pay143 S q2 m wd cd mx (ix2 h r)
      = if hh : (h : ℕ) < 24 then InRow.proj (κ r) (fun k => wd (ix2 ⟨h, hh⟩ k)) (σ r) (cd (ix2 0 ⟨h, by omega⟩)) * (m * mx) else 0 := by
    unfold InRow.proj
    pointwise [k0_pay143]
    simp only [hS, hq]
    have hz : Ideal.ofBits FTy.fp8e4m3 0#8 = 0 := Ideal.ofBits_zero FTy.fp8e4m3
    split <;> simp [*]
  rw [← e]
  generalize k0_pay143 (F := Ideal) S q2 m wd cd mx = P
  unfold InRow.softplus
  pointwise [k0_pay1]
  simp only [ne_eq, not_true_eq_false, if_false]
end

/-- The kept values, stored unchanged. -/
theorem cst_at (x : Vec Ideal S1x3x128 .f32) (p : Fin 3) (j : Fin 128) : k0_pay138 x (ix3 0 p j) = x (ix3 0 p j) := by
  pointwise [k0_pay138]
  try rfl

/-- The convolution with four taps, its bias, and `silu`. -/
theorem conv_at (w0 w1 w2 w3 b : Vec Ideal S1x128 .f32) (v0 v1 v2 v3 : Vec Ideal S1x384x128 .f32) (r : Fin 384) (j : Fin 128) :
    k0_pay131 w0 v0 w1 v1 w2 v2 w3 v3 b (ix3 0 r j)
      = InRow.silu (InRow.conv (b (ix2 0 j)) (w0 (ix2 0 j)) (w1 (ix2 0 j)) (w2 (ix2 0 j)) (w3 (ix2 0 j)) (v0 (ix3 0 r j)) (v1 (ix3 0 r j)) (v2 (ix3 0 r j)) (v3 (ix3 0 r j))) := by
  unfold InRow.silu InRow.conv
  pointwise [k0_pay131]
  try rfl

/-! ## The same computations, cut into other pieces -/

section
variable (S : Vec Ideal S384x128 .f32) (Q : Vec Ideal S1x384x2048 .fp8e4m3) (w : Vec Ideal S256x2048 .fp8e4m3) (c : Vec Ideal S1x256 .f32)
  (s2 : FVec Ideal S384x256 .f32) (q2 : FVec Ideal S384x2048 .fp8e4m3) (m mx : Elt Ideal .f32) (cs sn : Vec Ideal S1x64x384 .f32)
/-- The rotated queries of one column block, written another way, are the same value. -/
theorem q0_eq : k0_pay18 (k0_pay12 cs) (k0_pay13 sn) (k0_pay14 S Q m w c) (k0_pay15 S Q m w c) (k0_pay16 S Q m w c cs) (k0_pay17 S Q m w c sn) = qA w c (k0_pay8 S) (k0_pay9 Q) m cs sn := rfl
/-- The rotated queries of one column block, written another way, are the same value. -/
theorem q1_eq : k0_pay19 (k0_pay10 S Q m w c) cs sn = qB w c (k0_pay8 S) (k0_pay9 Q) m cs sn := rfl
/-- The rotated queries of one column block, written another way, are the same value. -/
theorem q4_eq : k0_pay25 s2 q2 m w c cs sn = qA w c s2 q2 m cs sn := rfl
/-- The rotated queries of one column block, written another way, are the same value. -/
theorem q5_eq : k0_pay33 (k0_pay27 cs) (k0_pay28 sn) (k0_pay29 s2 q2 m w c) (k0_pay30 s2 q2 m w c) (k0_pay31 s2 q2 m w c cs) (k0_pay32 s2 q2 m w c sn) = qB w c s2 q2 m cs sn := rfl
/-- The rotated queries of one column block, written another way, are the same value. -/
theorem q6_eq : k0_pay35 s2 q2 m w c cs sn = qA w c s2 q2 m cs sn := rfl
/-- The rotated queries of one column block, written another way, are the same value. -/
theorem q7_eq : k0_pay37 (k0_pay36 s2 q2 m w c) cs sn = qB w c s2 q2 m cs sn := rfl
/-- The gates of one column block, written another way, are the same value. -/
theorem z1_eq : k0_pay51 s2 q2 m w c mx = k0_pay50 s2 q2 m w c mx := rfl
/-- The gates of one column block, written another way, are the same value. -/
theorem z2_eq : k0_pay52 s2 q2 m w c mx = k0_pay50 s2 q2 m w c mx := rfl
/-- The gates of one column block, written another way, are the same value. -/
theorem z3_eq : k0_pay53 s2 q2 m w c mx = k0_pay50 s2 q2 m w c mx := rfl
/-- The gates of one column block, written another way, are the same value. -/
theorem z4_eq : k0_pay55 m (k0_pay54 s2 q2 w) c mx = k0_pay50 s2 q2 m w c mx := rfl
/-- The gates of one column block, written another way, are the same value. -/
theorem z5_eq : k0_pay56 s2 q2 m w c mx = k0_pay50 s2 q2 m w c mx := rfl
/-- The last three rows of one column block, written another way, are the same value. -/
theorem t0_eq : k0_pay59 m (k0_pay57 s2 q2 w c) mx = k0_pay133 s2 q2 m w c mx := rfl
/-- The last three rows of one column block, written another way, are the same value. -/
theorem t1_eq : k0_pay71 m (k0_pay68 s2 q2 w) (k0_pay69 c) mx = k0_pay133 s2 q2 m w c mx := rfl
/-- The last three rows of one column block, written another way, are the same value. -/
theorem t2_eq : k0_pay82 m (k0_pay80 s2 q2 w) c mx = k0_pay133 s2 q2 m w c mx := rfl
/-- The last three rows of one column block, written another way, are the same value. -/
theorem t3_eq : k0_pay92 m (k0_pay90 s2 q2 w) c mx = k0_pay133 s2 q2 m w c mx := rfl
/-- The last three rows of one column block, written another way, are the same value. -/
theorem t4_eq : k0_pay102 s2 m (k0_pay100 q2 w) c mx = k0_pay133 s2 q2 m w c mx := rfl
/-- The last three rows of one column block, written another way, are the same value. -/
theorem t5_eq : k0_pay113 s2 q2 m (k0_pay111 w) c mx = k0_pay133 s2 q2 m w c mx := rfl
/-- The last three rows of one column block, written another way, are the same value. -/
theorem t6_eq : k0_pay123 s2 q2 m w c mx = k0_pay133 s2 q2 m w c mx := rfl
/-- The first half of one column block, written another way, is the same value. -/
theorem e0_eq : k0_pay61 m (k0_pay57 s2 q2 w c) mx = k0_pay135 s2 q2 m w c mx := rfl
/-- The first half of one column block, written another way, is the same value. -/
theorem e1_eq : k0_pay73 m (k0_pay68 s2 q2 w) (k0_pay69 c) mx = k0_pay135 s2 q2 m w c mx := rfl
/-- The first half of one column block, written another way, is the same value. -/
theorem e2_eq : k0_pay84 m (k0_pay80 s2 q2 w) c mx = k0_pay135 s2 q2 m w c mx := rfl
/-- The first half of one column block, written another way, is the same value. -/
theorem e3_eq : k0_pay94 m (k0_pay90 s2 q2 w) c mx = k0_pay135 s2 q2 m w c mx := rfl
/-- The first half of one column block, written another way, is the same value. -/
theorem e4_eq : k0_pay104 s2 m (k0_pay100 q2 w) c mx = k0_pay135 s2 q2 m w c mx := rfl
/-- The first half of one column block, written another way, is the same value. -/
theorem e5_eq : k0_pay115 s2 q2 m (k0_pay111 w) c mx = k0_pay135 s2 q2 m w c mx := rfl
/-- The first half of one column block, written another way, is the same value. -/
theorem e6_eq : k0_pay125 s2 q2 m w c mx = k0_pay135 s2 q2 m w c mx := rfl
/-- The second half of one column block, written another way, is the same value. -/
theorem o0_eq : k0_pay65 (k0_pay58 m (k0_pay57 s2 q2 w c) mx) = pB w c s2 q2 m mx := rfl
/-- The second half of one column block, written another way, is the same value. -/
theorem o1_eq : k0_pay77 (k0_pay70 m (k0_pay68 s2 q2 w) (k0_pay69 c) mx) = pB w c s2 q2 m mx := rfl
/-- The second half of one column block, written another way, is the same value. -/
theorem o2_eq : k0_pay88 (k0_pay81 m (k0_pay80 s2 q2 w) c mx) = pB w c s2 q2 m mx := rfl
/-- The second half of one column block, written another way, is the same value. -/
theorem o3_eq : k0_pay98 (k0_pay91 m (k0_pay90 s2 q2 w) c mx) = pB w c s2 q2 m mx := rfl
/-- The second half of one column block, written another way, is the same value. -/
theorem o4_eq : k0_pay109 (k0_pay101 s2 m (k0_pay100 q2 w) c mx) = pB w c s2 q2 m mx := rfl
/-- The second half of one column block, written another way, is the same value. -/
theorem o5_eq : k0_pay120 (k0_pay112 s2 q2 m (k0_pay111 w) c mx) = pB w c s2 q2 m mx := rfl
/-- The second half of one column block, written another way, is the same value. -/
theorem o6_eq : k0_pay130 (k0_pay129 (k0_pay122 s2 q2 m w c mx)) = pB w c s2 q2 m mx := rfl
end

section
variable (w0 w1 w2 w3 b : Vec Ideal S1x128 .f32) (v0 v1 v2 v3 : Vec Ideal S1x384x128 .f32)
/-- The convolution of one column group, written another way, is the same value. -/
theorem c0_eq : k0_pay63 (k0_pay62 w0 v0 w1 v1) w2 v2 w3 v3 b = k0_pay131 w0 v0 w1 v1 w2 v2 w3 v3 b := rfl
/-- The convolution of one column group, written another way, is the same value. -/
theorem c1_eq : k0_pay67 (k0_pay66 w0 v0) w1 v1 w2 v2 w3 v3 b = k0_pay131 w0 v0 w1 v1 w2 v2 w3 v3 b := rfl
/-- The convolution of one column group, written another way, is the same value. -/
theorem c2_eq : k0_pay75 (k0_pay74 w0 v0 w1 v1) w2 v2 w3 v3 b = k0_pay131 w0 v0 w1 v1 w2 v2 w3 v3 b := rfl
/-- The convolution of one column group, written another way, is the same value. -/
theorem c3_eq : k0_pay79 w0 (k0_pay78 v0) w1 v1 w2 v2 w3 v3 b = k0_pay131 w0 v0 w1 v1 w2 v2 w3 v3 b := rfl
/-- The convolution of one column group, written another way, is the same value. -/
theorem c4_eq : k0_pay86 (k0_pay85 w0 v0 w1 v1) w2 v2 w3 v3 b = k0_pay131 w0 v0 w1 v1 w2 v2 w3 v3 b := rfl
/-- The convolution of one column group, written another way, is the same value. -/
theorem c5_eq : k0_pay89 w0 v0 w1 v1 w2 v2 w3 v3 b = k0_pay131 w0 v0 w1 v1 w2 v2 w3 v3 b := rfl
/-- The convolution of one column group, written another way, is the same value. -/
theorem c6_eq : k0_pay96 (k0_pay95 w0 v0 w1 v1) w2 v2 w3 v3 b = k0_pay131 w0 v0 w1 v1 w2 v2 w3 v3 b := rfl
/-- The convolution of one column group, written another way, is the same value. -/
theorem c7_eq : k0_pay99 w0 v0 w1 v1 w2 v2 w3 v3 b = k0_pay131 w0 v0 w1 v1 w2 v2 w3 v3 b := rfl
/-- The convolution of one column group, written another way, is the same value. -/
theorem c8_eq : k0_pay107 (k0_pay105 w0 v0) (k0_pay106 w1 v1) w2 v2 w3 v3 b = k0_pay131 w0 v0 w1 v1 w2 v2 w3 v3 b := rfl
/-- The convolution of one column group, written another way, is the same value. -/
theorem c9_eq : k0_pay110 w0 v0 w1 v1 w2 v2 w3 v3 b = k0_pay131 w0 v0 w1 v1 w2 v2 w3 v3 b := rfl
/-- The convolution of one column group, written another way, is the same value. -/
theorem c10_eq : k0_pay118 (k0_pay116 w0 v0) w1 (k0_pay117 v1) w2 v2 w3 v3 b = k0_pay131 w0 v0 w1 v1 w2 v2 w3 v3 b := rfl
/-- The convolution of one column group, written another way, is the same value. -/
theorem c11_eq : k0_pay121 w0 v0 w1 v1 w2 v2 w3 v3 b = k0_pay131 w0 v0 w1 v1 w2 v2 w3 v3 b := rfl
/-- The convolution of one column group, written another way, is the same value. -/
theorem c12_eq : k0_pay127 (k0_pay126 w0 v0) w1 v1 w2 v2 w3 v3 b = k0_pay131 w0 v0 w1 v1 w2 v2 w3 v3 b := rfl
/-- The convolution of one column group, written another way, is the same value. -/
theorem c14_eq : k0_pay137 (k0_pay136 w0 v0) w1 v1 w2 v2 w3 v3 b = k0_pay131 w0 v0 w1 v1 w2 v2 w3 v3 b := rfl
/-- The convolution of one column group, written another way, is the same value. -/
theorem c15_eq : k0_pay142 (k0_pay141 w0 v0 w1 v1 w2 v2 w3 v3 b) = k0_pay131 w0 v0 w1 v1 w2 v2 w3 v3 b := rfl
end

section
variable (x : Vec Ideal S1x3x128 .f32)
/-- The same cast and reshape under another name. -/
theorem s60_eq : k0_pay60 x = k0_pay138 x := rfl
/-- The same cast and reshape under another name. -/
theorem s64_eq : k0_pay64 x = k0_pay138 x := rfl
/-- The same cast and reshape under another name. -/
theorem s72_eq : k0_pay72 x = k0_pay138 x := rfl
/-- The same cast and reshape under another name. -/
theorem s76_eq : k0_pay76 x = k0_pay138 x := rfl
/-- The same cast and reshape under another name. -/
theorem s83_eq : k0_pay83 x = k0_pay138 x := rfl
/-- The same cast and reshape under another name. -/
theorem s87_eq : k0_pay87 x = k0_pay138 x := rfl
/-- The same cast and reshape under another name. -/
theorem s93_eq : k0_pay93 x = k0_pay138 x := rfl
/-- The same cast and reshape under another name. -/
theorem s97_eq : k0_pay97 x = k0_pay138 x := rfl
/-- The same cast and reshape under another name. -/
theorem s103_eq : k0_pay103 x = k0_pay138 x := rfl
/-- The same cast and reshape under another name. -/
theorem s108_eq : k0_pay108 x = k0_pay138 x := rfl
/-- The same cast and reshape under another name. -/
theorem s114_eq : k0_pay114 x = k0_pay138 x := rfl
/-- The same cast and reshape under another name. -/
theorem s119_eq : k0_pay119 x = k0_pay138 x := rfl
/-- The same cast and reshape under another name. -/
theorem s124_eq : k0_pay124 x = k0_pay138 x := rfl
/-- The same cast and reshape under another name. -/
theorem s128_eq : k0_pay128 x = k0_pay138 x := rfl
/-- The same cast and reshape under another name. -/
theorem s134_eq : k0_pay134 x = k0_pay138 x := rfl
end
end Cert.InProjIdeal.Body
-- ==== Proof.InProj.Loop.lean ====
module
public import proofs.«01_k».proof.Proof.Gen.InProjIdeal.Loops
public import proofs.«01_k».proof.Proof.InProj.KerPay
public import Idealize.ShloMosaic.Lib.Ring
@[expose] public section
set_option maxRecDepth 16384
noncomputable section
open Idealize.ShloMosaic Idealize.ShloMosaic.TcCoe Idealize.SL.Sem
namespace Cert.InProjIdeal.Body
open Cert.InProjIdeal Cert.InProjIdeal.Gen

/-- The scale of row `r` of the block `x`, with the weights `g` of the norm. -/
def sgm (x : Vec Ideal S1x384x2048 .bf16) (g : Vec Ideal S1x2048 .f32) (r : Fin 384) : EReal := InRow.scaleOf (fun k => x (ix3 0 r k)) (fun k => g (ix2 0 k))
/-- The codes of row `r` of the block `x`. -/
def kap (x : Vec Ideal S1x384x2048 .bf16) (g : Vec Ideal S1x2048 .f32) (r : Fin 384) (k : Fin 2048) : EReal := InRow.codeOf (fun k => x (ix3 0 r k)) (fun k => g (ix2 0 k)) k

/-- The first row of the rows read at a turn of the loop. -/
theorem off1_1 (k : Fin k0_t1_loop.trips) : k0_off1 k 1 = 32 * k := by rw [k0_off1_eq]; rfl
/-- The rows are read from column zero. -/
theorem off1_2 (k : Fin k0_t1_loop.trips) : k0_off1 k 2 = 0 := by rw [k0_off1_eq]; rfl
/-- The first row of the scales written at a turn of the loop. -/
theorem off2_0 (k : Fin k0_t1_loop.trips) : k0_off2 k 0 = 32 * k := by rw [k0_off2_eq]; rfl

section
variable (𝒱 : Variants) (c : Dev nD) (bd : Option 𝒱.V) (i : grid0.Coords)
  (arg1 : Memref sig .tc .smem S12 .f32) (harg1 : arg1.IsWhole)
  (arg2 : Memref sig .tc .smem S2 .f32) (harg2 : arg2.IsWhole)
  (arg3 : Memref sig .tc .smem S2 .f32) (harg3 : arg3.IsWhole)
  (arg4 : Memref sig .tc .vmem S1x384x2048 .bf16) (harg4 : arg4.IsWhole)
  (arg5 : Memref sig .tc .vmem S1x2048 .f32) (harg5 : arg5.IsWhole)
  (arg6 : Memref sig .tc .vmem S5120x2048 .fp8e4m3) (harg6 : arg6.IsWhole)
  (arg7 : Memref sig .tc .vmem S24x2048 .fp8e4m3) (harg7 : arg7.IsWhole)
  (arg8 : Memref sig .tc .vmem S1x5120 .f32) (harg8 : arg8.IsWhole)
  (arg9 : Memref sig .tc .vmem S1x128 .f32) (harg9 : arg9.IsWhole)
  (arg10 : Memref sig .tc .vmem S1x64x384 .f32) (harg10 : arg10.IsWhole)
  (arg11 : Memref sig .tc .vmem S1x64x384 .f32) (harg11 : arg11.IsWhole)
  (arg12 : Memref sig .tc .vmem S1x3x2048 .f32) (harg12 : arg12.IsWhole)
  (arg13 : Memref sig .tc .vmem S4x2048 .f32) (harg13 : arg13.IsWhole)
  (arg14 : Memref sig .tc .vmem S1x2048 .f32) (harg14 : arg14.IsWhole)
  (arg15 : Memref sig .tc .vmem S32x1 .f32) (harg15 : arg15.IsWhole)
  (arg16 : Memref sig .tc .vmem S1x384x2048 .fp8e4m3) (harg16 : arg16.IsWhole)
  (arg17 : Memref sig .tc .vmem S1x1x384 .f32) (harg17 : arg17.IsWhole)
  (arg18 : Memref sig .tc .vmem S1x2x128x1536 .bf16) (harg18 : arg18.IsWhole)
  (arg19 : Memref sig .tc .vmem S1x2x384x128 .fp8e4m3) (harg19 : arg19.IsWhole)
  (arg20 : Memref sig .tc .vmem S1x2x384x128 .fp8e4m3) (harg20 : arg20.IsWhole)
  (arg21 : Memref sig .tc .vmem S1x384x1536 .f32) (harg21 : arg21.IsWhole)
  (arg22 : Memref sig .tc .vmem S1x384x2048 .f32) (harg22 : arg22.IsWhole)
  (arg23 : Memref sig .tc .vmem S1x32x384 .f32) (harg23 : arg23.IsWhole)
  (arg24 : Memref sig .tc .vmem S1x3x2048 .f32) (harg24 : arg24.IsWhole)
  (arg25 : Memref sig .tc .vmem S384x128 .f32) (harg25 : arg25.IsWhole)
  (arg26 : Memref sig .tc .vmem S2x392x128 .f32) (harg26 : arg26.IsWhole)
  (x : Vec Ideal S1x384x2048 .bf16) (g : Vec Ideal S1x2048 .f32)

/-- The rows read by trip `k`. -/
theorem rows_at (k : Fin k0_t1_loop.trips) (ib) (r : Fin 32) (j : Fin 2048) (r' : Fin 384) (h : (r' : ℕ) = 32 * k + r) :
    View.readAt (Elt Ideal) arg4.view (Rect.unit (s := S1x384x2048) (k0_off1 k) ![1, 32, 2048] ib).toLoadRect (harg4.unread x) (ix3 0 r j) = x (ix3 0 r' j) := by
  rw [View.readAt_eq_ld, Memref.IsWhole.read_unread]
  refine congrArg x (funext fun a => Fin.ext ?_)
  match a with
  | 0 => rfl
  | 1 => show k0_off1 k 1 + 1 * (r : ℕ) = r'; rw [k0_off1_eq, h]; show 32 * (k : ℕ) + 1 * (r : ℕ) = _; omega
  | 2 => show k0_off1 k 2 + 1 * (j : ℕ) = j; rw [k0_off1_eq]; show 0 + 1 * (j : ℕ) = _; omega

/-- The norm's weights, read whole. -/
theorem gain_at (ib) (j : Fin 2048) :
    View.readAt (Elt Ideal) arg5.view (Rect.unit (s := S1x2048) ![0, 0] ![1, 2048] ib).toLoadRect (harg5.unread g) (ix2 0 j) = g (ix2 0 j) := by
  rw [View.readAt_eq_ld, Memref.IsWhole.read_unread]
  refine congrArg g (funext fun a => Fin.ext ?_)
  match a with
  | 0 => rfl
  | 1 => show 0 + 1 * (j : ℕ) = (j : ℕ); omega

/-- Every piece of codes that the loop stores agrees with the codes of the block's rows. -/
theorem codes_pieces (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg4.unread x) (harg5.unread g) n).1, ∀ y, p.2 y = (fun z : S1x384x2048.Idx => kap x g (z 1) (z 2)) (p.1.emb y) := by
  induction n with
  | zero => intro p hp; rw [pb_k0_t1.eq_1] at hp; exact absurd hp (List.not_mem_nil)
  | succ n ih =>
    intro p hp y
    rw [pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg4.unread x) (harg5.unread g) ⟨n, hn⟩] at hp
    rcases List.mem_append.mp hp with hp | hp
    · unfold tripL_k0_t1 trip_k0_t1 at hp
      dsimp only at hp
      obtain rfl := List.mem_singleton.mp hp
      have hk : n < 12 := Nat.lt_of_lt_of_le hn k0_t1_abs.2.1
      have hy : y = ix3 0 (y 1) (y 2) := by funext a; match a with | 0 => exact Subsingleton.elim (α := Fin 1) _ _ | 1 => rfl | 2 => rfl
      have h1 : (y 1 : ℕ) < 32 := (y 1).isLt
      dsimp only
      rw [hy]
      refine (code_at _ _ _ _).trans ?_
      have e : ∀ j, View.readAt (Elt Ideal) arg4.view (Rect.unit (s := S1x384x2048) (k0_off1 ⟨n, hn⟩) ![1, 32, 2048] (k0_off1_inb ⟨n, hn⟩)).toLoadRect (harg4.unread x) (ix3 0 (y 1) j) = x (ix3 0 (⟨32 * n + (y 1 : ℕ), by omega⟩ : Fin 384) j) := fun j => rows_at arg4 harg4 x ⟨n, hn⟩ _ _ _ _ rfl
      refine (congrArg₂ (fun u v => InRow.codeOf u v (y 2)) (funext e) (funext fun j => gain_at arg5 harg5 g _ j)).trans ?_
      have e1 : ((Rect.unit (s := S1x384x2048) (k0_off1 ⟨n, hn⟩) ![1, 32, 2048] (k0_off1_inb ⟨n, hn⟩)).emb (ix3 0 (y 1) (y 2)) 1) = (⟨32 * n + (y 1 : ℕ), by omega⟩ : Fin 384) := Fin.ext (by
        refine (congrArg (fun a => a + 1 * (y 1 : ℕ)) (off1_1 ⟨n, hn⟩)).trans ?_; show 32 * n + 1 * (y 1 : ℕ) = 32 * n + (y 1 : ℕ); omega)
      have e2 : ((Rect.unit (s := S1x384x2048) (k0_off1 ⟨n, hn⟩) ![1, 32, 2048] (k0_off1_inb ⟨n, hn⟩)).emb (ix3 0 (y 1) (y 2)) 2) = y 2 := Fin.ext (by
        refine (congrArg (fun a => a + 1 * (y 2 : ℕ)) (off1_2 ⟨n, hn⟩)).trans ?_; show 0 + 1 * (y 2 : ℕ) = (y 2 : ℕ); omega)
      exact (congrArg₂ (kap x g) e1 e2).symm
    · exact ih (Nat.le_of_lt hn) p hp y

/-- Every piece of scales that the loop stores agrees with the scales of the block's rows. -/
theorem scales_pieces (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg4.unread x) (harg5.unread g) n).2, ∀ y, p.2 y = (fun z : S384x128.Idx => sgm x g (z 0)) (p.1.emb y) := by
  induction n with
  | zero => intro p hp; rw [pb_k0_t1.eq_1] at hp; exact absurd hp (List.not_mem_nil)
  | succ n ih =>
    intro p hp y
    rw [pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg4.unread x) (harg5.unread g) ⟨n, hn⟩] at hp
    rcases List.mem_append.mp hp with hp | hp
    · unfold tripL_k0_t1 trip_k0_t1 at hp
      dsimp only at hp
      obtain rfl := List.mem_singleton.mp hp
      have hk : n < 12 := Nat.lt_of_lt_of_le hn k0_t1_abs.2.1
      have hy : y = ix2 (y 0) (y 1) := by funext a; match a with | 0 => rfl | 1 => rfl
      have h1 : (y 0 : ℕ) < 32 := (y 0).isLt
      dsimp only
      rw [hy]
      unfold trip_k0_t1.sl.r
      refine (lanes_at _ _ _ _).trans ?_
      have e : ∀ j, View.readAt (Elt Ideal) arg4.view (Rect.unit (s := S1x384x2048) (k0_off1 ⟨n, hn⟩) ![1, 32, 2048] (k0_off1_inb ⟨n, hn⟩)).toLoadRect (harg4.unread x) (ix3 0 (y 0) j) = x (ix3 0 (⟨32 * n + (y 0 : ℕ), by omega⟩ : Fin 384) j) := fun j => rows_at arg4 harg4 x ⟨n, hn⟩ _ _ _ _ rfl
      refine (congrArg₂ (fun u v => InRow.scaleOf u v) (funext e) (funext fun j => gain_at arg5 harg5 g _ j)).trans ?_
      have e1 : ((Rect.unit (s := S384x128) (k0_off2 ⟨n, hn⟩) ![32, 128] (k0_off2_inb ⟨n, hn⟩)).emb (ix2 (y 0) (y 1)) 0) = (⟨32 * n + (y 0 : ℕ), by omega⟩ : Fin 384) := Fin.ext (by
        refine (congrArg (fun a => a + 1 * (y 0 : ℕ)) (off2_0 ⟨n, hn⟩)).trans ?_; show 32 * n + 1 * (y 0 : ℕ) = 32 * n + (y 0 : ℕ); omega)
      exact (congrArg (sgm x g) e1).symm
    · exact ih (Nat.le_of_lt hn) p hp y

/-- The codes after the loop. -/
theorem codes_canon (y : S1x384x2048.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg4.unread x) (harg5.unread g) (Scf.trips k0_t1_loop.lb k0_t1_loop.ub k0_t1_loop.st)).1 y = kap x g (y 1) (y 2) :=
  View.canon_apply_of_pieces (fun z : S1x384x2048.Idx => kap x g (z 1) (z 2)) _ (codes_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x g _ (le_refl _)) y
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg4.unread x) (harg5.unread g) (Scf.trips k0_t1_loop.lb k0_t1_loop.ub k0_t1_loop.st)).1 S1x32x2048.size (by sl_kernel_rfl) y)

/-- The scales after the loop. -/
theorem scales_canon (y : S384x128.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg4.unread x) (harg5.unread g) (Scf.trips k0_t1_loop.lb k0_t1_loop.ub k0_t1_loop.st)).2 y = sgm x g (y 0) :=
  View.canon_apply_of_pieces (fun z : S384x128.Idx => sgm x g (z 0)) _ (scales_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x g _ (le_refl _)) y
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg4.unread x) (harg5.unread g) (Scf.trips k0_t1_loop.lb k0_t1_loop.ub k0_t1_loop.st)).2 S32x128.size (by sl_kernel_rfl) y)

/-- The codes read back after the loop. -/
theorem codes_read (ib) (r : Fin 384) (k : Fin 2048) :
    arg16.view.readCov (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg4.unread x) (harg5.unread g) (Scf.trips k0_t1_loop.lb k0_t1_loop.ub k0_t1_loop.st)).1 (Rect.unit (s := S1x384x2048) ![0, 0, 0] S1x384x2048.size ib).toLoadRect (ix3 0 r k) = kap x g r k := by
  rw [View.readCov_eq_canon']
  refine (codes_canon 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x g _).trans (congrArg₂ (kap x g) (Fin.ext ?_) (Fin.ext ?_))
  · show 0 + 1 * (r : ℕ) = r; omega
  · show 0 + 1 * (k : ℕ) = k; omega

/-- The scales read back after the loop. -/
theorem scales_read (v : View Cert.InProjIdeal.sig .tc .vmem S384x128 .f32) (ib) (r : Fin 384) (l : Fin 128) :
    v.readCov (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg4.unread x) (harg5.unread g) (Scf.trips k0_t1_loop.lb k0_t1_loop.ub k0_t1_loop.st)).2 (Rect.unit (s := S384x128) ![0, 0] S384x128.size ib).toLoadRect (ix2 r l) = sgm x g r := by
  rw [View.readCov_eq_canon']
  refine (scales_canon 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x g _).trans (congrArg (sgm x g) (Fin.ext ?_))
  show 0 + 1 * (r : ℕ) = r; omega
end

/-! ## The padded sequence of one column group -/

/-- A read of the scratch of the padded sequence at tap `k`: the three kept values, then the block's. -/
theorem pad_read (v : View Cert.InProjIdeal.sig .tc .vmem S2x392x128 .f32) (p : Fin 2) (k : ℕ) (hk : k < 4)
    (L : List (View.Piece (Elt Ideal) S2x392x128 .f32)) (A : Vec Ideal S1x384x128 .f32) (B : Vec Ideal S1x3x128 .f32)
    (ia : ∀ a, (![(p : ℕ), 8, 0] : Fin 3 → ℕ) a + S1x384x128.size a ≤ S2x392x128.size a)
    (ib : ∀ a, (![(p : ℕ), 5, 0] : Fin 3 → ℕ) a + S1x3x128.size a ≤ S2x392x128.size a)
    (ir : ∀ a, (![(p : ℕ), 5 + k, 0] : Fin 3 → ℕ) a + S1x384x128.size a ≤ S2x392x128.size a) (r : Fin 384) (j : Fin 128) :
    v.readCov ((⟨Rect.unit (s := S2x392x128) ![(p : ℕ), 8, 0] S1x384x128.size ia, A⟩ : View.Piece (Elt Ideal) S2x392x128 .f32)
        :: (⟨Rect.unit (s := S2x392x128) ![(p : ℕ), 5, 0] S1x3x128.size ib, B⟩ : View.Piece (Elt Ideal) S2x392x128 .f32) :: L)
      (Rect.unit (s := S2x392x128) ![(p : ℕ), 5 + k, 0] S1x384x128.size ir).toLoadRect (ix3 0 r j)
      = InRow.padded (fun q => B (ix3 0 q j)) (fun s => A (ix3 0 s j)) ⟨k + r, by omega⟩ := by
  rw [View.readCov_eq_canon']
  beta_reduce
  have hj : (j : ℕ) < 128 := j.isLt
  unfold InRow.padded
  have ez : ∀ z : S2x392x128.Idx, (z 0 : ℕ) = p → (z 1 : ℕ) = 5 + k + r → (z 2 : ℕ) = j →
      (Rect.unit (s := S2x392x128) ![(p : ℕ), 5 + k, 0] S1x384x128.size ir).toLoadRect.idx (ix3 0 r j) = z := fun z h0 h1 h2 => funext fun a => Fin.ext (by
    match a with
    | 0 => exact Eq.trans (by show (p : ℕ) + 1 * 0 = p; omega) h0.symm
    | 1 => exact Eq.trans (by show 5 + k + 1 * (r : ℕ) = 5 + k + r; omega) h1.symm
    | 2 => exact Eq.trans (by show 0 + 1 * (j : ℕ) = j; omega) h2.symm)
  by_cases h : k + (r : ℕ) < 3
  · rw [dif_pos h]
    rw [ez ((Rect.unit (s := S2x392x128) ![(p : ℕ), 5, 0] S1x3x128.size ib).emb (ix3 0 ⟨k + r, h⟩ j)) (by show (p : ℕ) + 1 * 0 = p; omega) (by show 5 + 1 * (k + (r : ℕ)) = 5 + k + r; omega) (by show 0 + 1 * (j : ℕ) = j; omega)]
    rw [View.canon_cons_of_not_mem, View.canon_cons_emb]
    intro hm
    have h1 := ((Rect.mem_set_unit (inb := ia)).mp hm 1).1
    have h2 : 8 ≤ 5 + 1 * (k + (r : ℕ)) := h1
    omega
  · rw [dif_neg h]
    rw [ez ((Rect.unit (s := S2x392x128) ![(p : ℕ), 8, 0] S1x384x128.size ia).emb (ix3 0 ⟨k + r - 3, by omega⟩ j)) (by show (p : ℕ) + 1 * 0 = p; omega) (by show 8 + 1 * (k + (r : ℕ) - 3) = 5 + k + r; omega) (by show 0 + 1 * (j : ℕ) = j; omega)]
    rw [View.canon_cons_emb]
end Cert.InProjIdeal.Body
-- ==== Proof.InProj.Piece.lean ====
module
public import proofs.«01_k».proof.Proof.InProj.Loop
@[expose] public section
set_option maxRecDepth 16384
noncomputable section
open Idealize.ShloMosaic Idealize.ShloMosaic.TcCoe Idealize.SL.Sem
namespace Cert.InProjIdeal.Body
open Cert.InProjIdeal Cert.InProjIdeal.Gen

/-! ## The block's results, as functions of the blocks read -/

section
variable (x0 : Vec Ideal S12 .f32) (x1 : Vec Ideal S2 .f32) (x2 : Vec Ideal S2 .f32) (x3 : Vec Ideal S1x384x2048 .bf16) (x4 : Vec Ideal S1x2048 .f32)
  (x5 : Vec Ideal S5120x2048 .fp8e4m3) (x6 : Vec Ideal S24x2048 .fp8e4m3) (x7 : Vec Ideal S1x5120 .f32) (x8 : Vec Ideal S1x128 .f32)
  (x9 x10 : Vec Ideal S1x64x384 .f32) (x11 : Vec Ideal S1x3x2048 .f32) (x12 : Vec Ideal S4x2048 .f32) (x13 : Vec Ideal S1x2048 .f32) (x14 : Vec Ideal S32x1 .f32)

/-- An entry of the projection of the block. -/
def colP (r : Fin 384) (n : Fin 5120) : EReal := InRow.proj (kap x3 x4 r) (fun k => x5 (ix2 n k)) (sgm x3 x4 r) (x7 (ix2 0 n))

/-- A rotated query entry of head `hd`. -/
def qS (hd : ℕ) (hh : hd < 8) (r : Fin 384) (d : Fin 128) : EReal :=
  InRow.rope (fun d => colP x3 x4 x5 x7 r ⟨hd * 128 + d, by omega⟩ * x0 (ix1 0)) (fun k => x9 (ix3 0 k r)) (fun k => x10 (ix3 0 k r)) d

/-- A key code of head `i`. -/
def kS (i : Fin 2) (r : Fin 384) (d : Fin 128) : EReal :=
  MlpRow.code (InRow.rope (fun d => colP x3 x4 x5 x7 r ⟨1024 + (i * 128 + d), by omega⟩ * (x0 (ix1 0) * x0 (ix1 1))) (fun k => x9 (ix3 0 k r)) (fun k => x10 (ix3 0 k r)) d) (x1 (ix1 i))

/-- A value code of head `i`. -/
def vS (i : Fin 2) (r : Fin 384) (d : Fin 128) : EReal :=
  MlpRow.code (colP x3 x4 x5 x7 r ⟨1280 + (i * 128 + d), by omega⟩ * x0 (ix1 0)) (x2 (ix1 i))

/-- A gate entry. -/
def zS (r : Fin 384) (j : Fin 1536) : EReal := InRow.silu (colP x3 x4 x5 x7 r ⟨1536 + j, by omega⟩ * (x0 (ix1 3) * x0 (ix1 7)))

/-- A value of the convolved columns before the convolution. -/
def xS (r : Fin 384) (j : Fin 2048) : EReal :=
  InRow.segX (x0 (ix1 3) * x0 (ix1 8)) (x0 (ix1 3) * x0 (ix1 9)) (x0 (ix1 3) * x0 (ix1 10)) j (colP x3 x4 x5 x7 r ⟨3072 + j, by omega⟩)

/-- The kept values of column `j`, then the block's. -/
def pS (j : Fin 2048) (i : Fin 387) : EReal := InRow.padded (fun p => x11 (ix3 0 p j)) (fun s => xS x0 x3 x4 x5 x7 s j) i

/-- A convolved entry. -/
def cS (r : Fin 384) (j : Fin 2048) : EReal :=
  InRow.silu (InRow.conv (x13 (ix2 0 j)) (x12 (ix2 0 j)) (x12 (ix2 1 j)) (x12 (ix2 2 j)) (x12 (ix2 3 j))
    (pS x0 x3 x4 x5 x7 x11 j ⟨0 + r, by omega⟩) (pS x0 x3 x4 x5 x7 x11 j ⟨1 + r, by omega⟩) (pS x0 x3 x4 x5 x7 x11 j ⟨2 + r, by omega⟩) (pS x0 x3 x4 x5 x7 x11 j ⟨3 + r, by omega⟩))

/-- A step size. -/
def dS (h : Fin 32) (r : Fin 384) : EReal :=
  InRow.softplus ((if hh : (h : ℕ) < 24 then InRow.proj (kap x3 x4 r) (fun k => x6 (ix2 ⟨h, hh⟩ k)) (sgm x3 x4 r) (x8 (ix2 0 ⟨h, by omega⟩)) * (x0 (ix1 3) * x0 (ix1 11)) else 0) + x14 (ix2 h 0))

/-! ## Reads of the blocks -/

/-- A multiplier read from the twelve. -/
theorem mul_read (a : Memref sig .tc .smem S12 .f32) (ha : a.IsWhole) (i : Fin 12) (ib : ∀ a, (![(i : ℕ)] : Fin 1 → ℕ) a + S1.size a ≤ S12.size a) (z) :
    View.readAt (Elt Ideal) a.view (Rect.unit (s := S12) ![(i : ℕ)] S1.size ib).toLoadRect (ha.unread x0) z = x0 (ix1 i) := by
  rw [View.readAt_eq_ld, Memref.IsWhole.read_unread]
  refine congrArg x0 (funext fun a => Fin.ext ?_)
  match a with
  | 0 => have : (z 0 : ℕ) < 1 := (z 0).isLt
         show (i : ℕ) + 1 * (z 0 : ℕ) = i; omega

/-- A scale read from the two of the heads. -/
theorem two_read (a : Memref sig .tc .smem S2 .f32) (ha : a.IsWhole) (i : Fin 2) (ib : ∀ a, (![(i : ℕ)] : Fin 1 → ℕ) a + S1.size a ≤ S2.size a) (z) :
    View.readAt (Elt Ideal) a.view (Rect.unit (s := S2) ![(i : ℕ)] S1.size ib).toLoadRect (ha.unread x1) z = x1 (ix1 i) := by
  rw [View.readAt_eq_ld, Memref.IsWhole.read_unread]
  refine congrArg x1 (funext fun a => Fin.ext ?_)
  match a with
  | 0 => have : (z 0 : ℕ) < 1 := (z 0).isLt
         show (i : ℕ) + 1 * (z 0 : ℕ) = i; omega

/-- A 256-row block read from the weights. -/
theorem w_read (a : Memref sig .tc .vmem S5120x2048 .fp8e4m3) (ha : a.IsWhole) (o : ℕ) (ib : ∀ a, (![o, 0] : Fin 2 → ℕ) a + S256x2048.size a ≤ S5120x2048.size a)
    (j : Fin 256) (k : Fin 2048) (n : Fin 5120) (h : (n : ℕ) = o + j) :
    View.readAt (Elt Ideal) a.view (Rect.unit (s := S5120x2048) ![o, 0] S256x2048.size ib).toLoadRect (ha.unread x5) (ix2 j k) = x5 (ix2 n k) := by
  rw [View.readAt_eq_ld, Memref.IsWhole.read_unread]
  refine congrArg x5 (funext fun a => Fin.ext ?_)
  match a with
  | 0 => show o + 1 * (j : ℕ) = n; omega
  | 1 => show 0 + 1 * (k : ℕ) = k; omega

/-- A 256-column block read from the weight scales. -/
theorem s_read (a : Memref sig .tc .vmem S1x5120 .f32) (ha : a.IsWhole) (o : ℕ) (ib : ∀ a, (![0, o] : Fin 2 → ℕ) a + S1x256.size a ≤ S1x5120.size a)
    (j : Fin 256) (n : Fin 5120) (h : (n : ℕ) = o + j) :
    View.readAt (Elt Ideal) a.view (Rect.unit (s := S1x5120) ![0, o] S1x256.size ib).toLoadRect (ha.unread x7) (ix2 0 j) = x7 (ix2 0 n) := by
  rw [View.readAt_eq_ld, Memref.IsWhole.read_unread]
  refine congrArg x7 (funext fun a => Fin.ext ?_)
  match a with
  | 0 => rfl
  | 1 => show o + 1 * (j : ℕ) = n; omega

/-- The angles' cosines or sines, read whole. -/
theorem ang_read (a : Memref sig .tc .vmem S1x64x384 .f32) (ha : a.IsWhole) (ib : ∀ a, (![0, 0, 0] : Fin 3 → ℕ) a + S1x64x384.size a ≤ S1x64x384.size a)
    (k : Fin 64) (r : Fin 384) :
    View.readAt (Elt Ideal) a.view (Rect.unit (s := S1x64x384) ![0, 0, 0] S1x64x384.size ib).toLoadRect (ha.unread x9) (ix3 0 k r) = x9 (ix3 0 k r) := by
  rw [View.readAt_eq_ld, Memref.IsWhole.read_unread]
  refine congrArg x9 (funext fun a => Fin.ext ?_)
  match a with
  | 0 => rfl
  | 1 => show 0 + 1 * (k : ℕ) = k; omega
  | 2 => show 0 + 1 * (r : ℕ) = r; omega

/-- A 128-column group read from the kept values. -/
theorem kept_read (a : Memref sig .tc .vmem S1x3x2048 .f32) (ha : a.IsWhole) (o : ℕ) (ib : ∀ a, (![0, 0, o] : Fin 3 → ℕ) a + S1x3x128.size a ≤ S1x3x2048.size a)
    (p : Fin 3) (jj : Fin 128) (j : Fin 2048) (h : (j : ℕ) = o + jj) :
    View.readAt (Elt Ideal) a.view (Rect.unit (s := S1x3x2048) ![0, 0, o] S1x3x128.size ib).toLoadRect (ha.unread x11) (ix3 0 p jj) = x11 (ix3 0 p j) := by
  rw [View.readAt_eq_ld, Memref.IsWhole.read_unread]
  refine congrArg x11 (funext fun a => Fin.ext ?_)
  match a with
  | 0 => rfl
  | 1 => show 0 + 1 * (p : ℕ) = p; omega
  | 2 => show o + 1 * (jj : ℕ) = j; omega

/-- A tap's row read at a 128-column group. -/
theorem tap_read (a : Memref sig .tc .vmem S4x2048 .f32) (ha : a.IsWhole) (i : Fin 4) (o : ℕ) (ib : ∀ a, (![(i : ℕ), o] : Fin 2 → ℕ) a + S1x128.size a ≤ S4x2048.size a)
    (jj : Fin 128) (j : Fin 2048) (h : (j : ℕ) = o + jj) :
    View.readAt (Elt Ideal) a.view (Rect.unit (s := S4x2048) ![(i : ℕ), o] S1x128.size ib).toLoadRect (ha.unread x12) (ix2 0 jj) = x12 (ix2 i j) := by
  rw [View.readAt_eq_ld, Memref.IsWhole.read_unread]
  refine congrArg x12 (funext fun a => Fin.ext ?_)
  match a with
  | 0 => show (i : ℕ) + 1 * 0 = i; omega
  | 1 => show o + 1 * (jj : ℕ) = j; omega

/-- The convolution's biases read at a 128-column group. -/
theorem bias_read (a : Memref sig .tc .vmem S1x2048 .f32) (ha : a.IsWhole) (o : ℕ) (ib : ∀ a, (![0, o] : Fin 2 → ℕ) a + S1x128.size a ≤ S1x2048.size a)
    (jj : Fin 128) (j : Fin 2048) (h : (j : ℕ) = o + jj) :
    View.readAt (Elt Ideal) a.view (Rect.unit (s := S1x2048) ![0, o] S1x128.size ib).toLoadRect (ha.unread x13) (ix2 0 jj) = x13 (ix2 0 j) := by
  rw [View.readAt_eq_ld, Memref.IsWhole.read_unread]
  refine congrArg x13 (funext fun a => Fin.ext ?_)
  match a with
  | 0 => rfl
  | 1 => show o + 1 * (jj : ℕ) = j; omega

/-- Indices of rank three over one block. -/
theorem idx3 {n1 n2 : ℕ} (x : (⟨3, ![1, n1, n2]⟩ : Shape).Idx) : x = ix3 0 (x 1) (x 2) := by
  funext a; match a with | 0 => exact Subsingleton.elim (α := Fin 1) _ _ | 1 => rfl | 2 => rfl
/-- Indices of rank four over one block and one head. -/
theorem idx4 {n1 n2 : ℕ} (x : (⟨4, ![1, 1, n1, n2]⟩ : Shape).Idx) : x = ix4 0 0 (x 2) (x 3) := by
  funext a; match a with | 0 => exact Subsingleton.elim (α := Fin 1) _ _ | 1 => exact Subsingleton.elim (α := Fin 1) _ _ | 2 => rfl | 3 => rfl

/-! ## The stored pieces -/

section
variable (S : Vec Ideal S384x128 .f32) (Q : Vec Ideal S1x384x2048 .fp8e4m3) (hS : ∀ r l, S (ix2 r l) = sgm x3 x4 r) (hQ : ∀ r k, Q (ix3 0 r k) = kap x3 x4 r k)
  (w : Vec Ideal S256x2048 .fp8e4m3) (c : Vec Ideal S1x256 .f32) (o : ℕ)
  (hw : ∀ (j : Fin 256) k (n : Fin 5120), (n : ℕ) = o + j → w (ix2 j k) = x5 (ix2 n k)) (hc : ∀ (j : Fin 256) (n : Fin 5120), (n : ℕ) = o + j → c (ix2 0 j) = x7 (ix2 0 n))
include hw hc

/-- An entry of a column block of the projection. -/
theorem blkP_eq (r : Fin 384) (j : Fin 256) (n : Fin 5120) (h : (n : ℕ) = o + j) : blkP w c (sgm x3 x4) (kap x3 x4) r j = colP x3 x4 x5 x7 r n := by
  unfold blkP colP
  rw [hc j n h, funext fun k => hw j k n h]

include hS hQ
variable (m : Elt Ideal .f32) (hm : m = x0 (ix1 0)) (m3 : Elt Ideal .f32) (hm3 : m3 = x0 (ix1 3)) (cs sn : Vec Ideal S1x64x384 .f32) (hcs : ∀ k r, cs (ix3 0 k r) = x9 (ix3 0 k r)) (hsn : ∀ k r, sn (ix3 0 k r) = x10 (ix3 0 k r))

include hm hcs hsn in
/-- The first head written from a query block is the result's piece. -/
theorem qA_piece (x : S1x1x128x384.Idx) (hd : ℕ) (hh : hd < 8) (r : Fin 384) (d : Fin 128) (hr : (r : ℕ) = x 3) (hdd : (d : ℕ) = x 2) (hn : o = hd * 128) :
    qA w c (k0_pay8 S) (k0_pay9 Q) m cs sn x = qS x0 x3 x4 x5 x7 x9 x10 hd hh r d := by
  obtain rfl : r = x 3 := Fin.ext hr
  obtain rfl : d = x 2 := Fin.ext hdd
  refine (congrArg _ (idx4 x)).trans ((qA_at w c (sgm x3 x4) (kap x3 x4) _ _ (s2_at S _ hS) (q2_at Q _ hQ) m cs sn (x 2) (x 3)).trans ?_)
  unfold qS
  rw [hm, funext fun k => hcs k (x 3), funext fun k => hsn k (x 3), funext fun d : Fin 128 => congrArg (fun u => u * x0 (ix1 0)) (blkP_eq x3 x4 x5 x7 w c o hw hc (x 3) ⟨d, by omega⟩ ⟨hd * 128 + d, by omega⟩ (by show hd * 128 + (d : ℕ) = o + (d : ℕ); omega))]

include hm hcs hsn in
/-- The second head written from a query block is the result's piece. -/
theorem qB_piece (x : S1x1x128x384.Idx) (hd : ℕ) (hh : hd < 8) (r : Fin 384) (d : Fin 128) (hr : (r : ℕ) = x 3) (hdd : (d : ℕ) = x 2) (hn : o + 128 = hd * 128) :
    qB w c (k0_pay8 S) (k0_pay9 Q) m cs sn x = qS x0 x3 x4 x5 x7 x9 x10 hd hh r d := by
  obtain rfl : r = x 3 := Fin.ext hr
  obtain rfl : d = x 2 := Fin.ext hdd
  refine (congrArg _ (idx4 x)).trans ((qB_at w c (sgm x3 x4) (kap x3 x4) _ _ (s2_at S _ hS) (q2_at Q _ hQ) m cs sn (x 2) (x 3)).trans ?_)
  unfold qS
  rw [hm, funext fun k => hcs k (x 3), funext fun k => hsn k (x 3), funext fun d : Fin 128 => congrArg (fun u => u * x0 (ix1 0)) (blkP_eq x3 x4 x5 x7 w c o hw hc (x 3) ⟨128 + d, by omega⟩ ⟨hd * 128 + d, by omega⟩ (by show hd * 128 + (d : ℕ) = o + (128 + (d : ℕ)); omega))]

include hm hcs hsn in
/-- The first head's key codes written are the result's piece. -/
theorem kA_piece (mk sc : Elt Ideal .f32) (hmk : mk = x0 (ix1 1)) (hsc : sc = x1 (ix1 0)) (x : S1x1x384x128.Idx) (i : Fin 2) (r : Fin 384) (d : Fin 128) (hi : (i : ℕ) = 0) (hr : (r : ℕ) = x 2) (hdd : (d : ℕ) = x 3) (hn : o = 1024) :
    kA w c (k0_pay8 S) (k0_pay9 Q) m mk cs sn sc x = kS x0 x1 x3 x4 x5 x7 x9 x10 i r d := by
  obtain rfl : r = x 2 := Fin.ext hr
  obtain rfl : d = x 3 := Fin.ext hdd
  obtain rfl : i = 0 := Fin.ext hi
  refine (congrArg _ (idx4 x)).trans ((kA_at w c (sgm x3 x4) (kap x3 x4) _ _ (s2_at S _ hS) (q2_at Q _ hQ) m mk cs sn sc (x 2) (x 3)).trans ?_)
  unfold kS
  rw [hm, hmk, hsc, funext fun k => hcs k (x 2), funext fun k => hsn k (x 2), funext fun d : Fin 128 => congrArg (fun u => u * (x0 (ix1 0) * x0 (ix1 1))) (blkP_eq x3 x4 x5 x7 w c o hw hc (x 2) ⟨d, by omega⟩ ⟨1024 + (((0 : Fin 2) : ℕ) * 128 + d), by show 1024 + (0 * 128 + (d : ℕ)) < 5120; omega⟩ (by show 1024 + (0 * 128 + (d : ℕ)) = o + (d : ℕ); omega))]

include hm hcs hsn in
/-- The second head's key codes written are the result's piece. -/
theorem kB_piece (mk sc : Elt Ideal .f32) (hmk : mk = x0 (ix1 1)) (hsc : sc = x1 (ix1 1)) (x : S1x1x384x128.Idx) (i : Fin 2) (r : Fin 384) (d : Fin 128) (hi : (i : ℕ) = 1) (hr : (r : ℕ) = x 2) (hdd : (d : ℕ) = x 3) (hn : o = 1024) :
    kB w c (k0_pay8 S) (k0_pay9 Q) m mk cs sn sc x = kS x0 x1 x3 x4 x5 x7 x9 x10 i r d := by
  obtain rfl : r = x 2 := Fin.ext hr
  obtain rfl : d = x 3 := Fin.ext hdd
  obtain rfl : i = 1 := Fin.ext hi
  refine (congrArg _ (idx4 x)).trans ((kB_at w c (sgm x3 x4) (kap x3 x4) _ _ (s2_at S _ hS) (q2_at Q _ hQ) m mk cs sn sc (x 2) (x 3)).trans ?_)
  unfold kS
  rw [hm, hmk, hsc, funext fun k => hcs k (x 2), funext fun k => hsn k (x 2), funext fun d : Fin 128 => congrArg (fun u => u * (x0 (ix1 0) * x0 (ix1 1))) (blkP_eq x3 x4 x5 x7 w c o hw hc (x 2) ⟨128 + d, by omega⟩ ⟨1024 + (((1 : Fin 2) : ℕ) * 128 + d), by show 1024 + (1 * 128 + (d : ℕ)) < 5120; omega⟩ (by show 1024 + (1 * 128 + (d : ℕ)) = o + (128 + (d : ℕ)); omega))]

include hm in
/-- The first head's value codes written are the result's piece. -/
theorem vA_piece (sc : Elt Ideal .f32) (hsc : sc = x2 (ix1 0)) (x : S1x1x384x128.Idx) (i : Fin 2) (r : Fin 384) (d : Fin 128) (hi : (i : ℕ) = 0) (hr : (r : ℕ) = x 2) (hdd : (d : ℕ) = x 3) (hn : o = 1280) :
    k0_pay47 (k0_pay8 S) (k0_pay9 Q) m w c sc x = vS x0 x2 x3 x4 x5 x7 i r d := by
  obtain rfl : r = x 2 := Fin.ext hr
  obtain rfl : d = x 3 := Fin.ext hdd
  obtain rfl : i = 0 := Fin.ext hi
  refine (congrArg _ (idx4 x)).trans ((vA_at w c (sgm x3 x4) (kap x3 x4) _ _ (s2_at S _ hS) (q2_at Q _ hQ) m sc (x 2) (x 3)).trans ?_)
  unfold vS
  have l : (x 3 : ℕ) < 128 := (x 3).isLt
  rw [hm, hsc, blkP_eq x3 x4 x5 x7 w c o hw hc (x 2) ⟨x 3, by omega⟩ ⟨1280 + (((0 : Fin 2) : ℕ) * 128 + (x 3 : ℕ)), by show 1280 + (0 * 128 + (x 3 : ℕ)) < 5120; omega⟩ (by show 1280 + (0 * 128 + (x 3 : ℕ)) = o + (x 3 : ℕ); omega)]

include hm in
/-- The second head's value codes written are the result's piece. -/
theorem vB_piece (sc : Elt Ideal .f32) (hsc : sc = x2 (ix1 1)) (x : S1x1x384x128.Idx) (i : Fin 2) (r : Fin 384) (d : Fin 128) (hi : (i : ℕ) = 1) (hr : (r : ℕ) = x 2) (hdd : (d : ℕ) = x 3) (hn : o = 1280) :
    vB w c (k0_pay8 S) (k0_pay9 Q) m sc x = vS x0 x2 x3 x4 x5 x7 i r d := by
  obtain rfl : r = x 2 := Fin.ext hr
  obtain rfl : d = x 3 := Fin.ext hdd
  obtain rfl : i = 1 := Fin.ext hi
  refine (congrArg _ (idx4 x)).trans ((vB_at w c (sgm x3 x4) (kap x3 x4) _ _ (s2_at S _ hS) (q2_at Q _ hQ) m sc (x 2) (x 3)).trans ?_)
  unfold vS
  have l : (x 3 : ℕ) < 128 := (x 3).isLt
  rw [hm, hsc, blkP_eq x3 x4 x5 x7 w c o hw hc (x 2) ⟨128 + x 3, by omega⟩ ⟨1280 + (((1 : Fin 2) : ℕ) * 128 + (x 3 : ℕ)), by show 1280 + (1 * 128 + (x 3 : ℕ)) < 5120; omega⟩ (by show 1280 + (1 * 128 + (x 3 : ℕ)) = o + (128 + (x 3 : ℕ)); omega)]

include hm3 in
/-- The gates written from a column block are the result's piece. -/
theorem z_piece (mz : Elt Ideal .f32) (hmz : mz = x0 (ix1 7)) (x : S1x384x256.Idx) (r : Fin 384) (j : Fin 1536) (hr : (r : ℕ) = x 1) (hn : o + x 2 = 1536 + j) :
    k0_pay50 (k0_pay8 S) (k0_pay9 Q) m3 w c mz x = zS x0 x3 x4 x5 x7 r j := by
  obtain rfl : r = x 1 := Fin.ext hr
  refine (congrArg _ (idx3 x)).trans ((z_at w c (sgm x3 x4) (kap x3 x4) _ _ (s2_at S _ hS) (q2_at Q _ hQ) m3 mz (x 1) (x 2)).trans ?_)
  unfold zS
  rw [hm3, hmz, blkP_eq x3 x4 x5 x7 w c o hw hc (x 1) (x 2) ⟨1536 + (j : ℕ), by omega⟩ hn.symm]

include hm3 in
/-- The last three rows written from a column block are the last rows of the values entering the convolution. -/
theorem t_piece (i : Fin 12) (mx : Elt Ideal .f32) (hmx : mx = x0 (ix1 i)) (x : S1x3x256.Idx) (p : Fin 3) (j : Fin 2048) (hp : (p : ℕ) = x 1) (hn : o + x 2 = 3072 + j)
    (hseg : ∀ v, InRow.segX (x0 (ix1 3) * x0 (ix1 8)) (x0 (ix1 3) * x0 (ix1 9)) (x0 (ix1 3) * x0 (ix1 10)) j v = v * (x0 (ix1 3) * x0 (ix1 i))) :
    k0_pay133 (k0_pay8 S) (k0_pay9 Q) m3 w c mx x = xS x0 x3 x4 x5 x7 ⟨381 + p, by omega⟩ j := by
  obtain rfl : p = x 1 := Fin.ext hp
  refine (congrArg _ (idx3 x)).trans ((tl_at w c (sgm x3 x4) (kap x3 x4) _ _ (s2_at S _ hS) (q2_at Q _ hQ) m3 mx (x 1) (x 2)).trans ?_)
  unfold xS
  rw [hseg, hm3, hmx, blkP_eq x3 x4 x5 x7 w c o hw hc _ (x 2) ⟨3072 + (j : ℕ), by omega⟩ hn.symm]

include hm3 in
/-- The first half of a column block is a group of the values entering the convolution. -/
theorem pA_piece (i : Fin 12) (mx : Elt Ideal .f32) (hmx : mx = x0 (ix1 i)) (jj : Fin 128) (j : Fin 2048) (hn : o + jj = 3072 + j)
    (hseg : ∀ v, InRow.segX (x0 (ix1 3) * x0 (ix1 8)) (x0 (ix1 3) * x0 (ix1 9)) (x0 (ix1 3) * x0 (ix1 10)) j v = v * (x0 (ix1 3) * x0 (ix1 i))) (r : Fin 384) :
    k0_pay135 (k0_pay8 S) (k0_pay9 Q) m3 w c mx (ix3 0 r jj) = xS x0 x3 x4 x5 x7 r j := by
  refine (pA_at w c (sgm x3 x4) (kap x3 x4) _ _ (s2_at S _ hS) (q2_at Q _ hQ) m3 mx r jj).trans ?_
  unfold xS
  rw [hseg, hm3, hmx, blkP_eq x3 x4 x5 x7 w c o hw hc _ ⟨jj, by omega⟩ ⟨3072 + (j : ℕ), by omega⟩ hn.symm]

include hm3 in
/-- The second half of a column block is a group of the values entering the convolution. -/
theorem pB_piece (i : Fin 12) (mx : Elt Ideal .f32) (hmx : mx = x0 (ix1 i)) (jj : Fin 128) (j : Fin 2048) (hn : o + (128 + jj) = 3072 + j)
    (hseg : ∀ v, InRow.segX (x0 (ix1 3) * x0 (ix1 8)) (x0 (ix1 3) * x0 (ix1 9)) (x0 (ix1 3) * x0 (ix1 10)) j v = v * (x0 (ix1 3) * x0 (ix1 i))) (r : Fin 384) :
    pB w c (k0_pay8 S) (k0_pay9 Q) m3 mx (ix3 0 r jj) = xS x0 x3 x4 x5 x7 r j := by
  refine (pB_at w c (sgm x3 x4) (kap x3 x4) _ _ (s2_at S _ hS) (q2_at Q _ hQ) m3 mx r jj).trans ?_
  unfold xS
  rw [hseg, hm3, hmx, blkP_eq x3 x4 x5 x7 w c o hw hc _ ⟨128 + jj, by omega⟩ ⟨3072 + (j : ℕ), by omega⟩ hn.symm]
end

/-- A tap's values of a column. -/
theorem pad_piece (v : View Cert.InProjIdeal.sig .tc .vmem S2x392x128 .f32) (p : Fin 2) (k : ℕ) (hk : k < 4)
    (L : List (View.Piece (Elt Ideal) S2x392x128 .f32)) (A : Vec Ideal S1x384x128 .f32) (B : Vec Ideal S1x3x128 .f32)
    (ia : ∀ a, (![(p : ℕ), 8, 0] : Fin 3 → ℕ) a + S1x384x128.size a ≤ S2x392x128.size a)
    (ib : ∀ a, (![(p : ℕ), 5, 0] : Fin 3 → ℕ) a + S1x3x128.size a ≤ S2x392x128.size a)
    (ir : ∀ a, (![(p : ℕ), 5 + k, 0] : Fin 3 → ℕ) a + S1x384x128.size a ≤ S2x392x128.size a) (r : Fin 384) (jj : Fin 128) (j : Fin 2048)
    (hB : ∀ q, B (ix3 0 q jj) = x11 (ix3 0 q j)) (hA : ∀ s, A (ix3 0 s jj) = xS x0 x3 x4 x5 x7 s j) :
    v.readCov ((⟨Rect.unit (s := S2x392x128) ![(p : ℕ), 8, 0] S1x384x128.size ia, A⟩ : View.Piece (Elt Ideal) S2x392x128 .f32)
        :: (⟨Rect.unit (s := S2x392x128) ![(p : ℕ), 5, 0] S1x3x128.size ib, B⟩ : View.Piece (Elt Ideal) S2x392x128 .f32) :: L)
      (Rect.unit (s := S2x392x128) ![(p : ℕ), 5 + k, 0] S1x384x128.size ir).toLoadRect (ix3 0 r jj) = pS x0 x3 x4 x5 x7 x11 j ⟨k + r, by omega⟩ := by
  rw [pad_read v p k hk]
  unfold pS
  rw [funext hA, funext hB]

/-- A convolved piece. -/
theorem c_piece (w0 w1 w2 w3 b : Vec Ideal S1x128 .f32) (v0 v1 v2 v3 : Vec Ideal S1x384x128 .f32) (x : S1x384x128.Idx) (r : Fin 384) (j : Fin 2048) (hr : (r : ℕ) = x 1)
    (hb : b (ix2 0 (x 2)) = x13 (ix2 0 j)) (h0 : w0 (ix2 0 (x 2)) = x12 (ix2 0 j)) (h1 : w1 (ix2 0 (x 2)) = x12 (ix2 1 j)) (h2 : w2 (ix2 0 (x 2)) = x12 (ix2 2 j)) (h3 : w3 (ix2 0 (x 2)) = x12 (ix2 3 j))
    (g0 : ∀ r : Fin 384, v0 (ix3 0 r (x 2)) = pS x0 x3 x4 x5 x7 x11 j ⟨0 + r, by omega⟩) (g1 : ∀ r : Fin 384, v1 (ix3 0 r (x 2)) = pS x0 x3 x4 x5 x7 x11 j ⟨1 + r, by omega⟩)
    (g2 : ∀ r : Fin 384, v2 (ix3 0 r (x 2)) = pS x0 x3 x4 x5 x7 x11 j ⟨2 + r, by omega⟩) (g3 : ∀ r : Fin 384, v3 (ix3 0 r (x 2)) = pS x0 x3 x4 x5 x7 x11 j ⟨3 + r, by omega⟩) :
    k0_pay131 w0 v0 w1 v1 w2 v2 w3 v3 b x = cS x0 x3 x4 x5 x7 x11 x12 x13 r j := by
  obtain rfl : r = x 1 := Fin.ext hr
  refine (congrArg _ (idx3 x)).trans ((conv_at w0 w1 w2 w3 b v0 v1 v2 v3 (x 1) (x 2)).trans ?_)
  unfold cS
  rw [hb, h0, h1, h2, h3]
  exact congrArg InRow.silu (congr (congr (congr (congrArg (InRow.conv _ _ _ _ _) (g0 (x 1))) (g1 (x 1))) (g2 (x 1))) (g3 (x 1)))

/-- A whole read of a block of rank two. -/
theorem all_read {n1 n2 : ℕ} {e : EltTy} (a : Memref sig .tc .vmem ⟨2, ![n1, n2]⟩ e) (ha : a.IsWhole) (x : Vec Ideal ⟨2, ![n1, n2]⟩ e)
    (ib : ∀ a, (![0, 0] : Fin 2 → ℕ) a + (⟨2, ![n1, n2]⟩ : Shape).size a ≤ (⟨2, ![n1, n2]⟩ : Shape).size a) :
    View.readAt (Elt Ideal) a.view (Rect.unit (s := ⟨2, ![n1, n2]⟩) ![0, 0] (⟨2, ![n1, n2]⟩ : Shape).size ib).toLoadRect (ha.unread x) = x := by
  rw [View.readAt_eq_ld, Memref.IsWhole.read_unread]
  funext z
  refine congrArg x (funext fun a => Fin.ext ?_)
  match a with
  | 0 => show 0 + 1 * (z 0 : ℕ) = z 0; omega
  | 1 => show 0 + 1 * (z 1 : ℕ) = z 1; omega

/-- The step sizes. -/
theorem d_piece (S : Vec Ideal S384x128 .f32) (Q : Vec Ideal S1x384x2048 .fp8e4m3) (hS : ∀ r l, S (ix2 r l) = sgm x3 x4 r) (hQ : ∀ r k, Q (ix3 0 r k) = kap x3 x4 r k)
    (m mx : Elt Ideal .f32) (hm : m = x0 (ix1 3)) (hmx : mx = x0 (ix1 11)) (wd : Vec Ideal S24x2048 .fp8e4m3) (cd : Vec Ideal S1x128 .f32) (bd : Vec Ideal S32x1 .f32)
    (hwd : wd = x6) (hcd : cd = x8) (hbd : bd = x14) (y : S1x32x384.Idx) :
    k0_pay1 (k0_pay143 S (k0_pay9 Q) m wd cd mx) bd y = dS x0 x3 x4 x6 x8 x14 (y 1) (y 2) := by
  refine (congrArg _ (idx3 y)).trans ((dt_at S (sgm x3 x4) (kap x3 x4) _ hS (q2_at Q _ hQ) m mx wd cd bd (y 1) (y 2)).trans ?_)
  rw [hm, hmx, hwd, hcd, hbd]
  rfl
end
end Cert.InProjIdeal.Body
-- ==== Proof.InProj.BodyA.lean ====
module
public import proofs.«01_k».proof.Proof.Gen.InProjIdeal.Value
public import proofs.«01_k».proof.Proof.InProj.Piece
@[expose] public section
set_option maxRecDepth 16384
noncomputable section
open Idealize.ShloMosaic Idealize.ShloMosaic.TcCoe Idealize.SL.Sem
namespace Cert.InProjIdeal.Body
open Cert.InProjIdeal Cert.InProjIdeal.Gen

variable (m : (ℓ : Loc nD τ sig) → Buf (Elt Ideal) ℓ) (c : Dev nD) (t : Fin cfg0.N)

/-- The codes of the block. -/
theorem out15 (y : S1x384x2048.Idx) : (outsAt0 m c t).1 y = kap (iblk m c 3 t) (iblk m c 4 t) (y 1) (y 2) := by
  unfold outsAt0; dsimp only; unfold out0_A_15
  rw [View.read_writes_junk_eq_canon]
  unfold kernelRun0_A; dsimp only
  exact codes_canon _ _ _ _ _ _ _ _ _ _ _ _ _ _ _ _ _ _ _ _ _ _ _ _ _ _ _ _ _ _ _ _ _ _ _ _ _ _ _ _ _ _ _ _ _ _ _ _ _ _ _ _ _ _ _ _ _ _ y

/-- The scales of the block. -/
theorem out16 (y : S1x1x384.Idx) : (outsAt0 m c t).2.1 y = sgm (iblk m c 3 t) (iblk m c 4 t) (y 2) := by
  unfold outsAt0; dsimp only; unfold out0_A_16
  rw [View.read_writes_junk_eq_canon]
  unfold kernelRun0_A; dsimp only
  rw [View.canon_cons_unit_lit' _ _ _ (by decide)]
  skip
  have hy : y = ix3 0 0 (y 2) := by
    funext a; match a with | 0 => exact Subsingleton.elim (α := Fin 1) _ _ | 1 => exact Subsingleton.elim (α := Fin 1) _ _ | 2 => rfl
  exact (congrArg (k0_pay7 _) hy).trans (h1s_at _ (sgm (iblk m c 3 t) (iblk m c 4 t)) (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (y 2))

/-- The rotated queries of the block. -/
theorem out17 (y : S1x2x128x1536.Idx) : (outsAt0 m c t).2.2.1 y = qS (iblk m c 0 t) (iblk m c 3 t) (iblk m c 4 t) (X0_5 m c t) (X0_7 m c t) (iblk m c 9 t) (iblk m c 10 t) ((y 1 : ℕ) * 4 + (y 3 : ℕ) / 384)
    (by have : (y 1 : ℕ) < 2 := (y 1).isLt
        have : (y 3 : ℕ) < 1536 := (y 3).isLt
        omega) ⟨(y 3 : ℕ) % 384, Nat.mod_lt _ (by decide)⟩ (y 2) := by
  unfold outsAt0; dsimp only; unfold out0_A_17
  rw [View.read_writes_junk_eq_canon]
  unfold kernelRun0_A; dsimp only
  canon_tiles x h
  case piece0 =>
    unfold kernelRun0_A.sl.r_20 kernelRun0_A.sl.r kernelRun0_A.sl.r_4 kernelRun0_A.sl.r_3
    rw [q7_eq]
    exact qB_piece _ _ _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 0 _ _) _ _ (fun k r => ang_read _ _ _ _ k r) (fun k r => ang_read _ _ _ _ k r) x _ _ _ _ (by show (y 3 : ℕ) % 384 = x 3; omega) (by omega) (by omega)
  case piece1 =>
    unfold kernelRun0_A.sl.r kernelRun0_A.sl.r_4 kernelRun0_A.sl.r_3
    rw [q6_eq]
    exact qA_piece _ _ _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 0 _ _) _ _ (fun k r => ang_read _ _ _ _ k r) (fun k r => ang_read _ _ _ _ k r) x _ _ _ _ (by show (y 3 : ℕ) % 384 = x 3; omega) (by omega) (by omega)
  case piece2 =>
    unfold kernelRun0_A.sl.r_19 kernelRun0_A.sl.r_18 kernelRun0_A.sl.r_17 kernelRun0_A.sl.r_16 kernelRun0_A.sl.r kernelRun0_A.sl.r_4 kernelRun0_A.sl.r_3 kernelRun0_A.sl.r_15 kernelRun0_A.sl.r_14
    rw [q5_eq]
    exact qB_piece _ _ _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 0 _ _) _ _ (fun k r => ang_read _ _ _ _ k r) (fun k r => ang_read _ _ _ _ k r) x _ _ _ _ (by show (y 3 : ℕ) % 384 = x 3; omega) (by omega) (by omega)
  case piece3 =>
    unfold kernelRun0_A.sl.r kernelRun0_A.sl.r_4 kernelRun0_A.sl.r_3
    rw [q4_eq]
    exact qA_piece _ _ _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 0 _ _) _ _ (fun k r => ang_read _ _ _ _ k r) (fun k r => ang_read _ _ _ _ k r) x _ _ _ _ (by show (y 3 : ℕ) % 384 = x 3; omega) (by omega) (by omega)
  case piece4 =>
    unfold kernelRun0_A.sl.r_12 kernelRun0_A.sl.r kernelRun0_A.sl.r_4 kernelRun0_A.sl.r_3
    exact qB_piece _ _ _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 0 _ _) _ _ (fun k r => ang_read _ _ _ _ k r) (fun k r => ang_read _ _ _ _ k r) x _ _ _ _ (by show (y 3 : ℕ) % 384 = x 3; omega) (by omega) (by omega)
  case piece5 =>
    unfold kernelRun0_A.sl.r_13 kernelRun0_A.sl.r kernelRun0_A.sl.r_4 kernelRun0_A.sl.r_3
    exact qA_piece _ _ _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 0 _ _) _ _ (fun k r => ang_read _ _ _ _ k r) (fun k r => ang_read _ _ _ _ k r) x _ _ _ _ (by show (y 3 : ℕ) % 384 = x 3; omega) (by omega) (by omega)
  case piece6 =>
    unfold kernelRun0_A.sl.r_5 kernelRun0_A.sl.r
    rw [q1_eq]
    exact qB_piece _ _ _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 0 _ _) _ _ (fun k r => ang_read _ _ _ _ k r) (fun k r => ang_read _ _ _ _ k r) x _ _ _ _ (by show (y 3 : ℕ) % 384 = x 3; omega) (by omega) (by omega)
  case piece7 =>
    unfold kernelRun0_A.sl.r_11 kernelRun0_A.sl.r_10 kernelRun0_A.sl.r_9 kernelRun0_A.sl.r_8 kernelRun0_A.sl.r kernelRun0_A.sl.r_7 kernelRun0_A.sl.r_6
    rw [q0_eq]
    exact qA_piece _ _ _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 0 _ _) _ _ (fun k r => ang_read _ _ _ _ k r) (fun k r => ang_read _ _ _ _ k r) x _ _ _ _ (by show (y 3 : ℕ) % 384 = x 3; omega) (by omega) (by omega)

/-- The key codes of the block. -/
theorem out18 (y : S1x2x384x128.Idx) : (outsAt0 m c t).2.2.2.1 y = kS (iblk m c 0 t) (iblk m c 1 t) (iblk m c 3 t) (iblk m c 4 t) (X0_5 m c t) (X0_7 m c t) (iblk m c 9 t) (iblk m c 10 t) (y 1) (y 2) (y 3) := by
  unfold outsAt0; dsimp only; unfold out0_A_18
  rw [View.read_writes_junk_eq_canon]
  unfold kernelRun0_A; dsimp only
  canon_tiles x h
  case piece0 =>
    unfold kernelRun0_A.sl.r_29 kernelRun0_A.sl.r_28 kernelRun0_A.sl.r_22 kernelRun0_A.sl.r_21 kernelRun0_A.sl.r kernelRun0_A.sl.r_4 kernelRun0_A.sl.r_3
    exact kB_piece _ _ _ _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 0 _ _) _ _ (fun k r => ang_read _ _ _ _ k r) (fun k r => ang_read _ _ _ _ k r) _ _ (mul_read _ _ _ 1 _ _) (two_read _ _ _ 1 _ _) x _ _ _ (by omega) (by omega) (by omega) rfl
  case piece1 =>
    unfold kernelRun0_A.sl.r_27 kernelRun0_A.sl.r_26 kernelRun0_A.sl.r_25 kernelRun0_A.sl.r_24 kernelRun0_A.sl.r_23 kernelRun0_A.sl.r_21 kernelRun0_A.sl.r kernelRun0_A.sl.r_4 kernelRun0_A.sl.r_3
    exact kA_piece _ _ _ _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 0 _ _) _ _ (fun k r => ang_read _ _ _ _ k r) (fun k r => ang_read _ _ _ _ k r) _ _ (mul_read _ _ _ 1 _ _) (two_read _ _ _ 0 _ _) x _ _ _ (by omega) (by omega) (by omega) rfl

/-- The value codes of the block. -/
theorem out19 (y : S1x2x384x128.Idx) : (outsAt0 m c t).2.2.2.2.1 y = vS (iblk m c 0 t) (iblk m c 2 t) (iblk m c 3 t) (iblk m c 4 t) (X0_5 m c t) (X0_7 m c t) (y 1) (y 2) (y 3) := by
  unfold outsAt0; dsimp only; unfold out0_A_19
  rw [View.read_writes_junk_eq_canon]
  unfold kernelRun0_A; dsimp only
  canon_tiles x h
  case piece0 =>
    unfold kernelRun0_A.sl.r_32 kernelRun0_A.sl.r_31 kernelRun0_A.sl.r kernelRun0_A.sl.r_4 kernelRun0_A.sl.r_3
    exact vB_piece _ _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 0 _ _) _ (two_read _ _ _ 1 _ _) x _ _ _ (by omega) (by omega) (by omega) rfl
  case piece1 =>
    unfold kernelRun0_A.sl.r_30 kernelRun0_A.sl.r kernelRun0_A.sl.r_4 kernelRun0_A.sl.r_3
    exact vA_piece _ _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 0 _ _) _ (two_read _ _ _ 0 _ _) x _ _ _ (by omega) (by omega) (by omega) rfl

/-- The gates of the block. -/
theorem out20 (y : S1x384x1536.Idx) : (outsAt0 m c t).2.2.2.2.2.1 y = zS (iblk m c 0 t) (iblk m c 3 t) (iblk m c 4 t) (X0_5 m c t) (X0_7 m c t) (y 1) (y 2) := by
  unfold outsAt0; dsimp only; unfold out0_A_20
  rw [View.read_writes_junk_eq_canon]
  unfold kernelRun0_A; dsimp only
  canon_tiles x h
  case piece0 =>
    unfold kernelRun0_A.sl.r_33 kernelRun0_A.sl.r_1 kernelRun0_A.sl.r_4 kernelRun0_A.sl.r_3
    rw [z5_eq]
    exact z_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) _ (mul_read _ _ _ 7 _ _) x _ _ (by omega) (by omega)
  case piece1 =>
    unfold kernelRun0_A.sl.r_33 kernelRun0_A.sl.r_34 kernelRun0_A.sl.r_4 kernelRun0_A.sl.r_3 kernelRun0_A.sl.r_1
    rw [z4_eq]
    exact z_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) _ (mul_read _ _ _ 7 _ _) x _ _ (by omega) (by omega)
  case piece2 =>
    unfold kernelRun0_A.sl.r_33 kernelRun0_A.sl.r_1 kernelRun0_A.sl.r_4 kernelRun0_A.sl.r_3
    rw [z3_eq]
    exact z_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) _ (mul_read _ _ _ 7 _ _) x _ _ (by omega) (by omega)
  case piece3 =>
    unfold kernelRun0_A.sl.r_33 kernelRun0_A.sl.r_1 kernelRun0_A.sl.r_4 kernelRun0_A.sl.r_3
    rw [z2_eq]
    exact z_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) _ (mul_read _ _ _ 7 _ _) x _ _ (by omega) (by omega)
  case piece4 =>
    unfold kernelRun0_A.sl.r_33 kernelRun0_A.sl.r_1 kernelRun0_A.sl.r_4 kernelRun0_A.sl.r_3
    rw [z1_eq]
    exact z_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) _ (mul_read _ _ _ 7 _ _) x _ _ (by omega) (by omega)
  case piece5 =>
    unfold kernelRun0_A.sl.r_33 kernelRun0_A.sl.r_1 kernelRun0_A.sl.r_4 kernelRun0_A.sl.r_3
    exact z_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) _ (mul_read _ _ _ 7 _ _) x _ _ (by omega) (by omega)
end Cert.InProjIdeal.Body
-- ==== Proof.InProj.BodyB.lean ====
module
public import proofs.«01_k».proof.Proof.Gen.InProjIdeal.Value
public import proofs.«01_k».proof.Proof.InProj.Piece
@[expose] public section
set_option maxRecDepth 16384
noncomputable section
open Idealize.ShloMosaic Idealize.ShloMosaic.TcCoe Idealize.SL.Sem
namespace Cert.InProjIdeal.Body
open Cert.InProjIdeal Cert.InProjIdeal.Gen

variable (m : (ℓ : Loc nD τ sig) → Buf (Elt Ideal) ℓ) (c : Dev nD) (t : Fin cfg0.N)

/-- The last values of the convolved columns of the block. -/
theorem out23 (y : S1x3x2048.Idx) : (outsAt0 m c t).2.2.2.2.2.2.2.2 y = xS (iblk m c 0 t) (iblk m c 3 t) (iblk m c 4 t) (X0_5 m c t) (X0_7 m c t) ⟨381 + (y 1 : ℕ), by have : (y 1 : ℕ) < 3 := (y 1).isLt; omega⟩ (y 2) := by
  unfold outsAt0; dsimp only; unfold out0_A_23
  rw [View.read_writes_junk_eq_canon]
  unfold kernelRun0_A; dsimp only
  canon_tiles x h
  case piece0 =>
    unfold kernelRun0_A.sl.r_72 kernelRun0_A.sl.r_1 kernelRun0_A.sl.r_4 kernelRun0_A.sl.r_3
    exact t_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 10 _ (mul_read _ _ _ 10 _ _) x ⟨(y 1 : ℕ), by omega⟩ _ (by show (y 1 : ℕ) = x 1; omega) (by omega) (fun v => (if_neg (by omega)).trans (if_neg (by omega)))
  case piece1 =>
    unfold kernelRun0_A.sl.r_67 kernelRun0_A.sl.r_1 kernelRun0_A.sl.r_4 kernelRun0_A.sl.r_3
    rw [t6_eq]
    exact t_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 9 _ (mul_read _ _ _ 9 _ _) x ⟨(y 1 : ℕ), by omega⟩ _ (by show (y 1 : ℕ) = x 1; omega) (by omega) (fun v => (if_neg (by omega)).trans (if_pos (by omega)))
  case piece2 =>
    unfold kernelRun0_A.sl.r_36 kernelRun0_A.sl.r_62 kernelRun0_A.sl.r_1 kernelRun0_A.sl.r_4 kernelRun0_A.sl.r_3
    rw [t5_eq]
    exact t_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) x ⟨(y 1 : ℕ), by omega⟩ _ (by show (y 1 : ℕ) = x 1; omega) (by omega) (fun v => if_pos (by omega))
  case piece3 =>
    unfold kernelRun0_A.sl.r_36 kernelRun0_A.sl.r_58 kernelRun0_A.sl.r_4 kernelRun0_A.sl.r_1 kernelRun0_A.sl.r_3
    rw [t4_eq]
    exact t_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) x ⟨(y 1 : ℕ), by omega⟩ _ (by show (y 1 : ℕ) = x 1; omega) (by omega) (fun v => if_pos (by omega))
  case piece4 =>
    unfold kernelRun0_A.sl.r_36 kernelRun0_A.sl.r_54 kernelRun0_A.sl.r_4 kernelRun0_A.sl.r_3 kernelRun0_A.sl.r_1
    rw [t3_eq]
    exact t_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) x ⟨(y 1 : ℕ), by omega⟩ _ (by show (y 1 : ℕ) = x 1; omega) (by omega) (fun v => if_pos (by omega))
  case piece5 =>
    unfold kernelRun0_A.sl.r_36 kernelRun0_A.sl.r_49 kernelRun0_A.sl.r_48 kernelRun0_A.sl.r_4 kernelRun0_A.sl.r_3 kernelRun0_A.sl.r_1
    rw [t2_eq]
    exact t_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) x ⟨(y 1 : ℕ), by omega⟩ _ (by show (y 1 : ℕ) = x 1; omega) (by omega) (fun v => if_pos (by omega))
  case piece6 =>
    unfold kernelRun0_A.sl.r_36 kernelRun0_A.sl.r_42 kernelRun0_A.sl.r_41 kernelRun0_A.sl.r_4 kernelRun0_A.sl.r_3 kernelRun0_A.sl.r_1
    rw [t1_eq]
    exact t_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) x ⟨(y 1 : ℕ), by omega⟩ _ (by show (y 1 : ℕ) = x 1; omega) (by omega) (fun v => if_pos (by omega))
  case piece7 =>
    unfold kernelRun0_A.sl.r_36 kernelRun0_A.sl.r_35 kernelRun0_A.sl.r_4 kernelRun0_A.sl.r_3 kernelRun0_A.sl.r_1
    rw [t0_eq]
    exact t_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) x ⟨(y 1 : ℕ), by omega⟩ _ (by show (y 1 : ℕ) = x 1; omega) (by omega) (fun v => if_pos (by omega))

/-- The step sizes of the block. -/
theorem out22 (y : S1x32x384.Idx) : (outsAt0 m c t).2.2.2.2.2.2.2.1 y = dS (iblk m c 0 t) (iblk m c 3 t) (iblk m c 4 t) (iblk m c 6 t) (iblk m c 8 t) (iblk m c 14 t) (y 1) (y 2) := by
  unfold outsAt0; dsimp only; unfold out0_A_22
  rw [View.read_writes_junk_eq_canon]
  unfold kernelRun0_A; dsimp only
  rw [View.canon_cons_unit_lit' _ _ _ (by decide)]
  unfold kernelRun0_A.sl.r_79 kernelRun0_A.sl.r_78 kernelRun0_A.sl.r_1 kernelRun0_A.sl.r_4 kernelRun0_A.sl.r_2
  exact d_piece _ _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ (mul_read _ _ _ 3 _ _) (mul_read _ _ _ 11 _ _) _ _ _ (all_read _ _ _ _) (all_read _ _ _ _) (all_read _ _ _ _) y
end Cert.InProjIdeal.Body
-- ==== Proof.InProj.BodyC.lean ====
module
public import proofs.«01_k».proof.Proof.Gen.InProjIdeal.Value
public import proofs.«01_k».proof.Proof.InProj.Piece
@[expose] public section
set_option maxRecDepth 16384
noncomputable section
open Idealize.ShloMosaic Idealize.ShloMosaic.TcCoe Idealize.SL.Sem
namespace Cert.InProjIdeal.Body
open Cert.InProjIdeal Cert.InProjIdeal.Gen

variable (m : (ℓ : Loc nD τ sig) → Buf (Elt Ideal) ℓ) (c : Dev nD) (t : Fin cfg0.N)

/-- The convolved columns of the block. -/
theorem out21 (y : S1x384x2048.Idx) : (outsAt0 m c t).2.2.2.2.2.2.1 y = cS (iblk m c 0 t) (iblk m c 3 t) (iblk m c 4 t) (X0_5 m c t) (X0_7 m c t) (iblk m c 11 t) (iblk m c 12 t) (iblk m c 13 t) (y 1) (y 2) := by
  unfold outsAt0; dsimp only; unfold out0_A_21
  rw [View.read_writes_junk_eq_canon]
  unfold kernelRun0_A; dsimp only
  canon_tiles x h
  case piece0 =>
    unfold kernelRun0_A.sl.r_77
    rw [c15_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v1159 kernelRun0_A.sl.HS1_32
      refine pad_piece _ _ _ _ _ _ _ 1 0 (by decide) _ _ _ _ _ _ r (x 2) (y 2) (fun q => ?_) (fun s => ?_)
      · exact (cst_at _ q (x 2)).trans (kept_read _ _ _ _ _ q (x 2) (y 2) (by omega))
      · unfold kernelRun0_A.sl.r_76 kernelRun0_A.sl.r_73 kernelRun0_A.sl.r_72 kernelRun0_A.sl.r_1 kernelRun0_A.sl.r_4 kernelRun0_A.sl.r_3
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 10 _ (mul_read _ _ _ 10 _ _) (x 2) (y 2) (by omega) (fun v => (if_neg (by omega)).trans (if_neg (by omega))) s
    · unfold kernelRun0_A.sl.v1164 kernelRun0_A.sl.HS1_32
      refine pad_piece _ _ _ _ _ _ _ 1 1 (by decide) _ _ _ _ _ _ r (x 2) (y 2) (fun q => ?_) (fun s => ?_)
      · exact (cst_at _ q (x 2)).trans (kept_read _ _ _ _ _ q (x 2) (y 2) (by omega))
      · unfold kernelRun0_A.sl.r_76 kernelRun0_A.sl.r_73 kernelRun0_A.sl.r_72 kernelRun0_A.sl.r_1 kernelRun0_A.sl.r_4 kernelRun0_A.sl.r_3
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 10 _ (mul_read _ _ _ 10 _ _) (x 2) (y 2) (by omega) (fun v => (if_neg (by omega)).trans (if_neg (by omega))) s
    · unfold kernelRun0_A.sl.v1170 kernelRun0_A.sl.HS1_32
      refine pad_piece _ _ _ _ _ _ _ 1 2 (by decide) _ _ _ _ _ _ r (x 2) (y 2) (fun q => ?_) (fun s => ?_)
      · exact (cst_at _ q (x 2)).trans (kept_read _ _ _ _ _ q (x 2) (y 2) (by omega))
      · unfold kernelRun0_A.sl.r_76 kernelRun0_A.sl.r_73 kernelRun0_A.sl.r_72 kernelRun0_A.sl.r_1 kernelRun0_A.sl.r_4 kernelRun0_A.sl.r_3
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 10 _ (mul_read _ _ _ 10 _ _) (x 2) (y 2) (by omega) (fun v => (if_neg (by omega)).trans (if_neg (by omega))) s
    · unfold kernelRun0_A.sl.v1176 kernelRun0_A.sl.HS1_32
      refine pad_piece _ _ _ _ _ _ _ 1 3 (by decide) _ _ _ _ _ _ r (x 2) (y 2) (fun q => ?_) (fun s => ?_)
      · exact (cst_at _ q (x 2)).trans (kept_read _ _ _ _ _ q (x 2) (y 2) (by omega))
      · unfold kernelRun0_A.sl.r_76 kernelRun0_A.sl.r_73 kernelRun0_A.sl.r_72 kernelRun0_A.sl.r_1 kernelRun0_A.sl.r_4 kernelRun0_A.sl.r_3
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 10 _ (mul_read _ _ _ 10 _ _) (x 2) (y 2) (by omega) (fun v => (if_neg (by omega)).trans (if_neg (by omega))) s
  case piece1 =>
    unfold kernelRun0_A.sl.r_75 kernelRun0_A.sl.r_74
    rw [c14_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v1118 kernelRun0_A.sl.HS1_30
      refine pad_piece _ _ _ _ _ _ _ 0 0 (by decide) _ _ _ _ _ _ r (x 2) (y 2) (fun q => ?_) (fun s => ?_)
      · rw [s134_eq]; exact (cst_at _ q (x 2)).trans (kept_read _ _ _ _ _ q (x 2) (y 2) (by omega))
      · unfold kernelRun0_A.sl.r_72 kernelRun0_A.sl.r_1 kernelRun0_A.sl.r_4 kernelRun0_A.sl.r_3
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 10 _ (mul_read _ _ _ 10 _ _) (x 2) (y 2) (by omega) (fun v => (if_neg (by omega)).trans (if_neg (by omega))) s
    · unfold kernelRun0_A.sl.v1123 kernelRun0_A.sl.HS1_30
      refine pad_piece _ _ _ _ _ _ _ 0 1 (by decide) _ _ _ _ _ _ r (x 2) (y 2) (fun q => ?_) (fun s => ?_)
      · rw [s134_eq]; exact (cst_at _ q (x 2)).trans (kept_read _ _ _ _ _ q (x 2) (y 2) (by omega))
      · unfold kernelRun0_A.sl.r_72 kernelRun0_A.sl.r_1 kernelRun0_A.sl.r_4 kernelRun0_A.sl.r_3
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 10 _ (mul_read _ _ _ 10 _ _) (x 2) (y 2) (by omega) (fun v => (if_neg (by omega)).trans (if_neg (by omega))) s
    · unfold kernelRun0_A.sl.v1129 kernelRun0_A.sl.HS1_30
      refine pad_piece _ _ _ _ _ _ _ 0 2 (by decide) _ _ _ _ _ _ r (x 2) (y 2) (fun q => ?_) (fun s => ?_)
      · rw [s134_eq]; exact (cst_at _ q (x 2)).trans (kept_read _ _ _ _ _ q (x 2) (y 2) (by omega))
      · unfold kernelRun0_A.sl.r_72 kernelRun0_A.sl.r_1 kernelRun0_A.sl.r_4 kernelRun0_A.sl.r_3
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 10 _ (mul_read _ _ _ 10 _ _) (x 2) (y 2) (by omega) (fun v => (if_neg (by omega)).trans (if_neg (by omega))) s
    · unfold kernelRun0_A.sl.v1135 kernelRun0_A.sl.HS1_30
      refine pad_piece _ _ _ _ _ _ _ 0 3 (by decide) _ _ _ _ _ _ r (x 2) (y 2) (fun q => ?_) (fun s => ?_)
      · rw [s134_eq]; exact (cst_at _ q (x 2)).trans (kept_read _ _ _ _ _ q (x 2) (y 2) (by omega))
      · unfold kernelRun0_A.sl.r_72 kernelRun0_A.sl.r_1 kernelRun0_A.sl.r_4 kernelRun0_A.sl.r_3
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 10 _ (mul_read _ _ _ 10 _ _) (x 2) (y 2) (by omega) (fun v => (if_neg (by omega)).trans (if_neg (by omega))) s
  case piece2 =>
    skip
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v1061 kernelRun0_A.sl.HS1_28
      refine pad_piece _ _ _ _ _ _ _ 1 0 (by decide) _ _ _ _ _ _ r (x 2) (y 2) (fun q => ?_) (fun s => ?_)
      · rw [s128_eq]; exact (cst_at _ q (x 2)).trans (kept_read _ _ _ _ _ q (x 2) (y 2) (by omega))
      · unfold kernelRun0_A.sl.r_71 kernelRun0_A.sl.r_68 kernelRun0_A.sl.r_67 kernelRun0_A.sl.r_1 kernelRun0_A.sl.r_4 kernelRun0_A.sl.r_3
        rw [o6_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 9 _ (mul_read _ _ _ 9 _ _) (x 2) (y 2) (by omega) (fun v => (if_neg (by omega)).trans (if_pos (by omega))) s
    · unfold kernelRun0_A.sl.v1066 kernelRun0_A.sl.HS1_28
      refine pad_piece _ _ _ _ _ _ _ 1 1 (by decide) _ _ _ _ _ _ r (x 2) (y 2) (fun q => ?_) (fun s => ?_)
      · rw [s128_eq]; exact (cst_at _ q (x 2)).trans (kept_read _ _ _ _ _ q (x 2) (y 2) (by omega))
      · unfold kernelRun0_A.sl.r_71 kernelRun0_A.sl.r_68 kernelRun0_A.sl.r_67 kernelRun0_A.sl.r_1 kernelRun0_A.sl.r_4 kernelRun0_A.sl.r_3
        rw [o6_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 9 _ (mul_read _ _ _ 9 _ _) (x 2) (y 2) (by omega) (fun v => (if_neg (by omega)).trans (if_pos (by omega))) s
    · unfold kernelRun0_A.sl.v1072 kernelRun0_A.sl.HS1_28
      refine pad_piece _ _ _ _ _ _ _ 1 2 (by decide) _ _ _ _ _ _ r (x 2) (y 2) (fun q => ?_) (fun s => ?_)
      · rw [s128_eq]; exact (cst_at _ q (x 2)).trans (kept_read _ _ _ _ _ q (x 2) (y 2) (by omega))
      · unfold kernelRun0_A.sl.r_71 kernelRun0_A.sl.r_68 kernelRun0_A.sl.r_67 kernelRun0_A.sl.r_1 kernelRun0_A.sl.r_4 kernelRun0_A.sl.r_3
        rw [o6_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 9 _ (mul_read _ _ _ 9 _ _) (x 2) (y 2) (by omega) (fun v => (if_neg (by omega)).trans (if_pos (by omega))) s
    · unfold kernelRun0_A.sl.v1078 kernelRun0_A.sl.HS1_28
      refine pad_piece _ _ _ _ _ _ _ 1 3 (by decide) _ _ _ _ _ _ r (x 2) (y 2) (fun q => ?_) (fun s => ?_)
      · rw [s128_eq]; exact (cst_at _ q (x 2)).trans (kept_read _ _ _ _ _ q (x 2) (y 2) (by omega))
      · unfold kernelRun0_A.sl.r_71 kernelRun0_A.sl.r_68 kernelRun0_A.sl.r_67 kernelRun0_A.sl.r_1 kernelRun0_A.sl.r_4 kernelRun0_A.sl.r_3
        rw [o6_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 9 _ (mul_read _ _ _ 9 _ _) (x 2) (y 2) (by omega) (fun v => (if_neg (by omega)).trans (if_pos (by omega))) s
  case piece3 =>
    unfold kernelRun0_A.sl.r_70 kernelRun0_A.sl.r_69
    rw [c12_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v1020 kernelRun0_A.sl.HS1_26
      refine pad_piece _ _ _ _ _ _ _ 0 0 (by decide) _ _ _ _ _ _ r (x 2) (y 2) (fun q => ?_) (fun s => ?_)
      · rw [s124_eq]; exact (cst_at _ q (x 2)).trans (kept_read _ _ _ _ _ q (x 2) (y 2) (by omega))
      · unfold kernelRun0_A.sl.r_67 kernelRun0_A.sl.r_1 kernelRun0_A.sl.r_4 kernelRun0_A.sl.r_3
        rw [e6_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 9 _ (mul_read _ _ _ 9 _ _) (x 2) (y 2) (by omega) (fun v => (if_neg (by omega)).trans (if_pos (by omega))) s
    · unfold kernelRun0_A.sl.v1025 kernelRun0_A.sl.HS1_26
      refine pad_piece _ _ _ _ _ _ _ 0 1 (by decide) _ _ _ _ _ _ r (x 2) (y 2) (fun q => ?_) (fun s => ?_)
      · rw [s124_eq]; exact (cst_at _ q (x 2)).trans (kept_read _ _ _ _ _ q (x 2) (y 2) (by omega))
      · unfold kernelRun0_A.sl.r_67 kernelRun0_A.sl.r_1 kernelRun0_A.sl.r_4 kernelRun0_A.sl.r_3
        rw [e6_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 9 _ (mul_read _ _ _ 9 _ _) (x 2) (y 2) (by omega) (fun v => (if_neg (by omega)).trans (if_pos (by omega))) s
    · unfold kernelRun0_A.sl.v1031 kernelRun0_A.sl.HS1_26
      refine pad_piece _ _ _ _ _ _ _ 0 2 (by decide) _ _ _ _ _ _ r (x 2) (y 2) (fun q => ?_) (fun s => ?_)
      · rw [s124_eq]; exact (cst_at _ q (x 2)).trans (kept_read _ _ _ _ _ q (x 2) (y 2) (by omega))
      · unfold kernelRun0_A.sl.r_67 kernelRun0_A.sl.r_1 kernelRun0_A.sl.r_4 kernelRun0_A.sl.r_3
        rw [e6_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 9 _ (mul_read _ _ _ 9 _ _) (x 2) (y 2) (by omega) (fun v => (if_neg (by omega)).trans (if_pos (by omega))) s
    · unfold kernelRun0_A.sl.v1037 kernelRun0_A.sl.HS1_26
      refine pad_piece _ _ _ _ _ _ _ 0 3 (by decide) _ _ _ _ _ _ r (x 2) (y 2) (fun q => ?_) (fun s => ?_)
      · rw [s124_eq]; exact (cst_at _ q (x 2)).trans (kept_read _ _ _ _ _ q (x 2) (y 2) (by omega))
      · unfold kernelRun0_A.sl.r_67 kernelRun0_A.sl.r_1 kernelRun0_A.sl.r_4 kernelRun0_A.sl.r_3
        rw [e6_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 9 _ (mul_read _ _ _ 9 _ _) (x 2) (y 2) (by omega) (fun v => (if_neg (by omega)).trans (if_pos (by omega))) s
  case piece4 =>
    skip
    rw [c11_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v963 kernelRun0_A.sl.HS1_24
      refine pad_piece _ _ _ _ _ _ _ 1 0 (by decide) _ _ _ _ _ _ r (x 2) (y 2) (fun q => ?_) (fun s => ?_)
      · rw [s119_eq]; exact (cst_at _ q (x 2)).trans (kept_read _ _ _ _ _ q (x 2) (y 2) (by omega))
      · unfold kernelRun0_A.sl.r_63 kernelRun0_A.sl.r_36 kernelRun0_A.sl.r_62 kernelRun0_A.sl.r_1 kernelRun0_A.sl.r_4 kernelRun0_A.sl.r_3
        rw [o5_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v968 kernelRun0_A.sl.HS1_24
      refine pad_piece _ _ _ _ _ _ _ 1 1 (by decide) _ _ _ _ _ _ r (x 2) (y 2) (fun q => ?_) (fun s => ?_)
      · rw [s119_eq]; exact (cst_at _ q (x 2)).trans (kept_read _ _ _ _ _ q (x 2) (y 2) (by omega))
      · unfold kernelRun0_A.sl.r_63 kernelRun0_A.sl.r_36 kernelRun0_A.sl.r_62 kernelRun0_A.sl.r_1 kernelRun0_A.sl.r_4 kernelRun0_A.sl.r_3
        rw [o5_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v974 kernelRun0_A.sl.HS1_24
      refine pad_piece _ _ _ _ _ _ _ 1 2 (by decide) _ _ _ _ _ _ r (x 2) (y 2) (fun q => ?_) (fun s => ?_)
      · rw [s119_eq]; exact (cst_at _ q (x 2)).trans (kept_read _ _ _ _ _ q (x 2) (y 2) (by omega))
      · unfold kernelRun0_A.sl.r_63 kernelRun0_A.sl.r_36 kernelRun0_A.sl.r_62 kernelRun0_A.sl.r_1 kernelRun0_A.sl.r_4 kernelRun0_A.sl.r_3
        rw [o5_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v980 kernelRun0_A.sl.HS1_24
      refine pad_piece _ _ _ _ _ _ _ 1 3 (by decide) _ _ _ _ _ _ r (x 2) (y 2) (fun q => ?_) (fun s => ?_)
      · rw [s119_eq]; exact (cst_at _ q (x 2)).trans (kept_read _ _ _ _ _ q (x 2) (y 2) (by omega))
      · unfold kernelRun0_A.sl.r_63 kernelRun0_A.sl.r_36 kernelRun0_A.sl.r_62 kernelRun0_A.sl.r_1 kernelRun0_A.sl.r_4 kernelRun0_A.sl.r_3
        rw [o5_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
  case piece5 =>
    unfold kernelRun0_A.sl.r_66 kernelRun0_A.sl.r_65 kernelRun0_A.sl.r_64
    rw [c10_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v922 kernelRun0_A.sl.HS1_22
      refine pad_piece _ _ _ _ _ _ _ 0 0 (by decide) _ _ _ _ _ _ r (x 2) (y 2) (fun q => ?_) (fun s => ?_)
      · rw [s114_eq]; exact (cst_at _ q (x 2)).trans (kept_read _ _ _ _ _ q (x 2) (y 2) (by omega))
      · unfold kernelRun0_A.sl.r_36 kernelRun0_A.sl.r_62 kernelRun0_A.sl.r_1 kernelRun0_A.sl.r_4 kernelRun0_A.sl.r_3
        rw [e5_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v927 kernelRun0_A.sl.HS1_22
      refine pad_piece _ _ _ _ _ _ _ 0 1 (by decide) _ _ _ _ _ _ r (x 2) (y 2) (fun q => ?_) (fun s => ?_)
      · rw [s114_eq]; exact (cst_at _ q (x 2)).trans (kept_read _ _ _ _ _ q (x 2) (y 2) (by omega))
      · unfold kernelRun0_A.sl.r_36 kernelRun0_A.sl.r_62 kernelRun0_A.sl.r_1 kernelRun0_A.sl.r_4 kernelRun0_A.sl.r_3
        rw [e5_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v933 kernelRun0_A.sl.HS1_22
      refine pad_piece _ _ _ _ _ _ _ 0 2 (by decide) _ _ _ _ _ _ r (x 2) (y 2) (fun q => ?_) (fun s => ?_)
      · rw [s114_eq]; exact (cst_at _ q (x 2)).trans (kept_read _ _ _ _ _ q (x 2) (y 2) (by omega))
      · unfold kernelRun0_A.sl.r_36 kernelRun0_A.sl.r_62 kernelRun0_A.sl.r_1 kernelRun0_A.sl.r_4 kernelRun0_A.sl.r_3
        rw [e5_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v939 kernelRun0_A.sl.HS1_22
      refine pad_piece _ _ _ _ _ _ _ 0 3 (by decide) _ _ _ _ _ _ r (x 2) (y 2) (fun q => ?_) (fun s => ?_)
      · rw [s114_eq]; exact (cst_at _ q (x 2)).trans (kept_read _ _ _ _ _ q (x 2) (y 2) (by omega))
      · unfold kernelRun0_A.sl.r_36 kernelRun0_A.sl.r_62 kernelRun0_A.sl.r_1 kernelRun0_A.sl.r_4 kernelRun0_A.sl.r_3
        rw [e5_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
  case piece6 =>
    skip
    rw [c9_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v865 kernelRun0_A.sl.HS1_20
      refine pad_piece _ _ _ _ _ _ _ 1 0 (by decide) _ _ _ _ _ _ r (x 2) (y 2) (fun q => ?_) (fun s => ?_)
      · rw [s108_eq]; exact (cst_at _ q (x 2)).trans (kept_read _ _ _ _ _ q (x 2) (y 2) (by omega))
      · unfold kernelRun0_A.sl.r_59 kernelRun0_A.sl.r_36 kernelRun0_A.sl.r_58 kernelRun0_A.sl.r_4 kernelRun0_A.sl.r_1 kernelRun0_A.sl.r_3
        rw [o4_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v870 kernelRun0_A.sl.HS1_20
      refine pad_piece _ _ _ _ _ _ _ 1 1 (by decide) _ _ _ _ _ _ r (x 2) (y 2) (fun q => ?_) (fun s => ?_)
      · rw [s108_eq]; exact (cst_at _ q (x 2)).trans (kept_read _ _ _ _ _ q (x 2) (y 2) (by omega))
      · unfold kernelRun0_A.sl.r_59 kernelRun0_A.sl.r_36 kernelRun0_A.sl.r_58 kernelRun0_A.sl.r_4 kernelRun0_A.sl.r_1 kernelRun0_A.sl.r_3
        rw [o4_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v876 kernelRun0_A.sl.HS1_20
      refine pad_piece _ _ _ _ _ _ _ 1 2 (by decide) _ _ _ _ _ _ r (x 2) (y 2) (fun q => ?_) (fun s => ?_)
      · rw [s108_eq]; exact (cst_at _ q (x 2)).trans (kept_read _ _ _ _ _ q (x 2) (y 2) (by omega))
      · unfold kernelRun0_A.sl.r_59 kernelRun0_A.sl.r_36 kernelRun0_A.sl.r_58 kernelRun0_A.sl.r_4 kernelRun0_A.sl.r_1 kernelRun0_A.sl.r_3
        rw [o4_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v882 kernelRun0_A.sl.HS1_20
      refine pad_piece _ _ _ _ _ _ _ 1 3 (by decide) _ _ _ _ _ _ r (x 2) (y 2) (fun q => ?_) (fun s => ?_)
      · rw [s108_eq]; exact (cst_at _ q (x 2)).trans (kept_read _ _ _ _ _ q (x 2) (y 2) (by omega))
      · unfold kernelRun0_A.sl.r_59 kernelRun0_A.sl.r_36 kernelRun0_A.sl.r_58 kernelRun0_A.sl.r_4 kernelRun0_A.sl.r_1 kernelRun0_A.sl.r_3
        rw [o4_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
  case piece7 =>
    unfold kernelRun0_A.sl.r_61 kernelRun0_A.sl.r_60
    rw [c8_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v824 kernelRun0_A.sl.HS1_18
      refine pad_piece _ _ _ _ _ _ _ 0 0 (by decide) _ _ _ _ _ _ r (x 2) (y 2) (fun q => ?_) (fun s => ?_)
      · rw [s103_eq]; exact (cst_at _ q (x 2)).trans (kept_read _ _ _ _ _ q (x 2) (y 2) (by omega))
      · unfold kernelRun0_A.sl.r_36 kernelRun0_A.sl.r_58 kernelRun0_A.sl.r_4 kernelRun0_A.sl.r_1 kernelRun0_A.sl.r_3
        rw [e4_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v829 kernelRun0_A.sl.HS1_18
      refine pad_piece _ _ _ _ _ _ _ 0 1 (by decide) _ _ _ _ _ _ r (x 2) (y 2) (fun q => ?_) (fun s => ?_)
      · rw [s103_eq]; exact (cst_at _ q (x 2)).trans (kept_read _ _ _ _ _ q (x 2) (y 2) (by omega))
      · unfold kernelRun0_A.sl.r_36 kernelRun0_A.sl.r_58 kernelRun0_A.sl.r_4 kernelRun0_A.sl.r_1 kernelRun0_A.sl.r_3
        rw [e4_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v835 kernelRun0_A.sl.HS1_18
      refine pad_piece _ _ _ _ _ _ _ 0 2 (by decide) _ _ _ _ _ _ r (x 2) (y 2) (fun q => ?_) (fun s => ?_)
      · rw [s103_eq]; exact (cst_at _ q (x 2)).trans (kept_read _ _ _ _ _ q (x 2) (y 2) (by omega))
      · unfold kernelRun0_A.sl.r_36 kernelRun0_A.sl.r_58 kernelRun0_A.sl.r_4 kernelRun0_A.sl.r_1 kernelRun0_A.sl.r_3
        rw [e4_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v841 kernelRun0_A.sl.HS1_18
      refine pad_piece _ _ _ _ _ _ _ 0 3 (by decide) _ _ _ _ _ _ r (x 2) (y 2) (fun q => ?_) (fun s => ?_)
      · rw [s103_eq]; exact (cst_at _ q (x 2)).trans (kept_read _ _ _ _ _ q (x 2) (y 2) (by omega))
      · unfold kernelRun0_A.sl.r_36 kernelRun0_A.sl.r_58 kernelRun0_A.sl.r_4 kernelRun0_A.sl.r_1 kernelRun0_A.sl.r_3
        rw [e4_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
  case piece8 =>
    unfold kernelRun0_A.sl.r_57
    rw [c7_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v767 kernelRun0_A.sl.HS1_16
      refine pad_piece _ _ _ _ _ _ _ 1 0 (by decide) _ _ _ _ _ _ r (x 2) (y 2) (fun q => ?_) (fun s => ?_)
      · rw [s97_eq]; exact (cst_at _ q (x 2)).trans (kept_read _ _ _ _ _ q (x 2) (y 2) (by omega))
      · unfold kernelRun0_A.sl.r_55 kernelRun0_A.sl.r_36 kernelRun0_A.sl.r_54 kernelRun0_A.sl.r_4 kernelRun0_A.sl.r_3 kernelRun0_A.sl.r_1
        rw [o3_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v772 kernelRun0_A.sl.HS1_16
      refine pad_piece _ _ _ _ _ _ _ 1 1 (by decide) _ _ _ _ _ _ r (x 2) (y 2) (fun q => ?_) (fun s => ?_)
      · rw [s97_eq]; exact (cst_at _ q (x 2)).trans (kept_read _ _ _ _ _ q (x 2) (y 2) (by omega))
      · unfold kernelRun0_A.sl.r_55 kernelRun0_A.sl.r_36 kernelRun0_A.sl.r_54 kernelRun0_A.sl.r_4 kernelRun0_A.sl.r_3 kernelRun0_A.sl.r_1
        rw [o3_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v778 kernelRun0_A.sl.HS1_16
      refine pad_piece _ _ _ _ _ _ _ 1 2 (by decide) _ _ _ _ _ _ r (x 2) (y 2) (fun q => ?_) (fun s => ?_)
      · rw [s97_eq]; exact (cst_at _ q (x 2)).trans (kept_read _ _ _ _ _ q (x 2) (y 2) (by omega))
      · unfold kernelRun0_A.sl.r_55 kernelRun0_A.sl.r_36 kernelRun0_A.sl.r_54 kernelRun0_A.sl.r_4 kernelRun0_A.sl.r_3 kernelRun0_A.sl.r_1
        rw [o3_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v784 kernelRun0_A.sl.HS1_16
      refine pad_piece _ _ _ _ _ _ _ 1 3 (by decide) _ _ _ _ _ _ r (x 2) (y 2) (fun q => ?_) (fun s => ?_)
      · rw [s97_eq]; exact (cst_at _ q (x 2)).trans (kept_read _ _ _ _ _ q (x 2) (y 2) (by omega))
      · unfold kernelRun0_A.sl.r_55 kernelRun0_A.sl.r_36 kernelRun0_A.sl.r_54 kernelRun0_A.sl.r_4 kernelRun0_A.sl.r_3 kernelRun0_A.sl.r_1
        rw [o3_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
  case piece9 =>
    unfold kernelRun0_A.sl.r_56
    rw [c6_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v726 kernelRun0_A.sl.HS1_14
      refine pad_piece _ _ _ _ _ _ _ 0 0 (by decide) _ _ _ _ _ _ r (x 2) (y 2) (fun q => ?_) (fun s => ?_)
      · rw [s93_eq]; exact (cst_at _ q (x 2)).trans (kept_read _ _ _ _ _ q (x 2) (y 2) (by omega))
      · unfold kernelRun0_A.sl.r_36 kernelRun0_A.sl.r_54 kernelRun0_A.sl.r_4 kernelRun0_A.sl.r_3 kernelRun0_A.sl.r_1
        rw [e3_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v731 kernelRun0_A.sl.HS1_14
      refine pad_piece _ _ _ _ _ _ _ 0 1 (by decide) _ _ _ _ _ _ r (x 2) (y 2) (fun q => ?_) (fun s => ?_)
      · rw [s93_eq]; exact (cst_at _ q (x 2)).trans (kept_read _ _ _ _ _ q (x 2) (y 2) (by omega))
      · unfold kernelRun0_A.sl.r_36 kernelRun0_A.sl.r_54 kernelRun0_A.sl.r_4 kernelRun0_A.sl.r_3 kernelRun0_A.sl.r_1
        rw [e3_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v737 kernelRun0_A.sl.HS1_14
      refine pad_piece _ _ _ _ _ _ _ 0 2 (by decide) _ _ _ _ _ _ r (x 2) (y 2) (fun q => ?_) (fun s => ?_)
      · rw [s93_eq]; exact (cst_at _ q (x 2)).trans (kept_read _ _ _ _ _ q (x 2) (y 2) (by omega))
      · unfold kernelRun0_A.sl.r_36 kernelRun0_A.sl.r_54 kernelRun0_A.sl.r_4 kernelRun0_A.sl.r_3 kernelRun0_A.sl.r_1
        rw [e3_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v743 kernelRun0_A.sl.HS1_14
      refine pad_piece _ _ _ _ _ _ _ 0 3 (by decide) _ _ _ _ _ _ r (x 2) (y 2) (fun q => ?_) (fun s => ?_)
      · rw [s93_eq]; exact (cst_at _ q (x 2)).trans (kept_read _ _ _ _ _ q (x 2) (y 2) (by omega))
      · unfold kernelRun0_A.sl.r_36 kernelRun0_A.sl.r_54 kernelRun0_A.sl.r_4 kernelRun0_A.sl.r_3 kernelRun0_A.sl.r_1
        rw [e3_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
  case piece10 =>
    unfold kernelRun0_A.sl.r_53
    rw [c5_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v669 kernelRun0_A.sl.HS1_12
      refine pad_piece _ _ _ _ _ _ _ 1 0 (by decide) _ _ _ _ _ _ r (x 2) (y 2) (fun q => ?_) (fun s => ?_)
      · rw [s87_eq]; exact (cst_at _ q (x 2)).trans (kept_read _ _ _ _ _ q (x 2) (y 2) (by omega))
      · unfold kernelRun0_A.sl.r_50 kernelRun0_A.sl.r_36 kernelRun0_A.sl.r_49 kernelRun0_A.sl.r_48 kernelRun0_A.sl.r_4 kernelRun0_A.sl.r_3 kernelRun0_A.sl.r_1
        rw [o2_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v674 kernelRun0_A.sl.HS1_12
      refine pad_piece _ _ _ _ _ _ _ 1 1 (by decide) _ _ _ _ _ _ r (x 2) (y 2) (fun q => ?_) (fun s => ?_)
      · rw [s87_eq]; exact (cst_at _ q (x 2)).trans (kept_read _ _ _ _ _ q (x 2) (y 2) (by omega))
      · unfold kernelRun0_A.sl.r_50 kernelRun0_A.sl.r_36 kernelRun0_A.sl.r_49 kernelRun0_A.sl.r_48 kernelRun0_A.sl.r_4 kernelRun0_A.sl.r_3 kernelRun0_A.sl.r_1
        rw [o2_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v680 kernelRun0_A.sl.HS1_12
      refine pad_piece _ _ _ _ _ _ _ 1 2 (by decide) _ _ _ _ _ _ r (x 2) (y 2) (fun q => ?_) (fun s => ?_)
      · rw [s87_eq]; exact (cst_at _ q (x 2)).trans (kept_read _ _ _ _ _ q (x 2) (y 2) (by omega))
      · unfold kernelRun0_A.sl.r_50 kernelRun0_A.sl.r_36 kernelRun0_A.sl.r_49 kernelRun0_A.sl.r_48 kernelRun0_A.sl.r_4 kernelRun0_A.sl.r_3 kernelRun0_A.sl.r_1
        rw [o2_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v686 kernelRun0_A.sl.HS1_12
      refine pad_piece _ _ _ _ _ _ _ 1 3 (by decide) _ _ _ _ _ _ r (x 2) (y 2) (fun q => ?_) (fun s => ?_)
      · rw [s87_eq]; exact (cst_at _ q (x 2)).trans (kept_read _ _ _ _ _ q (x 2) (y 2) (by omega))
      · unfold kernelRun0_A.sl.r_50 kernelRun0_A.sl.r_36 kernelRun0_A.sl.r_49 kernelRun0_A.sl.r_48 kernelRun0_A.sl.r_4 kernelRun0_A.sl.r_3 kernelRun0_A.sl.r_1
        rw [o2_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
  case piece11 =>
    unfold kernelRun0_A.sl.r_52 kernelRun0_A.sl.r_51
    rw [c4_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v628 kernelRun0_A.sl.HS1_10
      refine pad_piece _ _ _ _ _ _ _ 0 0 (by decide) _ _ _ _ _ _ r (x 2) (y 2) (fun q => ?_) (fun s => ?_)
      · rw [s83_eq]; exact (cst_at _ q (x 2)).trans (kept_read _ _ _ _ _ q (x 2) (y 2) (by omega))
      · unfold kernelRun0_A.sl.r_36 kernelRun0_A.sl.r_49 kernelRun0_A.sl.r_48 kernelRun0_A.sl.r_4 kernelRun0_A.sl.r_3 kernelRun0_A.sl.r_1
        rw [e2_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v633 kernelRun0_A.sl.HS1_10
      refine pad_piece _ _ _ _ _ _ _ 0 1 (by decide) _ _ _ _ _ _ r (x 2) (y 2) (fun q => ?_) (fun s => ?_)
      · rw [s83_eq]; exact (cst_at _ q (x 2)).trans (kept_read _ _ _ _ _ q (x 2) (y 2) (by omega))
      · unfold kernelRun0_A.sl.r_36 kernelRun0_A.sl.r_49 kernelRun0_A.sl.r_48 kernelRun0_A.sl.r_4 kernelRun0_A.sl.r_3 kernelRun0_A.sl.r_1
        rw [e2_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v639 kernelRun0_A.sl.HS1_10
      refine pad_piece _ _ _ _ _ _ _ 0 2 (by decide) _ _ _ _ _ _ r (x 2) (y 2) (fun q => ?_) (fun s => ?_)
      · rw [s83_eq]; exact (cst_at _ q (x 2)).trans (kept_read _ _ _ _ _ q (x 2) (y 2) (by omega))
      · unfold kernelRun0_A.sl.r_36 kernelRun0_A.sl.r_49 kernelRun0_A.sl.r_48 kernelRun0_A.sl.r_4 kernelRun0_A.sl.r_3 kernelRun0_A.sl.r_1
        rw [e2_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v645 kernelRun0_A.sl.HS1_10
      refine pad_piece _ _ _ _ _ _ _ 0 3 (by decide) _ _ _ _ _ _ r (x 2) (y 2) (fun q => ?_) (fun s => ?_)
      · rw [s83_eq]; exact (cst_at _ q (x 2)).trans (kept_read _ _ _ _ _ q (x 2) (y 2) (by omega))
      · unfold kernelRun0_A.sl.r_36 kernelRun0_A.sl.r_49 kernelRun0_A.sl.r_48 kernelRun0_A.sl.r_4 kernelRun0_A.sl.r_3 kernelRun0_A.sl.r_1
        rw [e2_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
  case piece12 =>
    unfold kernelRun0_A.sl.r_47 kernelRun0_A.sl.r_46
    rw [c3_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v571 kernelRun0_A.sl.HS1_8
      refine pad_piece _ _ _ _ _ _ _ 1 0 (by decide) _ _ _ _ _ _ r (x 2) (y 2) (fun q => ?_) (fun s => ?_)
      · rw [s76_eq]; exact (cst_at _ q (x 2)).trans (kept_read _ _ _ _ _ q (x 2) (y 2) (by omega))
      · unfold kernelRun0_A.sl.r_43 kernelRun0_A.sl.r_36 kernelRun0_A.sl.r_42 kernelRun0_A.sl.r_41 kernelRun0_A.sl.r_4 kernelRun0_A.sl.r_3 kernelRun0_A.sl.r_1
        rw [o1_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v576 kernelRun0_A.sl.HS1_8
      refine pad_piece _ _ _ _ _ _ _ 1 1 (by decide) _ _ _ _ _ _ r (x 2) (y 2) (fun q => ?_) (fun s => ?_)
      · rw [s76_eq]; exact (cst_at _ q (x 2)).trans (kept_read _ _ _ _ _ q (x 2) (y 2) (by omega))
      · unfold kernelRun0_A.sl.r_43 kernelRun0_A.sl.r_36 kernelRun0_A.sl.r_42 kernelRun0_A.sl.r_41 kernelRun0_A.sl.r_4 kernelRun0_A.sl.r_3 kernelRun0_A.sl.r_1
        rw [o1_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v582 kernelRun0_A.sl.HS1_8
      refine pad_piece _ _ _ _ _ _ _ 1 2 (by decide) _ _ _ _ _ _ r (x 2) (y 2) (fun q => ?_) (fun s => ?_)
      · rw [s76_eq]; exact (cst_at _ q (x 2)).trans (kept_read _ _ _ _ _ q (x 2) (y 2) (by omega))
      · unfold kernelRun0_A.sl.r_43 kernelRun0_A.sl.r_36 kernelRun0_A.sl.r_42 kernelRun0_A.sl.r_41 kernelRun0_A.sl.r_4 kernelRun0_A.sl.r_3 kernelRun0_A.sl.r_1
        rw [o1_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v588 kernelRun0_A.sl.HS1_8
      refine pad_piece _ _ _ _ _ _ _ 1 3 (by decide) _ _ _ _ _ _ r (x 2) (y 2) (fun q => ?_) (fun s => ?_)
      · rw [s76_eq]; exact (cst_at _ q (x 2)).trans (kept_read _ _ _ _ _ q (x 2) (y 2) (by omega))
      · unfold kernelRun0_A.sl.r_43 kernelRun0_A.sl.r_36 kernelRun0_A.sl.r_42 kernelRun0_A.sl.r_41 kernelRun0_A.sl.r_4 kernelRun0_A.sl.r_3 kernelRun0_A.sl.r_1
        rw [o1_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
  case piece13 =>
    unfold kernelRun0_A.sl.r_45 kernelRun0_A.sl.r_44
    rw [c2_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v530 kernelRun0_A.sl.HS1_6
      refine pad_piece _ _ _ _ _ _ _ 0 0 (by decide) _ _ _ _ _ _ r (x 2) (y 2) (fun q => ?_) (fun s => ?_)
      · rw [s72_eq]; exact (cst_at _ q (x 2)).trans (kept_read _ _ _ _ _ q (x 2) (y 2) (by omega))
      · unfold kernelRun0_A.sl.r_36 kernelRun0_A.sl.r_42 kernelRun0_A.sl.r_41 kernelRun0_A.sl.r_4 kernelRun0_A.sl.r_3 kernelRun0_A.sl.r_1
        rw [e1_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v535 kernelRun0_A.sl.HS1_6
      refine pad_piece _ _ _ _ _ _ _ 0 1 (by decide) _ _ _ _ _ _ r (x 2) (y 2) (fun q => ?_) (fun s => ?_)
      · rw [s72_eq]; exact (cst_at _ q (x 2)).trans (kept_read _ _ _ _ _ q (x 2) (y 2) (by omega))
      · unfold kernelRun0_A.sl.r_36 kernelRun0_A.sl.r_42 kernelRun0_A.sl.r_41 kernelRun0_A.sl.r_4 kernelRun0_A.sl.r_3 kernelRun0_A.sl.r_1
        rw [e1_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v541 kernelRun0_A.sl.HS1_6
      refine pad_piece _ _ _ _ _ _ _ 0 2 (by decide) _ _ _ _ _ _ r (x 2) (y 2) (fun q => ?_) (fun s => ?_)
      · rw [s72_eq]; exact (cst_at _ q (x 2)).trans (kept_read _ _ _ _ _ q (x 2) (y 2) (by omega))
      · unfold kernelRun0_A.sl.r_36 kernelRun0_A.sl.r_42 kernelRun0_A.sl.r_41 kernelRun0_A.sl.r_4 kernelRun0_A.sl.r_3 kernelRun0_A.sl.r_1
        rw [e1_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v547 kernelRun0_A.sl.HS1_6
      refine pad_piece _ _ _ _ _ _ _ 0 3 (by decide) _ _ _ _ _ _ r (x 2) (y 2) (fun q => ?_) (fun s => ?_)
      · rw [s72_eq]; exact (cst_at _ q (x 2)).trans (kept_read _ _ _ _ _ q (x 2) (y 2) (by omega))
      · unfold kernelRun0_A.sl.r_36 kernelRun0_A.sl.r_42 kernelRun0_A.sl.r_41 kernelRun0_A.sl.r_4 kernelRun0_A.sl.r_3 kernelRun0_A.sl.r_1
        rw [e1_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
  case piece14 =>
    unfold kernelRun0_A.sl.r_40
    rw [c1_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v473 kernelRun0_A.sl.HS1_4
      refine pad_piece _ _ _ _ _ _ _ 1 0 (by decide) _ _ _ _ _ _ r (x 2) (y 2) (fun q => ?_) (fun s => ?_)
      · rw [s64_eq]; exact (cst_at _ q (x 2)).trans (kept_read _ _ _ _ _ q (x 2) (y 2) (by omega))
      · unfold kernelRun0_A.sl.r_37 kernelRun0_A.sl.r_36 kernelRun0_A.sl.r_35 kernelRun0_A.sl.r_4 kernelRun0_A.sl.r_3 kernelRun0_A.sl.r_1
        rw [o0_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v478 kernelRun0_A.sl.HS1_4
      refine pad_piece _ _ _ _ _ _ _ 1 1 (by decide) _ _ _ _ _ _ r (x 2) (y 2) (fun q => ?_) (fun s => ?_)
      · rw [s64_eq]; exact (cst_at _ q (x 2)).trans (kept_read _ _ _ _ _ q (x 2) (y 2) (by omega))
      · unfold kernelRun0_A.sl.r_37 kernelRun0_A.sl.r_36 kernelRun0_A.sl.r_35 kernelRun0_A.sl.r_4 kernelRun0_A.sl.r_3 kernelRun0_A.sl.r_1
        rw [o0_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v484 kernelRun0_A.sl.HS1_4
      refine pad_piece _ _ _ _ _ _ _ 1 2 (by decide) _ _ _ _ _ _ r (x 2) (y 2) (fun q => ?_) (fun s => ?_)
      · rw [s64_eq]; exact (cst_at _ q (x 2)).trans (kept_read _ _ _ _ _ q (x 2) (y 2) (by omega))
      · unfold kernelRun0_A.sl.r_37 kernelRun0_A.sl.r_36 kernelRun0_A.sl.r_35 kernelRun0_A.sl.r_4 kernelRun0_A.sl.r_3 kernelRun0_A.sl.r_1
        rw [o0_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v490 kernelRun0_A.sl.HS1_4
      refine pad_piece _ _ _ _ _ _ _ 1 3 (by decide) _ _ _ _ _ _ r (x 2) (y 2) (fun q => ?_) (fun s => ?_)
      · rw [s64_eq]; exact (cst_at _ q (x 2)).trans (kept_read _ _ _ _ _ q (x 2) (y 2) (by omega))
      · unfold kernelRun0_A.sl.r_37 kernelRun0_A.sl.r_36 kernelRun0_A.sl.r_35 kernelRun0_A.sl.r_4 kernelRun0_A.sl.r_3 kernelRun0_A.sl.r_1
        rw [o0_eq]
        exact pB_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
  case piece15 =>
    unfold kernelRun0_A.sl.r_39 kernelRun0_A.sl.r_38
    rw [c0_eq]
    refine c_piece _ _ _ _ _ _ _ _ _ _ _ _ _ _ _ _ _ x _ _ (by omega) (bias_read _ _ _ _ _ (x 2) (y 2) (by omega))
      (tap_read _ _ _ 0 _ _ (x 2) (y 2) (by omega)) (tap_read _ _ _ 1 _ _ (x 2) (y 2) (by omega)) (tap_read _ _ _ 2 _ _ (x 2) (y 2) (by omega)) (tap_read _ _ _ 3 _ _ (x 2) (y 2) (by omega))
      (fun r => ?_) (fun r => ?_) (fun r => ?_) (fun r => ?_)
    · unfold kernelRun0_A.sl.v432 kernelRun0_A.sl.HS1_2
      refine pad_piece _ _ _ _ _ _ _ 0 0 (by decide) _ _ _ _ _ _ r (x 2) (y 2) (fun q => ?_) (fun s => ?_)
      · rw [s60_eq]; exact (cst_at _ q (x 2)).trans (kept_read _ _ _ _ _ q (x 2) (y 2) (by omega))
      · unfold kernelRun0_A.sl.r_36 kernelRun0_A.sl.r_35 kernelRun0_A.sl.r_4 kernelRun0_A.sl.r_3 kernelRun0_A.sl.r_1
        rw [e0_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v437 kernelRun0_A.sl.HS1_2
      refine pad_piece _ _ _ _ _ _ _ 0 1 (by decide) _ _ _ _ _ _ r (x 2) (y 2) (fun q => ?_) (fun s => ?_)
      · rw [s60_eq]; exact (cst_at _ q (x 2)).trans (kept_read _ _ _ _ _ q (x 2) (y 2) (by omega))
      · unfold kernelRun0_A.sl.r_36 kernelRun0_A.sl.r_35 kernelRun0_A.sl.r_4 kernelRun0_A.sl.r_3 kernelRun0_A.sl.r_1
        rw [e0_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v443 kernelRun0_A.sl.HS1_2
      refine pad_piece _ _ _ _ _ _ _ 0 2 (by decide) _ _ _ _ _ _ r (x 2) (y 2) (fun q => ?_) (fun s => ?_)
      · rw [s60_eq]; exact (cst_at _ q (x 2)).trans (kept_read _ _ _ _ _ q (x 2) (y 2) (by omega))
      · unfold kernelRun0_A.sl.r_36 kernelRun0_A.sl.r_35 kernelRun0_A.sl.r_4 kernelRun0_A.sl.r_3 kernelRun0_A.sl.r_1
        rw [e0_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
    · unfold kernelRun0_A.sl.v449 kernelRun0_A.sl.HS1_2
      refine pad_piece _ _ _ _ _ _ _ 0 3 (by decide) _ _ _ _ _ _ r (x 2) (y 2) (fun q => ?_) (fun s => ?_)
      · rw [s60_eq]; exact (cst_at _ q (x 2)).trans (kept_read _ _ _ _ _ q (x 2) (y 2) (by omega))
      · unfold kernelRun0_A.sl.r_36 kernelRun0_A.sl.r_35 kernelRun0_A.sl.r_4 kernelRun0_A.sl.r_3 kernelRun0_A.sl.r_1
        rw [e0_eq]
        exact pA_piece _ _ _ _ _ _ _ (fun r l => scales_read _ _ _ _ _ _ _ _ _ _ _ _ _ _ _ _ _ _ _ _ _ _ _ _ _ _ _ _ _ _ _ _ _ _ _ _ _ _ _ _ _ _ _ _ _ _ _ _ _ _ _ _ _ _ _ _ _ _ _ _ r l) (fun r k => codes_read _ _ _ _ _ _ _ _ _ _ _ _ _ _ _ _ _ _ _ _ _ _ _ _ _ _ _ _ _ _ _ _ _ _ _ _ _ _ _ _ _ _ _ _ _ _ _ _ _ _ _ _ _ _ _ _ _ _ _ r k) _ _ _ (fun j k n h => w_read _ _ _ _ _ j k n h) (fun j n h => s_read _ _ _ _ _ j n h) _ (mul_read _ _ _ 3 _ _) 8 _ (mul_read _ _ _ 8 _ _) (x 2) (y 2) (by omega) (fun v => if_pos (by omega)) s
end Cert.InProjIdeal.Body
-- ==== Proof.InProj.Target.lean ====
module

public import proofs.«01_k».proof.Proof.Gen.InProjIdeal.Skeleton
public import proofs.«01_k».proof.Proof.InProj.Spec

@[expose] public section

noncomputable section
open Idealize.ShloMosaic Idealize.ShloMosaic.TcCoe Idealize.SL.Sem
namespace Cert.InRow
open Cert.InProjIdeal Cert.InProjIdeal.Gen

/-! # The results of the input projection, from the thirteen arguments -/

variable (x : Vec Ideal S5x384x2048 .bf16) (g : Vec Ideal S2048 .f32) (w : Vec Ideal S2048x5144 .fp8e4m3) (s : Vec Ideal S5144 .f32) (mu : Vec Ideal S12 .f32)
  (cs sn : Vec Ideal S5x384x64 .f32) (ks vs : Vec Ideal S2 .f32) (st : Vec Ideal S5x3x2048 .f32) (cw : Vec Ideal S4x2048 .f32) (cb : Vec Ideal S2048 .f32) (dtb : Vec Ideal S24 .f32)

/-- The scale of token `r` of sequence `b`. -/
def scaleG (b : Fin 5) (r : Fin 384) : EReal := scaleOf (fun k => x (ix3 b r k)) (fun k => g (ix1 k))

/-- The code of token `r` of sequence `b` at column `k`. -/
def codeG (b : Fin 5) (r : Fin 384) (k : Fin 2048) : EReal := codeOf (fun k => x (ix3 b r k)) (fun k => g (ix1 k)) k

/-- The projection of token `r` of sequence `b` at column `n`. -/
def projG (b : Fin 5) (r : Fin 384) (n : Fin 5144) : EReal := proj (codeG x g b r) (fun k => w (ix2 k n)) (scaleG x g b r) (s (ix1 n))

/-- The rotated query of head `hd`. -/
def qG (b : Fin 5) (hd : ℕ) (hh : hd < 8) (r : Fin 384) (d : Fin 128) : EReal :=
  rope (fun d => projG x g w s b r ⟨hd * 128 + d, by omega⟩ * mu (ix1 0)) (fun k => cs (ix3 b r k)) (fun k => sn (ix3 b r k)) d

/-- The rotated queries laid out by group: column `l` holds head `l / 384` of the group and token `l % 384`. -/
def qTG (b : Fin 5) (i : Fin 2) (d : Fin 128) (l : Fin 1536) : EReal :=
  qG x g w s mu cs sn b ((i : ℕ) * 4 + (l : ℕ) / 384) (by omega) ⟨(l : ℕ) % 384, Nat.mod_lt _ (by decide)⟩ d

/-- The code of the rotated key of head `i`. -/
def kG (b : Fin 5) (i : Fin 2) (r : Fin 384) (d : Fin 128) : EReal :=
  MlpRow.code (rope (fun d => projG x g w s b r ⟨1024 + (i * 128 + d), by omega⟩ * (mu (ix1 0) * mu (ix1 1))) (fun k => cs (ix3 b r k)) (fun k => sn (ix3 b r k)) d) (ks (ix1 i))

/-- The code of the value of head `i`. -/
def vG (b : Fin 5) (i : Fin 2) (r : Fin 384) (d : Fin 128) : EReal :=
  MlpRow.code (projG x g w s b r ⟨1280 + (i * 128 + d), by omega⟩ * mu (ix1 0)) (vs (ix1 i))

/-- The gate at column `j`. -/
def zG (b : Fin 5) (r : Fin 384) (j : Fin 1536) : EReal := silu (projG x g w s b r ⟨1536 + j, by omega⟩ * (mu (ix1 3) * mu (ix1 7)))

/-- The value of column `j` before the convolution. -/
def xG (b : Fin 5) (r : Fin 384) (j : Fin 2048) : EReal :=
  segX (mu (ix1 3) * mu (ix1 8)) (mu (ix1 3) * mu (ix1 9)) (mu (ix1 3) * mu (ix1 10)) j (projG x g w s b r ⟨3072 + j, by omega⟩)

/-- The kept values of column `j`, then the sequence's. -/
def padG (b : Fin 5) (j : Fin 2048) (i : Fin 387) : EReal := padded (fun p => st (ix3 b p j)) (fun r => xG x g w s mu b r j) i

/-- The convolved value of column `j`. -/
def convG (b : Fin 5) (r : Fin 384) (j : Fin 2048) : EReal :=
  silu (conv (cb (ix1 j)) (cw (ix2 0 j)) (cw (ix2 1 j)) (cw (ix2 2 j)) (cw (ix2 3 j))
    (padG x g w s mu st b j ⟨0 + r, by omega⟩) (padG x g w s mu st b j ⟨1 + r, by omega⟩) (padG x g w s mu st b j ⟨2 + r, by omega⟩) (padG x g w s mu st b j ⟨3 + r, by omega⟩))

/-- The step size of head `h`; zero before the softplus for the heads past 24. -/
def dtG (b : Fin 5) (h : Fin 32) (r : Fin 384) : EReal :=
  softplus (if hh : (h : ℕ) < 24 then projG x g w s b r ⟨5120 + h, by omega⟩ * (mu (ix1 3) * mu (ix1 11)) + dtb (ix1 ⟨h, hh⟩) else 0)

/-- The last three values of column `j` before the convolution. -/
def tailG (b : Fin 5) (p : Fin 3) (j : Fin 2048) : EReal := padG x g w s mu st b j ⟨384 + p, by omega⟩

end Cert.InRow
-- ==== Proof.InProj.Blocks.lean ====
module
public import proofs.«01_k».proof.Proof.InProj.BodyA
public import proofs.«01_k».proof.Proof.InProj.BodyB
public import proofs.«01_k».proof.Proof.InProj.BodyC
public import proofs.«01_k».proof.Proof.InProj.Target
@[expose] public section
set_option maxRecDepth 16384
noncomputable section
open Idealize.ShloMosaic Idealize.ShloMosaic.TcCoe Idealize.SL.Sem
open Idealize.ShloMosaic.Pipeline (Dat)
namespace Cert.InProjIdeal.Final
open Cert.InProjIdeal Cert.InProjIdeal.Gen
variable (m : (ℓ : Loc nD τ sig) → Buf (Elt Ideal) ℓ)

/-- The index maps of the windows. -/
theorem idx : ∀ t : Fin cfg0.N, win0_0.index t = ![0] ∧ win0_1.index t = ![0] ∧ win0_2.index t = ![0] ∧ win0_3.index t = ![t.val, 0, 0] ∧ win0_4.index t = ![0, 0]
    ∧ win0_5.index t = ![0, 0] ∧ win0_6.index t = ![0, 0] ∧ win0_7.index t = ![0, 0] ∧ win0_8.index t = ![0, 0] ∧ win0_9.index t = ![t.val, 0, 0] ∧ win0_10.index t = ![t.val, 0, 0]
    ∧ win0_11.index t = ![t.val, 0, 0] ∧ win0_12.index t = ![0, 0] ∧ win0_13.index t = ![0, 0] ∧ win0_14.index t = ![0, 0]
    ∧ win0_15.index t = ![t.val, 0, 0] ∧ win0_16.index t = ![t.val, 0, 0] ∧ win0_17.index t = ![t.val, 0, 0, 0] ∧ win0_18.index t = ![t.val, 0, 0, 0] ∧ win0_19.index t = ![t.val, 0, 0, 0]
    ∧ win0_20.index t = ![t.val, 0, 0] ∧ win0_21.index t = ![t.val, 0, 0] ∧ win0_22.index t = ![t.val, 0, 0] ∧ win0_23.index t = ![t.val, 0, 0] :=
  (by decide +kernel : ∀ t : Fin grid0.N, _)

/-! The two padded arrays, at an index. -/

/-- The padded row of the step sizes' weight scales, at a head below 24: the argument's entry 5120 columns on. -/
theorem pad6 (x : Vec Ideal S5144 .f32) (h : Fin 24) :
    pad S1x128 ![0, 0] ![0, 104] ![0, 0] (extractStridedSlice S1x24 ![0, 5120] (shapeCast S1x5144 x shapeCasts_S5144_S1x5144) slices_S1x5144_S1x24_0_5120) (sitofp (F := Ideal) .f32 (constantI S_ 32 0#32)) pads_S1x24_S1x128_000_01040 h_S_ (ix2 0 ⟨h, by omega⟩)
      = x (ix1 ⟨5120 + h, by omega⟩) := by
  pointwise

/-- The padded column of the step sizes' biases: the argument's entry for the first 24 heads, zero after. -/
theorem pad8 (x : Vec Ideal S24 .f32) (h : Fin 32) :
    shapeCast S32x1 (pad S32 ![0] ![8] ![0] x (sitofp (F := Ideal) .f32 (constantI S_ 32 0#32)) pads_S24_S32_080 h_S_) shapeCasts_S32_S32x1 (ix2 h 0)
      = (if hh : (h : ℕ) < 24 then x (ix1 ⟨h, hh⟩) else (0 : EReal) : EReal) := by
  pointwise
  have e : (FloatOps.sitofp (F := Ideal) .f32 (0#32) : EReal) = 0 := by
    show ((((0#32 : BitVec 32).toInt : ℤ) : ℝ) : EReal) = 0
    simp
  split
  · rfl
  · exact e

/-! What the host computes before the launch. -/

/-- The transposed cosines on entry to the kernel are the argument's, with the two last indices exchanged. -/
theorem entry0 (c : Dev nD) (b : Fin 5) (k : Fin 64) (r : Fin 384) : V m c main_v0 (ix3 b k r) = m ((c : Thread nD τ).loc main_arg5) (ix3 b r k) := by
  unfold V
  simp only [hostOps0, hostOps0_1, hostOps0_2, hostOps0_3, hostOps0_4, List.flatten_cons, List.flatten_nil, List.append_nil, List.cons_append, List.nil_append]
  entry_read
  pointwise

/-- The transposed sines on entry to the kernel are the argument's, with the two last indices exchanged. -/
theorem entry1 (c : Dev nD) (b : Fin 5) (k : Fin 64) (r : Fin 384) : V m c main_v1 (ix3 b k r) = m ((c : Thread nD τ).loc main_arg6) (ix3 b r k) := by
  unfold V
  simp only [hostOps0, hostOps0_1, hostOps0_2, hostOps0_3, hostOps0_4, List.flatten_cons, List.flatten_nil, List.append_nil, List.cons_append, List.nil_append]
  entry_read
  pointwise

/-- The transposed weights on entry to the kernel are the argument's, with the indices exchanged. -/
theorem entry2 (c : Dev nD) (n : Fin 5144) (k : Fin 2048) : V m c main_v2 (ix2 n k) = m ((c : Thread nD τ).loc main_arg2) (ix2 k n) := by
  unfold V
  simp only [hostOps0, hostOps0_1, hostOps0_2, hostOps0_3, hostOps0_4, List.flatten_cons, List.flatten_nil, List.append_nil, List.cons_append, List.nil_append]
  entry_read
  pointwise

/-- The transposed weights of the step sizes are the argument's last 24 columns. -/
theorem entry3 (c : Dev nD) (h : Fin 24) (k : Fin 2048) : V m c main_v3 (ix2 h k) = m ((c : Thread nD τ).loc main_arg2) (ix2 k ⟨5120 + h, by omega⟩) := by
  unfold V
  simp only [hostOps0, hostOps0_1, hostOps0_2, hostOps0_3, hostOps0_4, List.flatten_cons, List.flatten_nil, List.append_nil, List.cons_append, List.nil_append]
  entry_read
  pointwise

/-- The weight scales as a row are the argument's. -/
theorem entry4 (c : Dev nD) (n : Fin 5144) : V m c main_v4 (ix2 0 n) = m ((c : Thread nD τ).loc main_arg3) (ix1 n) := by
  unfold V
  simp only [hostOps0, hostOps0_1, hostOps0_2, hostOps0_3, hostOps0_4, List.flatten_cons, List.flatten_nil, List.append_nil, List.cons_append, List.nil_append]
  entry_read
  pointwise

/-- The padded weight scales of the step sizes, at a head below 24, are the argument's. -/
theorem entry6 (c : Dev nD) (h : Fin 24) : V m c main_v6 (ix2 0 ⟨h, by omega⟩) = m ((c : Thread nD τ).loc main_arg3) (ix1 ⟨5120 + h, by omega⟩) := by
  unfold V
  simp only [hostOps0, hostOps0_1, hostOps0_2, hostOps0_3, hostOps0_4, List.flatten_cons, List.flatten_nil, List.append_nil, List.cons_append, List.nil_append]
  entry_read
  exact pad6 _ h

/-- The padded biases of the step sizes are the argument's for the first 24 heads and zero after. -/
theorem entry8 (c : Dev nD) (h : Fin 32) : V m c main_v8 (ix2 h 0) = (if hh : (h : ℕ) < 24 then m ((c : Thread nD τ).loc main_arg12) (ix1 ⟨h, hh⟩) else (0 : EReal) : EReal) := by
  unfold V
  simp only [hostOps0, hostOps0_1, hostOps0_2, hostOps0_3, hostOps0_4, List.flatten_cons, List.flatten_nil, List.append_nil, List.cons_append, List.nil_append]
  entry_read
  exact pad8 _ h

/-- The norm's gains as a row are the argument's. -/
theorem entry9 (c : Dev nD) (k : Fin 2048) : V m c main_v9 (ix2 0 k) = m ((c : Thread nD τ).loc main_arg1) (ix1 k) := by
  unfold V
  simp only [hostOps0, hostOps0_1, hostOps0_2, hostOps0_3, hostOps0_4, List.flatten_cons, List.flatten_nil, List.append_nil, List.cons_append, List.nil_append]
  entry_read
  pointwise

/-- The convolution's biases as a row are the argument's. -/
theorem entry10 (c : Dev nD) (k : Fin 2048) : V m c main_v10 (ix2 0 k) = m ((c : Thread nD τ).loc main_arg11) (ix1 k) := by
  unfold V
  simp only [hostOps0, hostOps0_1, hostOps0_2, hostOps0_3, hostOps0_4, List.flatten_cons, List.flatten_nil, List.append_nil, List.cons_append, List.nil_append]
  entry_read
  pointwise

/-! Every block read by a point is the argument array read at the point's sequence. -/

/-- The block of the multipliers read at a step, by the argument's entries. -/
theorem blk0 (c : Dev nD) (t : Fin cfg0.N) (i : Fin 12) : iblk m c 0 t (ix1 i) = m ((c : Thread nD τ).loc main_arg4) (ix1 i) := by
  blk_point [iblk, V, idx t]

/-- The block of the scales of the keys read at a step, by the argument's entries. -/
theorem blk1 (c : Dev nD) (t : Fin cfg0.N) (i : Fin 2) : iblk m c 1 t (ix1 i) = m ((c : Thread nD τ).loc main_arg7) (ix1 i) := by
  blk_point [iblk, V, idx t]

/-- The block of the scales of the values read at a step, by the argument's entries. -/
theorem blk2 (c : Dev nD) (t : Fin cfg0.N) (i : Fin 2) : iblk m c 2 t (ix1 i) = m ((c : Thread nD τ).loc main_arg8) (ix1 i) := by
  blk_point [iblk, V, idx t]

/-- The block of the tokens read at a step, by the argument's entries. -/
theorem blk3 (c : Dev nD) (t : Fin cfg0.N) (b : Fin 5) (hb : (b : ℕ) = t.val) (r : Fin 384) (k : Fin 2048) : iblk m c 3 t (ix3 0 r k) = m ((c : Thread nD τ).loc main_arg0) (ix3 b r k) := by
  blk_point [iblk, V, idx t]

/-- The block of the gains read at a step, by the argument's entries. -/
theorem blk4 (c : Dev nD) (t : Fin cfg0.N) (k : Fin 2048) : iblk m c 4 t (ix2 0 k) = m ((c : Thread nD τ).loc main_arg1) (ix1 k) := by
  refine Eq.trans (b := V m c main_v9 (ix2 0 k)) ?_ (entry9 m c k)
  unfold iblk
  refine congrArg (V m c main_v9) ?_
  blk_ext [idx t]

/-- The block of the weights read at a step, by the argument's entries. -/
theorem blk5 (c : Dev nD) (t : Fin cfg0.N) (n : Fin 5120) (k : Fin 2048) : X0_5 m c t (ix2 n k) = m ((c : Thread nD τ).loc main_arg2) (ix2 k ⟨n, by omega⟩) := by
  refine Eq.trans (b := V m c main_v2 (ix2 ⟨n, by omega⟩ k)) ?_ (entry2 m c _ k)
  unfold X0_5 Idealize.ShloMosaic.Pipeline.Window.fill
  rw [dif_pos (moved0_5 t _)]
  unfold iblk
  refine congrArg (V m c main_v2) ?_
  blk_ext [idx t]
/-- The block of the weight scales read at a step, by the argument's entries. -/
theorem blk7 (c : Dev nD) (t : Fin cfg0.N) (n : Fin 5120) : X0_7 m c t (ix2 0 n) = m ((c : Thread nD τ).loc main_arg3) (ix1 ⟨n, by omega⟩) := by
  refine Eq.trans (b := V m c main_v4 (ix2 0 ⟨n, by omega⟩)) ?_ (entry4 m c _)
  unfold X0_7 Idealize.ShloMosaic.Pipeline.Window.fill
  rw [dif_pos (moved0_7 t _)]
  unfold iblk
  refine congrArg (V m c main_v4) ?_
  blk_ext [idx t]
/-- The block of the step sizes' weights read at a step, by the argument's entries. -/
theorem blk6 (c : Dev nD) (t : Fin cfg0.N) (h : Fin 24) (k : Fin 2048) : iblk m c 6 t (ix2 h k) = m ((c : Thread nD τ).loc main_arg2) (ix2 k ⟨5120 + h, by omega⟩) := by
  refine Eq.trans (b := V m c main_v3 (ix2 h k)) ?_ (entry3 m c h k)
  unfold iblk
  refine congrArg (V m c main_v3) ?_
  blk_ext [idx t]

/-- The block of the step sizes' weight scales read at a step, by the argument's entries. -/
theorem blk8 (c : Dev nD) (t : Fin cfg0.N) (h : Fin 24) : iblk m c 8 t (ix2 0 ⟨h, by omega⟩) = m ((c : Thread nD τ).loc main_arg3) (ix1 ⟨5120 + h, by omega⟩) := by
  refine Eq.trans (b := V m c main_v6 (ix2 0 ⟨h, by omega⟩)) ?_ (entry6 m c h)
  unfold iblk
  refine congrArg (V m c main_v6) ?_
  blk_ext [idx t]

/-- The block of the cosines read at a step, by the argument's entries. -/
theorem blk9 (c : Dev nD) (t : Fin cfg0.N) (b : Fin 5) (hb : (b : ℕ) = t.val) (k : Fin 64) (r : Fin 384) : iblk m c 9 t (ix3 0 k r) = m ((c : Thread nD τ).loc main_arg5) (ix3 b r k) := by
  refine Eq.trans (b := V m c main_v0 (ix3 b k r)) ?_ (entry0 m c b k r)
  unfold iblk
  refine congrArg (V m c main_v0) ?_
  blk_ext [idx t]

/-- The block of the sines read at a step, by the argument's entries. -/
theorem blk10 (c : Dev nD) (t : Fin cfg0.N) (b : Fin 5) (hb : (b : ℕ) = t.val) (k : Fin 64) (r : Fin 384) : iblk m c 10 t (ix3 0 k r) = m ((c : Thread nD τ).loc main_arg6) (ix3 b r k) := by
  refine Eq.trans (b := V m c main_v1 (ix3 b k r)) ?_ (entry1 m c b k r)
  unfold iblk
  refine congrArg (V m c main_v1) ?_
  blk_ext [idx t]

/-- The block of the kept values of the convolution read at a step, by the argument's entries. -/
theorem blk11 (c : Dev nD) (t : Fin cfg0.N) (b : Fin 5) (hb : (b : ℕ) = t.val) (p : Fin 3) (j : Fin 2048) : iblk m c 11 t (ix3 0 p j) = m ((c : Thread nD τ).loc main_arg9) (ix3 b p j) := by
  blk_point [iblk, V, idx t]

/-- The block of the taps of the convolution read at a step, by the argument's entries. -/
theorem blk12 (c : Dev nD) (t : Fin cfg0.N) (i : Fin 4) (j : Fin 2048) : iblk m c 12 t (ix2 i j) = m ((c : Thread nD τ).loc main_arg10) (ix2 i j) := by
  blk_point [iblk, V, idx t]

/-- The block of the biases of the convolution read at a step, by the argument's entries. -/
theorem blk13 (c : Dev nD) (t : Fin cfg0.N) (j : Fin 2048) : iblk m c 13 t (ix2 0 j) = m ((c : Thread nD τ).loc main_arg11) (ix1 j) := by
  refine Eq.trans (b := V m c main_v10 (ix2 0 j)) ?_ (entry10 m c j)
  unfold iblk
  refine congrArg (V m c main_v10) ?_
  blk_ext [idx t]

/-- The block of the biases of the step sizes read at a step, by the argument's entries. -/
theorem blk14 (c : Dev nD) (t : Fin cfg0.N) (h : Fin 32) : iblk m c 14 t (ix2 h 0) = (if hh : (h : ℕ) < 24 then m ((c : Thread nD τ).loc main_arg12) (ix1 ⟨h, hh⟩) else (0 : EReal) : EReal) := by
  refine Eq.trans (b := V m c main_v8 (ix2 h 0)) ?_ (entry8 m c h)
  unfold iblk
  refine congrArg (V m c main_v8) ?_
  blk_ext [idx t]

/-! The block's results are the target at the block's sequence. -/

/-- The scale of a row, from the blocks read, is that of the arguments' row. -/
theorem scale_blk (c : Dev nD) (t : Fin cfg0.N) (b : Fin 5) (hb : (b : ℕ) = t.val) (r : Fin 384) : Body.sgm (iblk m c 3 t) (iblk m c 4 t) r = InRow.scaleG (m ((c : Thread nD τ).loc main_arg0)) (m ((c : Thread nD τ).loc main_arg1)) b r := by
  unfold Body.sgm InRow.scaleG
  rw [funext (blk3 m c t b hb r), funext (blk4 m c t)]
/-- The codes of a row, from the blocks read, are those of the arguments' row. -/
theorem code_blk (c : Dev nD) (t : Fin cfg0.N) (b : Fin 5) (hb : (b : ℕ) = t.val) (r : Fin 384) : Body.kap (iblk m c 3 t) (iblk m c 4 t) r = InRow.codeG (m ((c : Thread nD τ).loc main_arg0)) (m ((c : Thread nD τ).loc main_arg1)) b r := by
  funext k
  unfold Body.kap InRow.codeG
  rw [funext (blk3 m c t b hb r), funext (blk4 m c t)]
/-- A projected entry, from the blocks read, is that of the arguments. -/
theorem proj_blk (c : Dev nD) (t : Fin cfg0.N) (b : Fin 5) (hb : (b : ℕ) = t.val) (r : Fin 384) (n : Fin 5120) : Body.colP (iblk m c 3 t) (iblk m c 4 t) (X0_5 m c t) (X0_7 m c t) r n = InRow.projG (m ((c : Thread nD τ).loc main_arg0)) (m ((c : Thread nD τ).loc main_arg1)) (m ((c : Thread nD τ).loc main_arg2)) (m ((c : Thread nD τ).loc main_arg3)) b r ⟨n, by omega⟩ := by
  unfold Body.colP InRow.projG
  rw [code_blk m c t b hb, scale_blk m c t b hb, blk7, funext fun k => blk5 m c t n k]
/-- A rotated query entry, from the blocks read, is that of the arguments. -/
theorem q_blk (c : Dev nD) (t : Fin cfg0.N) (b : Fin 5) (hb : (b : ℕ) = t.val) (hd : ℕ) (hh : hd < 8) (r : Fin 384) (d : Fin 128) : Body.qS (iblk m c 0 t) (iblk m c 3 t) (iblk m c 4 t) (X0_5 m c t) (X0_7 m c t) (iblk m c 9 t) (iblk m c 10 t) hd hh r d = InRow.qG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b hd hh r d := by
  unfold Body.qS InRow.qG
  rw [funext fun k => blk9 m c t b hb k r, funext fun k => blk10 m c t b hb k r, blk0, funext fun d : Fin 128 => congrArg (fun u => u * (m ((c : Thread nD τ).loc main_arg4)) (ix1 0)) (proj_blk m c t b hb r ⟨hd * 128 + d, by omega⟩)]
/-- The rotated queries as the result lays them out, from the blocks read, are those of the arguments. -/
theorem qT_blk (c : Dev nD) (t : Fin cfg0.N) (b : Fin 5) (hb : (b : ℕ) = t.val) (i : Fin 2) (d : Fin 128) (l : Fin 1536) : Body.qS (iblk m c 0 t) (iblk m c 3 t) (iblk m c 4 t) (X0_5 m c t) (X0_7 m c t) (iblk m c 9 t) (iblk m c 10 t) ((i : ℕ) * 4 + (l : ℕ) / 384) (by omega) ⟨(l : ℕ) % 384, Nat.mod_lt _ (by decide)⟩ d = InRow.qTG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b i d l := by
  unfold InRow.qTG
  exact q_blk m c t b hb _ _ _ d
/-- A key code, from the blocks read, is that of the arguments. -/
theorem k_blk (c : Dev nD) (t : Fin cfg0.N) (b : Fin 5) (hb : (b : ℕ) = t.val) (i : Fin 2) (r : Fin 384) (d : Fin 128) : Body.kS (iblk m c 0 t) (iblk m c 1 t) (iblk m c 3 t) (iblk m c 4 t) (X0_5 m c t) (X0_7 m c t) (iblk m c 9 t) (iblk m c 10 t) i r d = InRow.kG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b i r d := by
  unfold Body.kS InRow.kG
  rw [funext fun k => blk9 m c t b hb k r, funext fun k => blk10 m c t b hb k r, blk0, blk0, blk1]
  exact congrArg (fun v => MlpRow.code (InRow.rope v _ _ d) _) (funext fun d => congrArg (fun u => u * _) (proj_blk m c t b hb r ⟨1024 + (i * 128 + d), by omega⟩))
/-- A value code, from the blocks read, is that of the arguments. -/
theorem v_blk (c : Dev nD) (t : Fin cfg0.N) (b : Fin 5) (hb : (b : ℕ) = t.val) (i : Fin 2) (r : Fin 384) (d : Fin 128) : Body.vS (iblk m c 0 t) (iblk m c 2 t) (iblk m c 3 t) (iblk m c 4 t) (X0_5 m c t) (X0_7 m c t) i r d = InRow.vG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) b i r d := by
  unfold Body.vS InRow.vG
  rw [blk0, blk2, proj_blk m c t b hb]
/-- A gate, from the blocks read, is that of the arguments. -/
theorem z_blk (c : Dev nD) (t : Fin cfg0.N) (b : Fin 5) (hb : (b : ℕ) = t.val) (r : Fin 384) (j : Fin 1536) : Body.zS (iblk m c 0 t) (iblk m c 3 t) (iblk m c 4 t) (X0_5 m c t) (X0_7 m c t) r j = InRow.zG (m ((c : Thread nD τ).loc main_arg0)) (m ((c : Thread nD τ).loc main_arg1)) (m ((c : Thread nD τ).loc main_arg2)) (m ((c : Thread nD τ).loc main_arg3)) (m ((c : Thread nD τ).loc main_arg4)) b r j := by
  unfold Body.zS InRow.zG
  rw [blk0, blk0, proj_blk m c t b hb]
/-- A value entering the convolution, from the blocks read, is that of the arguments. -/
theorem x_blk (c : Dev nD) (t : Fin cfg0.N) (b : Fin 5) (hb : (b : ℕ) = t.val) (r : Fin 384) (j : Fin 2048) : Body.xS (iblk m c 0 t) (iblk m c 3 t) (iblk m c 4 t) (X0_5 m c t) (X0_7 m c t) r j = InRow.xG (m ((c : Thread nD τ).loc main_arg0)) (m ((c : Thread nD τ).loc main_arg1)) (m ((c : Thread nD τ).loc main_arg2)) (m ((c : Thread nD τ).loc main_arg3)) (m ((c : Thread nD τ).loc main_arg4)) b r j := by
  unfold Body.xS InRow.xG
  rw [blk0, blk0, blk0, blk0, proj_blk m c t b hb]
/-- An entry of the padded sequence, from the blocks read, is that of the arguments. -/
theorem p_blk (c : Dev nD) (t : Fin cfg0.N) (b : Fin 5) (hb : (b : ℕ) = t.val) (j : Fin 2048) (i : Fin 387) : Body.pS (iblk m c 0 t) (iblk m c 3 t) (iblk m c 4 t) (X0_5 m c t) (X0_7 m c t) (iblk m c 11 t) j i = InRow.padG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) b j i := by
  unfold Body.pS InRow.padG
  rw [funext fun r => x_blk m c t b hb r j, funext fun p => blk11 m c t b hb p j]
/-- A convolved value, from the blocks read, is that of the arguments. -/
theorem c_blk (c : Dev nD) (t : Fin cfg0.N) (b : Fin 5) (hb : (b : ℕ) = t.val) (r : Fin 384) (j : Fin 2048) : Body.cS (iblk m c 0 t) (iblk m c 3 t) (iblk m c 4 t) (X0_5 m c t) (X0_7 m c t) (iblk m c 11 t) (iblk m c 12 t) (iblk m c 13 t) r j = InRow.convG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) b r j := by
  unfold Body.cS InRow.convG
  rw [p_blk m c t b hb, p_blk m c t b hb, p_blk m c t b hb, p_blk m c t b hb, blk12, blk12, blk12, blk12, blk13]
/-- A step size, from the blocks read, is that of the arguments. -/
theorem d_blk (c : Dev nD) (t : Fin cfg0.N) (b : Fin 5) (hb : (b : ℕ) = t.val) (h : Fin 32) (r : Fin 384) : Body.dS (iblk m c 0 t) (iblk m c 3 t) (iblk m c 4 t) (iblk m c 6 t) (iblk m c 8 t) (iblk m c 14 t) h r = InRow.dtG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) b h r := by
  unfold Body.dS InRow.dtG InRow.projG
  refine congrArg InRow.softplus ?_
  rw [code_blk m c t b hb, scale_blk m c t b hb, blk0, blk0, blk14]
  by_cases hh : (h : ℕ) < 24
  · rw [dif_pos hh, dif_pos hh, dif_pos hh]
    have e8 := blk8 m c t ⟨h, hh⟩
    have e6 := funext fun k => blk6 m c t ⟨h, hh⟩ k
    exact congrArg (fun u => u * _ + _) (congr (congrArg (fun f => InRow.proj _ f _) e6) e8)
  · rw [dif_neg hh, dif_neg hh, dif_neg hh]
    exact add_zero (0 : EReal)
end Cert.InProjIdeal.Final
-- ==== Proof.InProj.Kernel.lean ====
module
public import proofs.«01_k».proof.Proof.InProj.Blocks
@[expose] public section
set_option maxRecDepth 16384
noncomputable section
open Idealize.ShloMosaic Idealize.ShloMosaic.TcCoe Idealize.SL.Sem
open Idealize.ShloMosaic.Pipeline (Dat)
namespace Cert.InProjIdeal.Final
open Cert.InProjIdeal Cert.InProjIdeal.Gen
variable (m : (ℓ : Loc nD τ sig) → Buf (Elt Ideal) ℓ)

/-! The arrays after the run. -/

/-- The codes of the normalised rows. -/
theorem final15 (c : Dev nD) : (dats m 0 c).arrAt 15 (cfgs 0).N = fun i : S5x384x2048.Idx => InRow.codeG (m ((c : Thread nD τ).loc main_arg0)) (m ((c : Thread nD τ).loc main_arg1)) (i 0) (i 1) (i 2) := by
  refine (dats m 0 c).arrAt_eq_of_covers 15 _ (by decide +kernel) fun t _ y => ?_
  blk_simp
  rw [after0_15]
  have e0 : (((win0_15.blk t).view.emb y) 0 : ℕ) = t.val := by
    have : (y 0 : ℕ) < 1 := (y 0).isLt
    blk_simp [idx t] <;> omega
  have e1 : ((win0_15.blk t).view.emb y) 1 = y 1 := Fin.ext (by blk_simp [idx t])
  have e2 : ((win0_15.blk t).view.emb y) 2 = y 2 := Fin.ext (by blk_simp [idx t])
  refine (Body.out15 m c t y).trans ?_
  exact (congrFun (code_blk m c t _ e0 (y 1)) (y 2)).trans (congrArg₂ _ e1.symm e2.symm)
/-- The scales of the normalised rows. -/
theorem final16 (c : Dev nD) : (dats m 0 c).arrAt 16 (cfgs 0).N = fun i : S5x1x384.Idx => InRow.scaleG (m ((c : Thread nD τ).loc main_arg0)) (m ((c : Thread nD τ).loc main_arg1)) (i 0) (i 2) := by
  refine (dats m 0 c).arrAt_eq_of_covers 16 _ (by decide +kernel) fun t _ y => ?_
  blk_simp
  rw [after0_16]
  have e0 : (((win0_16.blk t).view.emb y) 0 : ℕ) = t.val := by
    have : (y 0 : ℕ) < 1 := (y 0).isLt
    blk_simp [idx t] <;> omega
  have e1 : ((win0_16.blk t).view.emb y) 1 = y 1 := Fin.ext (by blk_simp [idx t])
  have e2 : ((win0_16.blk t).view.emb y) 2 = y 2 := Fin.ext (by blk_simp [idx t])
  refine (Body.out16 m c t y).trans ?_
  exact (scale_blk m c t _ e0 (y 2)).trans (congrArg _ e2.symm)
/-- The rotated queries, transposed. -/
theorem final17 (c : Dev nD) : (dats m 0 c).arrAt 17 (cfgs 0).N = fun i : S5x2x128x1536.Idx => InRow.qTG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2) (i 3) := by
  refine (dats m 0 c).arrAt_eq_of_covers 17 _ (by decide +kernel) fun t _ y => ?_
  blk_simp
  rw [after0_17]
  have e0 : (((win0_17.blk t).view.emb y) 0 : ℕ) = t.val := by
    have : (y 0 : ℕ) < 1 := (y 0).isLt
    blk_simp [idx t] <;> omega
  have e1 : ((win0_17.blk t).view.emb y) 1 = y 1 := Fin.ext (by blk_simp [idx t])
  have e2 : ((win0_17.blk t).view.emb y) 2 = y 2 := Fin.ext (by blk_simp [idx t])
  have e3 : ((win0_17.blk t).view.emb y) 3 = y 3 := Fin.ext (by blk_simp [idx t])
  refine (Body.out17 m c t y).trans ?_
  refine (qT_blk m c t _ e0 (y 1) (y 2) (y 3)).trans ?_
  exact (congrArg₂ (fun i d => InRow.qTG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ i d (y 3)) e1.symm e2.symm).trans (congrArg _ e3.symm)
/-- The key codes. -/
theorem final18 (c : Dev nD) : (dats m 0 c).arrAt 18 (cfgs 0).N = fun i : S5x2x384x128.Idx => InRow.kG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) (i 3) := by
  refine (dats m 0 c).arrAt_eq_of_covers 18 _ (by decide +kernel) fun t _ y => ?_
  blk_simp
  rw [after0_18]
  have e0 : (((win0_18.blk t).view.emb y) 0 : ℕ) = t.val := by
    have : (y 0 : ℕ) < 1 := (y 0).isLt
    blk_simp [idx t] <;> omega
  have e1 : ((win0_18.blk t).view.emb y) 1 = y 1 := Fin.ext (by blk_simp [idx t])
  have e2 : ((win0_18.blk t).view.emb y) 2 = y 2 := Fin.ext (by blk_simp [idx t])
  have e3 : ((win0_18.blk t).view.emb y) 3 = y 3 := Fin.ext (by blk_simp [idx t])
  refine (Body.out18 m c t y).trans ?_
  refine (k_blk m c t _ e0 (y 1) (y 2) (y 3)).trans ?_
  exact (congrArg₂ (fun i r => InRow.kG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ i r (y 3)) e1.symm e2.symm).trans (congrArg _ e3.symm)
/-- The value codes. -/
theorem final19 (c : Dev nD) : (dats m 0 c).arrAt 19 (cfgs 0).N = fun i : S5x2x384x128.Idx => InRow.vG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (i 0) (i 1) (i 2) (i 3) := by
  refine (dats m 0 c).arrAt_eq_of_covers 19 _ (by decide +kernel) fun t _ y => ?_
  blk_simp
  rw [after0_19]
  have e0 : (((win0_19.blk t).view.emb y) 0 : ℕ) = t.val := by
    have : (y 0 : ℕ) < 1 := (y 0).isLt
    blk_simp [idx t] <;> omega
  have e1 : ((win0_19.blk t).view.emb y) 1 = y 1 := Fin.ext (by blk_simp [idx t])
  have e2 : ((win0_19.blk t).view.emb y) 2 = y 2 := Fin.ext (by blk_simp [idx t])
  have e3 : ((win0_19.blk t).view.emb y) 3 = y 3 := Fin.ext (by blk_simp [idx t])
  refine (Body.out19 m c t y).trans ?_
  refine (v_blk m c t _ e0 (y 1) (y 2) (y 3)).trans ?_
  exact (congrArg₂ (fun i r => InRow.vG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) _ i r (y 3)) e1.symm e2.symm).trans (congrArg _ e3.symm)
/-- The gates. -/
theorem final20 (c : Dev nD) : (dats m 0 c).arrAt 20 (cfgs 0).N = fun i : S5x384x1536.Idx => InRow.zG (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) := by
  refine (dats m 0 c).arrAt_eq_of_covers 20 _ (by decide +kernel) fun t _ y => ?_
  blk_simp
  rw [after0_20]
  have e0 : (((win0_20.blk t).view.emb y) 0 : ℕ) = t.val := by
    have : (y 0 : ℕ) < 1 := (y 0).isLt
    blk_simp [idx t] <;> omega
  have e1 : ((win0_20.blk t).view.emb y) 1 = y 1 := Fin.ext (by blk_simp [idx t])
  have e2 : ((win0_20.blk t).view.emb y) 2 = y 2 := Fin.ext (by blk_simp [idx t])
  refine (Body.out20 m c t y).trans ?_
  exact (z_blk m c t _ e0 (y 1) (y 2)).trans (congrArg₂ _ e1.symm e2.symm)
/-- The convolved columns. -/
theorem final21 (c : Dev nD) : (dats m 0 c).arrAt 21 (cfgs 0).N = fun i : S5x384x2048.Idx => InRow.convG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (i 0) (i 1) (i 2) := by
  refine (dats m 0 c).arrAt_eq_of_covers 21 _ (by decide +kernel) fun t _ y => ?_
  blk_simp
  rw [after0_21]
  have e0 : (((win0_21.blk t).view.emb y) 0 : ℕ) = t.val := by
    have : (y 0 : ℕ) < 1 := (y 0).isLt
    blk_simp [idx t] <;> omega
  have e1 : ((win0_21.blk t).view.emb y) 1 = y 1 := Fin.ext (by blk_simp [idx t])
  have e2 : ((win0_21.blk t).view.emb y) 2 = y 2 := Fin.ext (by blk_simp [idx t])
  refine (Body.out21 m c t y).trans ?_
  exact (c_blk m c t _ e0 (y 1) (y 2)).trans (congrArg₂ _ e1.symm e2.symm)
/-- The step sizes. -/
theorem final22 (c : Dev nD) : (dats m 0 c).arrAt 22 (cfgs 0).N = fun i : S5x32x384.Idx => InRow.dtG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) (i 0) (i 1) (i 2) := by
  refine (dats m 0 c).arrAt_eq_of_covers 22 _ (by decide +kernel) fun t _ y => ?_
  blk_simp
  rw [after0_22]
  have e0 : (((win0_22.blk t).view.emb y) 0 : ℕ) = t.val := by
    have : (y 0 : ℕ) < 1 := (y 0).isLt
    blk_simp [idx t] <;> omega
  have e1 : ((win0_22.blk t).view.emb y) 1 = y 1 := Fin.ext (by blk_simp [idx t])
  have e2 : ((win0_22.blk t).view.emb y) 2 = y 2 := Fin.ext (by blk_simp [idx t])
  refine (Body.out22 m c t y).trans ?_
  exact (d_blk m c t _ e0 (y 1) (y 2)).trans (congrArg₂ _ e1.symm e2.symm)
/-- The last values before the convolution. -/
theorem final23 (c : Dev nD) : (dats m 0 c).arrAt 23 (cfgs 0).N = fun i : S5x3x2048.Idx => InRow.tailG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (i 0) (i 1) (i 2) := by
  refine (dats m 0 c).arrAt_eq_of_covers 23 _ (by decide +kernel) fun t _ y => ?_
  blk_simp
  rw [after0_23]
  have e0 : (((win0_23.blk t).view.emb y) 0 : ℕ) = t.val := by
    have : (y 0 : ℕ) < 1 := (y 0).isLt
    blk_simp [idx t] <;> omega
  have e1 : ((win0_23.blk t).view.emb y) 1 = y 1 := Fin.ext (by blk_simp [idx t])
  have e2 : ((win0_23.blk t).view.emb y) 2 = y 2 := Fin.ext (by blk_simp [idx t])
  refine (Body.out23 m c t y).trans ?_
  refine (x_blk m c t _ e0 _ (y 2)).trans ?_
  refine Eq.trans ?_ (congrArg₂ _ e1.symm e2.symm)
  have hp : (y 1 : ℕ) < 3 := (y 1).isLt
  unfold InRow.tailG InRow.padG InRow.padded
  rw [dif_neg (by show ¬ (384 + (y 1 : ℕ) < 3); omega)]
  exact congrArg (fun r => InRow.xG _ _ _ _ _ _ r (y 2)) (Fin.ext (by show 381 + (y 1 : ℕ) = 384 + (y 1 : ℕ) - 3; omega))
end Cert.InProjIdeal.Final
-- ==== Proof.InProj.RefPay.lean ====
module
public import proofs.«01_k».proof.Proof.Gen.InProjReferenceIdeal.Skeleton
public import proofs.«01_k».proof.Proof.InProj.Spec
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.InProjReferenceIdeal.Final
open Cert.InProjReferenceIdeal Cert.InProjReferenceIdeal.Gen

/-- Row `b * 384 + r` of the stacked tokens. -/
def row (b : Fin 5) (r : Fin 384) : Fin 1920 := ⟨b * 384 + r, by omega⟩

/-! ## The normalised and quantised rows -/

/-- An entry of the normalised rows. -/
theorem hid_at (v0 : Vec Ideal S5x384x2048 .bf16) (v13 : Vec Ideal S1x2048 .f32) (b : Fin 5) (r : Fin 384) (k : Fin 2048) :
    k0_pay1 v0 v13 (ix2 (row b r) k) = InRow.hid (fun k => v0 (ix3 b r k)) (fun k => v13 (ix2 0 k)) k := by
  generalize hi : row b r = i
  have e : (i : ℕ) = b * 384 + r := by rw [← hi]; rfl
  have hb : ∀ h : (i : ℕ) / 384 < 5, (⟨(i : ℕ) / 384, h⟩ : Fin 5) = b := fun h => Fin.ext (by show (i : ℕ) / 384 = b; omega)
  have hr : ∀ h : (i : ℕ) % 384 < 384, (⟨(i : ℕ) % 384, h⟩ : Fin 384) = r := fun h => Fin.ext (by show (i : ℕ) % 384 = r; omega)
  pointwise [k0_pay1, InRow.hid]
  simp only [hb, hr]
  try rfl

/-- The scales of rows with largest magnitudes `v18`. -/
def scalesOf (v18 : FVec Ideal S1920 .f32) : FVec Ideal S1920x1 .f32 :=
  have v19 : FVec Ideal S1920x1 .f32 := shapeCast S1920x1 v18 shapeCasts_S1920_S1920x1
  have cst_14 : Ideal .f32 := Scalar.ofBits .f32 0x00000000#32
  have v20 : FVec Ideal S1920x1 .f32 := broadcast S1920x1 cst_14
  have v21 : IVec S1920x1 1 := cmpf .oeq v19 v20
  have cst_15 : Ideal .f32 := Scalar.ofBits .f32 0x43E00000#32
  have v22 : FVec Ideal S1920x1 .f32 := broadcast S1920x1 cst_15
  have v23 : FVec Ideal S1920x1 .f32 := divf v19 v22
  have cst_16 : Ideal .f32 := Scalar.ofBits .f32 0x3F800000#32
  have v24 : FVec Ideal S1920x1 .f32 := broadcast S1920x1 cst_16
  have v25 : FVec Ideal S1920x1 .f32 := select v21 v24 v23
  v25

/-- The scale of a row with its largest magnitude given. -/
theorem scalesOf_apply (w : FVec Ideal S1920 .f32) (i : Fin 1920) :
    scalesOf w (ix2 i 0) = MlpRow.scale (w (ix1 i)) := by
  unfold MlpRow.scale
  pointwise [scalesOf]

/-- The largest magnitudes of the rows of an array. -/
def maxes (a : FVec Ideal S1920x2048 .f32) : FVec Ideal S1920 .f32 :=
  multiReduction (F := Ideal) .maximumf [1] S1920 (absf a) 0xFF800000#32 reduces_S1920x2048_S1920 (.inl rfl) rfl

/-- The reduction drops the column: its source index is the row and the column. -/
theorem lift_row (i : Fin 1920) (j : Fin 2048) : reduces_S1920x2048_S1920.lift (ix1 i) j = ix2 i j := by
  funext d; fin_cases d <;> rfl

/-- The largest magnitude of a row. -/
theorem maxes_apply (a : FVec Ideal S1920x2048 .f32) (i : Fin 1920) : maxes a (ix1 i) = InRow.rowMax fun j => a (ix2 i j) := by
  unfold InRow.rowMax maxes
  refine (Ideal.multiReduction_maximumf_single ..).trans ?_
  exact congrArg (fun f : Fin 2048 → EReal => Finset.univ.fold max (Ideal.ofBits FTy.f32 0xFF800000#32) f)
    (funext fun j => congrArg (fun k => FloatOps.absf (F := Ideal) (φ := .f32) (a k)) (lift_row i j))

/-- The scales of the rows of an array. -/
def scales (a : FVec Ideal S1920x2048 .f32) : FVec Ideal S1920x1 .f32 := scalesOf (maxes a)

/-- The clipped quotients of rows by scales. -/
def clips (a : FVec Ideal S1920x2048 .f32) (s : FVec Ideal S1920x1 .f32) : FVec Ideal S1920x2048 .fp8e4m3 :=
  have v26 : FVec Ideal S1920x2048 .f32 := broadcastTo S1920x2048 s broadcasts_S1920x1_S1920x2048
  have v27 : FVec Ideal S1920x2048 .f32 := divf a v26
  have cst_10 : Ideal .f32 := Scalar.ofBits .f32 0xC3E00000#32
  have cst_11 : Ideal .f32 := Scalar.ofBits .f32 0x43E00000#32
  have v28 : FVec Ideal S1920x2048 .f32 := broadcast S1920x2048 cst_10
  have v29 : FVec Ideal S1920x2048 .f32 := maximumf v28 v27
  have v30 : FVec Ideal S1920x2048 .f32 := broadcast S1920x2048 cst_11
  have v31 : FVec Ideal S1920x2048 .f32 := minimumf v30 v29
  truncf .fp8e4m3 v31 bitsLt_fp8e4m3_f32

/-- A clipped quotient. -/
theorem clips_apply (a : FVec Ideal S1920x2048 .f32) (s : FVec Ideal S1920x1 .f32) (i : Fin 1920) (j : Fin 2048) :
    clips a s (ix2 i j) = MlpRow.code (a (ix2 i j)) (s (ix2 i 0)) := by
  unfold MlpRow.code
  pointwise [clips]
  try rfl

section
variable (v0 : Vec Ideal S5x384x2048 .bf16) (v13 : Vec Ideal S1x2048 .f32)

/-- The row scales the body computes are the scales of its normalised rows. -/
theorem pay2_eq : k0_pay2 v0 v13 = scales (k0_pay1 v0 v13) := by
  unfold k0_pay2 scales scalesOf maxes
  generalize k0_pay1 (F := Ideal) v0 v13 = a
  rfl

/-- The codes the body computes are the clipped quotients of its normalised rows by their scales. -/
theorem pay3_eq : k0_pay3 v0 v13 = clips (k0_pay1 v0 v13) (k0_pay2 v0 v13) := by
  unfold k0_pay3 clips
  generalize k0_pay1 (F := Ideal) v0 v13 = a
  generalize k0_pay2 (F := Ideal) v0 v13 = s
  rfl

/-- The scale of a row. -/
theorem scale_at (b : Fin 5) (r : Fin 384) : k0_pay2 v0 v13 (ix2 (row b r) 0) = InRow.scaleOf (fun k => v0 (ix3 b r k)) (fun k => v13 (ix2 0 k)) := by
  rw [pay2_eq]; unfold scales InRow.scaleOf
  rw [scalesOf_apply, maxes_apply, funext fun j => hid_at v0 v13 b r j]

/-- A code of a row. -/
theorem code_at (b : Fin 5) (r : Fin 384) (k : Fin 2048) : k0_pay3 v0 v13 (ix2 (row b r) k) = InRow.codeOf (fun k => v0 (ix3 b r k)) (fun k => v13 (ix2 0 k)) k := by
  rw [pay3_eq]; unfold InRow.codeOf
  rw [clips_apply, scale_at, hid_at]

/-- The codes cut back into sequences. -/
theorem codes_at (b : Fin 5) (r : Fin 384) (k : Fin 2048) : k0_pay4 v0 v13 (ix3 b r k) = k0_pay3 v0 v13 (ix2 (row b r) k) := by
  unfold k0_pay4
  generalize k0_pay3 (F := Ideal) v0 v13 = w
  pointwise []
  try rfl

/-- The scales cut back into sequences. -/
theorem scales_at (b : Fin 5) (r : Fin 384) : k0_pay5 v0 v13 (ix3 b 0 r) = k0_pay2 v0 v13 (ix2 (row b r) 0) := by
  unfold k0_pay5
  generalize k0_pay2 (F := Ideal) v0 v13 = w
  pointwise []
  try rfl
end

/-! ## The projection -/

/-- An entry of the projection. -/
theorem proj_at (s : FVec Ideal S1920x1 .f32) (q : FVec Ideal S1920x2048 .fp8e4m3) (w : Vec Ideal S2048x5144 .fp8e4m3) (c : Vec Ideal S1x5144 .f32)
    (b : Fin 5) (r : Fin 384) (n : Fin 5144) :
    k0_pay6 s q w c (ix3 b r n) = InRow.proj (fun k => q (ix2 (row b r) k)) (fun k => w (ix2 k n)) (s (ix2 (row b r) 0)) (c (ix2 0 n)) := by
  unfold InRow.proj
  pointwise [k0_pay6]
  try rfl

end Cert.InProjReferenceIdeal.Final
-- ==== Proof.InProj.RefResults.lean ====
module
public import proofs.«01_k».proof.Proof.InProj.RefPay
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.InProjReferenceIdeal.Final
open Cert.InProjReferenceIdeal Cert.InProjReferenceIdeal.Gen

/-! ## The results from the projection -/

section
variable (s : FVec Ideal S1920x1 .f32) (q : FVec Ideal S1920x2048 .fp8e4m3) (w : Vec Ideal S2048x5144 .fp8e4m3) (c : Vec Ideal S1x5144 .f32)

/-- An entry of a rotated query head, before the cut to bfloat16. -/
theorem q_at (mu : Elt Ideal .f32) (cs sn : Vec Ideal S5x384x64 .f32) (b : Fin 5) (r : Fin 384) (h : Fin 8) (d : Fin 128) :
    k0_pay8 s q w c mu cs sn (ix4 b r h d)
      = InRow.rope (fun d => k0_pay6 s q w c (ix3 b r ⟨h * 128 + d, by omega⟩) * mu) (fun k => cs (ix3 b r k)) (fun k => sn (ix3 b r k)) d := by
  unfold k0_pay8 InRow.rope InRow.rotA InRow.rotB
  generalize k0_pay6 (F := Ideal) s q w c = P
  pointwise []
  try rfl

/-- An entry of a key head. -/
theorem k_at (mu mk : Elt Ideal .f32) (b : Fin 5) (r : Fin 384) (h : Fin 2) (d : Fin 128) :
    k0_pay7 s q w c mu mk (ix4 b r h d) = k0_pay6 s q w c (ix3 b r ⟨1024 + (h * 128 + d), by omega⟩) * (mu * mk) := by
  unfold k0_pay7
  generalize k0_pay6 (F := Ideal) s q w c = P
  pointwise []
  try rfl
end

/-- The queries laid out by head group. -/
theorem qT_at (v : FVec Ideal S5x384x8x128 .f32) (b : Fin 5) (h : Fin 2) (d : Fin 128) (l : Fin 1536) :
    k0_pay13 v (ix4 b h d l) = v (ix4 b ⟨l % 384, by omega⟩ ⟨h * 4 + l / 384, by omega⟩ d) := by
  pointwise [k0_pay13]
  try rfl

/-- A rotated key head. -/
theorem kr_at (v : FVec Ideal S5x384x2x128 .f32) (cs sn : Vec Ideal S5x384x64 .f32) (x : FVec Ideal S5x384x2x64 .f32)
    (hx : ∀ b r h (d : Fin 64), x (ix4 b r h d) = v (ix4 b r h ⟨d, by omega⟩)) (b : Fin 5) (r : Fin 384) (h : Fin 2) (d : Fin 128) :
    k0_pay12 v (k0_pay9 cs) (k0_pay10 sn) x (ix4 b r h d)
      = InRow.rope (fun d => v (ix4 b r h d)) (fun k => cs (ix3 b r k)) (fun k => sn (ix3 b r k)) d := by
  unfold InRow.rope InRow.rotA InRow.rotB
  pointwise [k0_pay12, k0_pay9, k0_pay10]
  simp only [hx]
  try rfl

/-- A key code of head 0. -/
theorem kc0_at (v : FVec Ideal S5x384x2x128 .f32) (cs sn : FVec Ideal S5x384x1x64 .f32) (x : FVec Ideal S5x384x2x64 .f32) (sc : Elt Ideal .f32)
    (b : Fin 5) (r : Fin 384) (d : Fin 128) :
    k0_pay14 v cs sn x sc (ix4 b 0 r d) = MlpRow.code (k0_pay12 v cs sn x (ix4 b r 0 d)) sc := by
  unfold k0_pay14 MlpRow.code
  generalize k0_pay12 (F := Ideal) v cs sn x = y
  pointwise []
  try rfl

/-- A key code of head 1. -/
theorem kc1_at (v : FVec Ideal S5x384x2x128 .f32) (sc : Elt Ideal .f32) (b : Fin 5) (r : Fin 384) (d : Fin 128) :
    k0_pay17 v sc (ix4 b 0 r d) = MlpRow.code (v (ix4 b r 1 d)) sc := by
  unfold MlpRow.code
  pointwise [k0_pay17]
  try rfl

section
variable (P : FVec Ideal S5x384x5144 .f32)

/-- A value code of head 0. -/
theorem vc0_at (mu sc : Elt Ideal .f32) (b : Fin 5) (r : Fin 384) (d : Fin 128) :
    k0_pay16 (k0_pay15 P mu sc) (ix4 b 0 r d) = MlpRow.code (P (ix3 b r ⟨1280 + d, by omega⟩) * mu) sc := by
  unfold MlpRow.code
  pointwise [k0_pay16, k0_pay15]
  try rfl

/-- A value code of head 1. -/
theorem vc1_at (mu sc : Elt Ideal .f32) (b : Fin 5) (r : Fin 384) (d : Fin 128) :
    k0_pay18 P mu sc (ix4 b 0 r d) = MlpRow.code (P (ix3 b r ⟨1408 + d, by omega⟩) * mu) sc := by
  unfold MlpRow.code
  pointwise [k0_pay18]
  try rfl

/-- A gate entry. -/
theorem z_at (mu mz : Elt Ideal .f32) (b : Fin 5) (r : Fin 384) (j : Fin 1536) :
    k0_pay19 P mu mz (ix3 b r j) = InRow.silu (P (ix3 b r ⟨1536 + j, by omega⟩) * (mu * mz)) := by
  unfold InRow.silu
  pointwise [k0_pay19]
  try rfl

/-- The values the convolution reads: three kept rows before the sequence's. -/
theorem pad_at (mu mx mb mc : Elt Ideal .f32) (st : Vec Ideal S5x3x2048 .f32) (b : Fin 5) (p : Fin 387) (j : Fin 2048) :
    k0_pay20 P mu mx mb mc st (ix3 b p j) = InRow.padded (fun p => st (ix3 b p j))
      (fun r => InRow.segX (mu * mx) (mu * mb) (mu * mc) j (P (ix3 b r ⟨3072 + j, by omega⟩))) p := by
  unfold InRow.padded InRow.segX
  pointwise [k0_pay20]
  by_cases h : (p : ℕ) < 3
  · simp only [dif_pos h]
  · simp only [dif_neg h]
    by_cases h1 : (j : ℕ) < 1536
    · simp only [dif_pos h1, if_pos h1]
    · simp only [dif_neg h1, if_neg h1]
      by_cases h2 : (j : ℕ) < 1792
      · simp only [dif_pos (show (j : ℕ) - 1536 < 256 by omega), if_pos h2]
        exact congrArg (fun n => P (ix3 b _ n) * (mu * mb)) (Fin.ext (by show 4608 + ((j : ℕ) - 1536) = 3072 + (j : ℕ); omega))
      · simp only [dif_neg (show ¬ (j : ℕ) - 1536 < 256 by omega), if_neg h2]
        exact congrArg (fun n => P (ix3 b _ n) * (mu * mc)) (Fin.ext (by show 4864 + ((j : ℕ) - 1536 - 256) = 3072 + (j : ℕ); omega))

/-- A convolution output. -/
theorem conv_at (mu mx mb mc : Elt Ideal .f32) (st : Vec Ideal S5x3x2048 .f32) (cb : Vec Ideal S1x2048 .f32) (w0 w1 w2 w3 : Vec Ideal S1x2048 .f32) (b : Fin 5) (r : Fin 384) (j : Fin 2048) :
    k0_pay23 (k0_pay20 P mu mx mb mc st) (k0_pay21 cb) (k0_pay22 P mu mx mb mc st w0 w1 w2) w3 (ix3 b r j)
      = InRow.silu (InRow.conv (cb (ix2 0 j)) (w0 (ix2 0 j)) (w1 (ix2 0 j)) (w2 (ix2 0 j)) (w3 (ix2 0 j)) (k0_pay20 P mu mx mb mc st (ix3 b ⟨r, by omega⟩ j))
          (k0_pay20 P mu mx mb mc st (ix3 b ⟨1 + r, by omega⟩ j)) (k0_pay20 P mu mx mb mc st (ix3 b ⟨2 + r, by omega⟩ j)) (k0_pay20 P mu mx mb mc st (ix3 b ⟨3 + r, by omega⟩ j))) := by
  unfold k0_pay22 InRow.silu InRow.conv
  generalize k0_pay20 (F := Ideal) P mu mx mb mc st = x
  pointwise [k0_pay23, k0_pay21]
  try rfl

/-- The kept rows. -/
theorem tail_at (x : FVec Ideal S5x387x2048 .f32) (b : Fin 5) (p : Fin 3) (j : Fin 2048) :
    k0_pay24 x (ix3 b p j) = x (ix3 b ⟨384 + p, by omega⟩ j) := by
  pointwise [k0_pay24]
  try rfl

/-- A step size. -/
theorem dt_at (mu md : Elt Ideal .f32) (bd : Vec Ideal S1x24 .f32) (b : Fin 5) (h : Fin 32) (r : Fin 384) :
    k0_pay25 P mu md bd (ix3 b h r) = InRow.softplus (if g : (h : ℕ) < 24 then P (ix3 b r ⟨5120 + h, by omega⟩) * (mu * md) + bd (ix2 0 ⟨h, g⟩) else 0) := by
  unfold InRow.softplus
  pointwise [k0_pay25]
  have h0 : (((((0#32 : BitVec 32).toInt : ℤ) : ℝ)) : EReal) = 0 := by simp
  simp only [h0, ne_eq, not_true_eq_false, if_false]
  try rfl
end

end Cert.InProjReferenceIdeal.Final
-- ==== Proof.InProj.RefBlocks.lean ====
module

public import proofs.«01_k».proof.Proof.Gen.InProjReferenceIdeal.Value
public import proofs.«01_k».proof.Proof.InProj.Target
public import proofs.«01_k».proof.Proof.InProj.RefResults
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
namespace Cert.InProjReferenceIdeal.Final
open Cert.InProjReferenceIdeal Cert.InProjReferenceIdeal.Gen
variable (m : (ℓ : Loc nD τ sig) → Buf (Elt Ideal) ℓ)

/-- The index maps of the input windows. -/
theorem idx : ∀ t : Fin cfg0.N, win0_0.index t = ![0] ∧ win0_1.index t = ![0] ∧ win0_2.index t = ![0] ∧ win0_3.index t = ![0, 0, 0] ∧ win0_4.index t = ![0, 0] ∧ win0_5.index t = ![0, 0] ∧ win0_6.index t = ![0, 0] ∧ win0_7.index t = ![0, 0, 0] ∧ win0_8.index t = ![0, 0, 0] ∧ win0_9.index t = ![0, 0, 0] ∧ win0_10.index t = ![0, 0] ∧ win0_11.index t = ![0, 0] ∧ win0_12.index t = ![0, 0] :=
  (by decide +kernel : ∀ t : Fin grid0.N, _)

/-! ## The blocks read are the arguments -/

/-- The multipliers read by the reference are the argument's. -/
theorem blk0 (c : Dev nD) (i : Fin 12) : iblk m c 0 t0_0 (ix1 i) = (m ((c : Thread nD τ).loc main_arg4)) (ix1 i) := by
  blk_point [iblk, V, idx t0_0]

/-- The scales of the keys read by the reference are the argument's. -/
theorem blk1 (c : Dev nD) (i : Fin 2) : iblk m c 1 t0_0 (ix1 i) = (m ((c : Thread nD τ).loc main_arg7)) (ix1 i) := by
  blk_point [iblk, V, idx t0_0]

/-- The scales of the values read by the reference are the argument's. -/
theorem blk2 (c : Dev nD) (i : Fin 2) : iblk m c 2 t0_0 (ix1 i) = (m ((c : Thread nD τ).loc main_arg8)) (ix1 i) := by
  blk_point [iblk, V, idx t0_0]

/-- The tokens read by the reference are the argument's. -/
theorem blk3 (c : Dev nD) (b : Fin 5) (r : Fin 384) (k : Fin 2048) : iblk m c 3 t0_0 (ix3 b r k) = (m ((c : Thread nD τ).loc main_arg0)) (ix3 b r k) := by
  blk_point [iblk, V, idx t0_0]

/-- The gains read by the reference are the argument's. -/
theorem blk4 (c : Dev nD) (k : Fin 2048) : iblk m c 4 t0_0 (ix2 0 k) = (m ((c : Thread nD τ).loc main_arg1)) (ix1 k) := by
  blk_point [iblk, V, idx t0_0]

/-- The weights read by the reference are the argument's. -/
theorem blk5 (c : Dev nD) (k : Fin 2048) (n : Fin 5144) : iblk m c 5 t0_0 (ix2 k n) = (m ((c : Thread nD τ).loc main_arg2)) (ix2 k n) := by
  blk_point [iblk, V, idx t0_0]

/-- The weight scales read by the reference are the argument's. -/
theorem blk6 (c : Dev nD) (n : Fin 5144) : iblk m c 6 t0_0 (ix2 0 n) = (m ((c : Thread nD τ).loc main_arg3)) (ix1 n) := by
  blk_point [iblk, V, idx t0_0]

/-- The cosines read by the reference are the argument's. -/
theorem blk7 (c : Dev nD) (b : Fin 5) (r : Fin 384) (k : Fin 64) : iblk m c 7 t0_0 (ix3 b r k) = (m ((c : Thread nD τ).loc main_arg5)) (ix3 b r k) := by
  blk_point [iblk, V, idx t0_0]

/-- The sines read by the reference are the argument's. -/
theorem blk8 (c : Dev nD) (b : Fin 5) (r : Fin 384) (k : Fin 64) : iblk m c 8 t0_0 (ix3 b r k) = (m ((c : Thread nD τ).loc main_arg6)) (ix3 b r k) := by
  blk_point [iblk, V, idx t0_0]

/-- The kept values of the convolution read by the reference are the argument's. -/
theorem blk9 (c : Dev nD) (b : Fin 5) (p : Fin 3) (j : Fin 2048) : iblk m c 9 t0_0 (ix3 b p j) = (m ((c : Thread nD τ).loc main_arg9)) (ix3 b p j) := by
  blk_point [iblk, V, idx t0_0]

/-- The taps of the convolution read by the reference are the argument's. -/
theorem blk10 (c : Dev nD) (p : Fin 4) (j : Fin 2048) : iblk m c 10 t0_0 (ix2 p j) = (m ((c : Thread nD τ).loc main_arg10)) (ix2 p j) := by
  blk_point [iblk, V, idx t0_0]

/-- The biases of the convolution read by the reference are the argument's. -/
theorem blk11 (c : Dev nD) (j : Fin 2048) : iblk m c 11 t0_0 (ix2 0 j) = (m ((c : Thread nD τ).loc main_arg11)) (ix1 j) := by
  blk_point [iblk, V, idx t0_0]

/-- The biases of the step sizes read by the reference are the argument's. -/
theorem blk12 (c : Dev nD) (h : Fin 24) : iblk m c 12 t0_0 (ix2 0 h) = (m ((c : Thread nD τ).loc main_arg12)) (ix1 h) := by
  blk_point [iblk, V, idx t0_0]

/-- The scale of a token. -/
theorem scale_blk (c : Dev nD) (b : Fin 5) (r : Fin 384) :
    k0_pay2 (F := Ideal) (iblk m c 3 t0_0) (iblk m c 4 t0_0) (ix2 (row b r) 0) = InRow.scaleG (m ((c : Thread nD τ).loc main_arg0)) (m ((c : Thread nD τ).loc main_arg1)) b r := by
  refine (scale_at (iblk m c 3 t0_0) (iblk m c 4 t0_0) b r).trans ?_
  unfold InRow.scaleG
  rw [funext (blk3 m c b r), funext (blk4 m c)]

/-- The code of a token at a column. -/
theorem code_blk (c : Dev nD) (b : Fin 5) (r : Fin 384) (k : Fin 2048) :
    k0_pay3 (F := Ideal) (iblk m c 3 t0_0) (iblk m c 4 t0_0) (ix2 (row b r) k) = InRow.codeG (m ((c : Thread nD τ).loc main_arg0)) (m ((c : Thread nD τ).loc main_arg1)) b r k := by
  refine (code_at (iblk m c 3 t0_0) (iblk m c 4 t0_0) b r k).trans ?_
  unfold InRow.codeG
  rw [funext (blk3 m c b r), funext (blk4 m c)]

/-- The projection of the stacked tokens, cut back into sequences. -/
def projB (c : Dev nD) : FVec Ideal S5x384x5144 .f32 := k0_pay6 (F := Ideal) (k0_pay2 (iblk m c 3 t0_0) (iblk m c 4 t0_0)) (k0_pay3 (iblk m c 3 t0_0) (iblk m c 4 t0_0)) (iblk m c 5 t0_0) (iblk m c 6 t0_0)

/-- The projection of a token at a column. -/
theorem proj_blk (c : Dev nD) (b : Fin 5) (r : Fin 384) (n : Fin 5144) : projB m c (ix3 b r n) = InRow.projG (m ((c : Thread nD τ).loc main_arg0)) (m ((c : Thread nD τ).loc main_arg1)) (m ((c : Thread nD τ).loc main_arg2)) (m ((c : Thread nD τ).loc main_arg3)) b r n := by
  refine (proj_at _ _ (iblk m c 5 t0_0) (iblk m c 6 t0_0) b r n).trans ?_
  unfold InRow.projG
  rw [funext fun k => code_blk m c b r k, scale_blk m c b r, funext fun k => blk5 m c k n, blk6 m c n]

end Cert.InProjReferenceIdeal.Final
-- ==== Proof.InProj.RefGen.lean ====
module

public import proofs.«01_k».proof.Proof.InProj.RefBlocks

@[expose] public section

set_option maxRecDepth 16384
noncomputable section
open Idealize.ShloMosaic Idealize.ShloMosaic.TcCoe Idealize.SL.Sem
open Idealize.ShloMosaic.Pipeline (Dat)
namespace Cert.InProjReferenceIdeal.Final
open Cert.InProjReferenceIdeal Cert.InProjReferenceIdeal.Gen
variable (m : (ℓ : Loc nD τ sig) → Buf (Elt Ideal) ℓ)

/-! ## The reads -/

/-- A multiplier read from the twelve. -/
theorem mul_ld (k : ℕ) (hk : k < 12) (x : Vec Ideal S12 .f32) (i0 : ∀ a, (![k] : Fin 1 → ℕ) a + (![1] : Fin 1 → ℕ) a ≤ S12.size a)
    (z : (Rect.unit (s := S12) ![k] ![1] i0).shape.Idx) : View.ld x (Rect.unit ![k] ![1] i0) z = x (ix1 ⟨k, hk⟩) := by
  rw [View.ld_unit]; refine congrArg x (funext fun a => Fin.ext ?_)
  match a with
  | 0 => have : (z 0 : ℕ) < 1 := (z 0).isLt
         show k + (z 0 : ℕ) = k; omega

/-- A cache scale read from the two. -/
theorem two_ld (k : ℕ) (hk : k < 2) (x : Vec Ideal S2 .f32) (i0 : ∀ a, (![k] : Fin 1 → ℕ) a + (![1] : Fin 1 → ℕ) a ≤ S2.size a)
    (z : (Rect.unit (s := S2) ![k] ![1] i0).shape.Idx) : View.ld x (Rect.unit ![k] ![1] i0) z = x (ix1 ⟨k, hk⟩) := by
  rw [View.ld_unit]; refine congrArg x (funext fun a => Fin.ext ?_)
  match a with
  | 0 => have : (z 0 : ℕ) < 1 := (z 0).isLt
         show k + (z 0 : ℕ) = k; omega

/-- A row of taps read from the four. -/
theorem tap_ld (p : ℕ) (hp : p < 4) (x : Vec Ideal S4x2048 .f32) (i0 : ∀ a, (![p, 0] : Fin 2 → ℕ) a + (![1, 2048] : Fin 2 → ℕ) a ≤ S4x2048.size a) (j : Fin 2048) :
    View.ld x (Rect.unit (s := S4x2048) ![p, 0] ![1, 2048] i0) (ix2 0 j : S1x2048.Idx) = x (ix2 ⟨p, hp⟩ j) := by
  rw [View.ld_unit]; refine congrArg x (funext fun a => Fin.ext ?_)
  match a with
  | 0 => rfl
  | 1 => show 0 + (j : ℕ) = j; omega

/-- A multiplier read is the argument's. -/
theorem mul_arg (c : Dev nD) (k : Fin 12) (i0 : ∀ a, (![(k : ℕ)] : Fin 1 → ℕ) a + (![1] : Fin 1 → ℕ) a ≤ S12.size a) (z : (Rect.unit (s := S12) ![(k : ℕ)] ![1] i0).shape.Idx) :
    View.ld (iblk m c 0 t0_0 : Vec Ideal S12 .f32) (Rect.unit ![(k : ℕ)] ![1] i0) z = (m ((c : Thread nD τ).loc main_arg4)) (ix1 k) := (mul_ld k k.isLt _ i0 z).trans (blk0 m c k)

/-- A key scale read is the argument's. -/
theorem ks_arg (c : Dev nD) (k : Fin 2) (i0 : ∀ a, (![(k : ℕ)] : Fin 1 → ℕ) a + (![1] : Fin 1 → ℕ) a ≤ S2.size a) (z : (Rect.unit (s := S2) ![(k : ℕ)] ![1] i0).shape.Idx) :
    View.ld (iblk m c 1 t0_0 : Vec Ideal S2 .f32) (Rect.unit ![(k : ℕ)] ![1] i0) z = (m ((c : Thread nD τ).loc main_arg7)) (ix1 k) := (two_ld k k.isLt _ i0 z).trans (blk1 m c k)

/-- A value scale read is the argument's. -/
theorem vs_arg (c : Dev nD) (k : Fin 2) (i0 : ∀ a, (![(k : ℕ)] : Fin 1 → ℕ) a + (![1] : Fin 1 → ℕ) a ≤ S2.size a) (z : (Rect.unit (s := S2) ![(k : ℕ)] ![1] i0).shape.Idx) :
    View.ld (iblk m c 2 t0_0 : Vec Ideal S2 .f32) (Rect.unit ![(k : ℕ)] ![1] i0) z = (m ((c : Thread nD τ).loc main_arg8)) (ix1 k) := (two_ld k k.isLt _ i0 z).trans (blk2 m c k)

/-- A tap read is the argument's. -/
theorem tap_arg (c : Dev nD) (p : Fin 4) (i0 : ∀ a, (![(p : ℕ), 0] : Fin 2 → ℕ) a + (![1, 2048] : Fin 2 → ℕ) a ≤ S4x2048.size a) (j : Fin 2048) :
    View.ld (iblk m c 10 t0_0 : Vec Ideal S4x2048 .f32) (Rect.unit (s := S4x2048) ![(p : ℕ), 0] ![1, 2048] i0) (ix2 0 j : S1x2048.Idx) = (m ((c : Thread nD τ).loc main_arg10)) (ix2 p j) := (tap_ld p p.isLt _ i0 j).trans (blk10 m c p j)

/-! ## The results, from the blocks -/

/-- The projection of a token at a column, from the blocks. -/
theorem proj_raw (c : Dev nD) (b : Fin 5) (r : Fin 384) (n : Fin 5144) :
    k0_pay6 (F := Ideal) (k0_pay2 (iblk m c 3 t0_0) (iblk m c 4 t0_0)) (k0_pay3 (iblk m c 3 t0_0) (iblk m c 4 t0_0)) (iblk m c 5 t0_0) (iblk m c 6 t0_0) (ix3 b r n) = InRow.projG (m ((c : Thread nD τ).loc main_arg0)) (m ((c : Thread nD τ).loc main_arg1)) (m ((c : Thread nD τ).loc main_arg2)) (m ((c : Thread nD τ).loc main_arg3)) b r n := proj_blk m c b r n

/-- A rotated query entry. -/
theorem q_gen (c : Dev nD) (a : Elt Ideal .f32) (ha : a = (m ((c : Thread nD τ).loc main_arg4)) (ix1 0)) (b : Fin 5) (i : Fin 2) (d : Fin 128) (l : Fin 1536) :
    k0_pay13 (F := Ideal) (k0_pay8 (k0_pay2 (iblk m c 3 t0_0) (iblk m c 4 t0_0)) (k0_pay3 (iblk m c 3 t0_0) (iblk m c 4 t0_0)) (iblk m c 5 t0_0) (iblk m c 6 t0_0) a (iblk m c 7 t0_0) (iblk m c 8 t0_0)) (ix4 b i d l) = InRow.qTG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b i d l := by
  refine (qT_at _ b i d l).trans ((q_at _ _ (iblk m c 5 t0_0) (iblk m c 6 t0_0) a (iblk m c 7 t0_0) (iblk m c 8 t0_0) b _ _ d).trans ?_)
  subst ha
  unfold InRow.qTG InRow.qG
  rw [funext fun k => blk7 m c b ⟨(l : ℕ) % 384, Nat.mod_lt _ (by decide)⟩ k, funext fun k => blk8 m c b ⟨(l : ℕ) % 384, Nat.mod_lt _ (by decide)⟩ k]
  refine congrArg (fun v => InRow.rope v _ _ d) (funext fun d => ?_)
  rw [proj_raw m c b]

/-- The rotated key of head `i`, before it is quantised. -/
def kRot (x : Vec Ideal S5x384x2048 .bf16) (g : Vec Ideal S2048 .f32) (w : Vec Ideal S2048x5144 .fp8e4m3) (s : Vec Ideal S5144 .f32) (mu : Vec Ideal S12 .f32) (cs sn : Vec Ideal S5x384x64 .f32)
    (b : Fin 5) (i : Fin 2) (r : Fin 384) (d : Fin 128) : EReal :=
  InRow.rope (fun d => InRow.projG x g w s b r ⟨1024 + (i * 128 + d), by omega⟩ * (mu (ix1 0) * mu (ix1 1))) (fun k => cs (ix3 b r k)) (fun k => sn (ix3 b r k)) d

/-- The first half of a key head. -/
theorem k_half (s : FVec Ideal S1920x1 .f32) (q : FVec Ideal S1920x2048 .fp8e4m3) (w : Vec Ideal S2048x5144 .fp8e4m3) (cc : Vec Ideal S1x5144 .f32) (a e : Elt Ideal .f32) (b : Fin 5) (r : Fin 384) (h : Fin 2) (d : Fin 64) :
    k0_pay11 s q w cc a e (ix4 b r h d) = k0_pay7 s q w cc a e (ix4 b r h ⟨d, by omega⟩) := by
  unfold k0_pay11
  generalize k0_pay7 (F := Ideal) s q w cc a e = v
  pointwise []
  try rfl

/-- A rotated key entry. -/
theorem k_gen (c : Dev nD) (a : Elt Ideal .f32) (ha : a = (m ((c : Thread nD τ).loc main_arg4)) (ix1 0)) (e : Elt Ideal .f32) (he : e = (m ((c : Thread nD τ).loc main_arg4)) (ix1 1)) (b : Fin 5) (r : Fin 384) (i : Fin 2) (d : Fin 128) :
    k0_pay12 (F := Ideal) (k0_pay7 (k0_pay2 (iblk m c 3 t0_0) (iblk m c 4 t0_0)) (k0_pay3 (iblk m c 3 t0_0) (iblk m c 4 t0_0)) (iblk m c 5 t0_0) (iblk m c 6 t0_0) a e) (k0_pay9 (iblk m c 7 t0_0)) (k0_pay10 (iblk m c 8 t0_0)) (k0_pay11 (k0_pay2 (iblk m c 3 t0_0) (iblk m c 4 t0_0)) (k0_pay3 (iblk m c 3 t0_0) (iblk m c 4 t0_0)) (iblk m c 5 t0_0) (iblk m c 6 t0_0) a e) (ix4 b r i d)
      = kRot (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b i r d := by
  refine (kr_at _ (iblk m c 7 t0_0) (iblk m c 8 t0_0) _ (fun b r h d => k_half _ _ _ _ a e b r h d) b r i d).trans ?_
  unfold kRot
  rw [funext fun k => blk7 m c b r k, funext fun k => blk8 m c b r k]
  refine congrArg (fun v => InRow.rope v _ _ d) (funext fun d => ?_)
  refine (k_at _ _ (iblk m c 5 t0_0) (iblk m c 6 t0_0) a e b r i d).trans ?_
  subst ha he
  rw [proj_raw m c b r]

/-- A gate. -/
theorem z_gen (c : Dev nD) (a : Elt Ideal .f32) (ha : a = (m ((c : Thread nD τ).loc main_arg4)) (ix1 3)) (e : Elt Ideal .f32) (he : e = (m ((c : Thread nD τ).loc main_arg4)) (ix1 7)) (b : Fin 5) (r : Fin 384) (j : Fin 1536) : k0_pay19 (projB m c) a e (ix3 b r j) = InRow.zG (m ((c : Thread nD τ).loc main_arg0)) (m ((c : Thread nD τ).loc main_arg1)) (m ((c : Thread nD τ).loc main_arg2)) (m ((c : Thread nD τ).loc main_arg3)) (m ((c : Thread nD τ).loc main_arg4)) b r j := by
  refine (z_at _ a e b r j).trans ?_
  subst ha he
  unfold InRow.zG
  rw [proj_blk m c b r]

/-- A value before the convolution, the kept ones first. -/
theorem pad_gen (c : Dev nD) (a : Elt Ideal .f32) (ha : a = (m ((c : Thread nD τ).loc main_arg4)) (ix1 3)) (e : Elt Ideal .f32) (he : e = (m ((c : Thread nD τ).loc main_arg4)) (ix1 8)) (f : Elt Ideal .f32) (hf : f = (m ((c : Thread nD τ).loc main_arg4)) (ix1 9)) (g : Elt Ideal .f32) (hg : g = (m ((c : Thread nD τ).loc main_arg4)) (ix1 10)) (b : Fin 5) (p : Fin 387) (j : Fin 2048) :
    k0_pay20 (projB m c) a e f g (iblk m c 9 t0_0) (ix3 b p j) = InRow.padG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) b j p := by
  refine (pad_at _ a e f g (iblk m c 9 t0_0) b p j).trans ?_
  subst ha he hf hg
  unfold InRow.padG InRow.xG
  rw [funext fun p => blk9 m c b p j]
  exact congrArg (fun v => InRow.padded _ v p) (funext fun r => congrArg (InRow.segX _ _ _ j) (proj_blk m c b r ⟨3072 + j, by omega⟩))

/-- A convolved value. -/
theorem conv_gen (c : Dev nD) (a : Elt Ideal .f32) (ha : a = (m ((c : Thread nD τ).loc main_arg4)) (ix1 3)) (e : Elt Ideal .f32) (he : e = (m ((c : Thread nD τ).loc main_arg4)) (ix1 8)) (f : Elt Ideal .f32) (hf : f = (m ((c : Thread nD τ).loc main_arg4)) (ix1 9)) (g : Elt Ideal .f32) (hg : g = (m ((c : Thread nD τ).loc main_arg4)) (ix1 10)) (w0 w1 w2 w3 : Vec Ideal S1x2048 .f32)
    (h0 : ∀ j, w0 (ix2 0 j) = (m ((c : Thread nD τ).loc main_arg10)) (ix2 0 j)) (h1 : ∀ j, w1 (ix2 0 j) = (m ((c : Thread nD τ).loc main_arg10)) (ix2 1 j)) (h2 : ∀ j, w2 (ix2 0 j) = (m ((c : Thread nD τ).loc main_arg10)) (ix2 2 j)) (h3 : ∀ j, w3 (ix2 0 j) = (m ((c : Thread nD τ).loc main_arg10)) (ix2 3 j))
    (b : Fin 5) (r : Fin 384) (j : Fin 2048) :
    k0_pay23 (k0_pay20 (projB m c) a e f g (iblk m c 9 t0_0)) (k0_pay21 (iblk m c 11 t0_0)) (k0_pay22 (projB m c) a e f g (iblk m c 9 t0_0) w0 w1 w2) w3 (ix3 b r j) = InRow.convG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) b r j := by
  refine (conv_at (projB m c) a e f g (iblk m c 9 t0_0) (iblk m c 11 t0_0) w0 w1 w2 w3 b r j).trans ?_
  rw [pad_gen m c a ha e he f hf g hg, pad_gen m c a ha e he f hf g hg, pad_gen m c a ha e he f hf g hg, pad_gen m c a ha e he f hf g hg, h0, h1, h2, h3, blk11]
  have e0 : (⟨r, by omega⟩ : Fin 387) = ⟨0 + r, by omega⟩ := Fin.ext (Nat.zero_add _).symm
  rw [e0]
  rfl

/-- One of the last three values before the convolution. -/
theorem tail_gen (c : Dev nD) (a : Elt Ideal .f32) (ha : a = (m ((c : Thread nD τ).loc main_arg4)) (ix1 3)) (e : Elt Ideal .f32) (he : e = (m ((c : Thread nD τ).loc main_arg4)) (ix1 8)) (f : Elt Ideal .f32) (hf : f = (m ((c : Thread nD τ).loc main_arg4)) (ix1 9)) (g : Elt Ideal .f32) (hg : g = (m ((c : Thread nD τ).loc main_arg4)) (ix1 10)) (b : Fin 5) (p : Fin 3) (j : Fin 2048) :
    k0_pay24 (k0_pay20 (projB m c) a e f g (iblk m c 9 t0_0)) (ix3 b p j) = InRow.tailG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) b p j :=
  (tail_at _ b p j).trans (pad_gen m c a ha e he f hf g hg b _ j)

/-- A step size. -/
theorem dt_gen (c : Dev nD) (a : Elt Ideal .f32) (ha : a = (m ((c : Thread nD τ).loc main_arg4)) (ix1 3)) (e : Elt Ideal .f32) (he : e = (m ((c : Thread nD τ).loc main_arg4)) (ix1 11)) (b : Fin 5) (h : Fin 32) (r : Fin 384) :
    k0_pay25 (projB m c) a e (iblk m c 12 t0_0) (ix3 b h r) = InRow.dtG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) b h r := by
  refine (dt_at _ a e (iblk m c 12 t0_0) b h r).trans ?_
  subst ha he
  unfold InRow.dtG
  refine congrArg InRow.softplus ?_
  by_cases hh : (h : ℕ) < 24
  · rw [dif_pos hh, dif_pos hh, blk12 m c ⟨h, hh⟩, proj_blk m c b r]
  · rw [dif_neg hh, dif_neg hh]

end Cert.InProjReferenceIdeal.Final
-- ==== Proof.InProj.RefCodes.lean ====
module

public import proofs.«01_k».proof.Proof.InProj.RefGen

@[expose] public section

set_option maxRecDepth 16384
noncomputable section
open Idealize.ShloMosaic Idealize.ShloMosaic.TcCoe Idealize.SL.Sem
open Idealize.ShloMosaic.Pipeline (Dat)
namespace Cert.InProjReferenceIdeal.Final
open Cert.InProjReferenceIdeal Cert.InProjReferenceIdeal.Gen
variable (m : (ℓ : Loc nD τ sig) → Buf (Elt Ideal) ℓ)

/-! ## The values of the run -/

/-- The run's multiplier of the tokens. -/
theorem r2_eq (c : Dev nD) (arg0 : Memref sig .tc .smem S12 .f32) (harg0 : arg0.IsWhole) (x0 : Vec Ideal S12 .f32) :
    kernelRun0_A.sl.r_2 (F := Ideal) c arg0 harg0 x0 = x0 (ix1 0) := by
  unfold kernelRun0_A.sl.r_2
  simp (disch := decide) only [View.readAt_eq_ld, Memref.IsWhole.read_unread]
  exact mul_ld 0 (by decide) _ _ _

/-- The run's multiplier of the keys. -/
theorem r3_eq (c : Dev nD) (arg0 : Memref sig .tc .smem S12 .f32) (harg0 : arg0.IsWhole) (x0 : Vec Ideal S12 .f32) :
    kernelRun0_A.sl.r_3 (F := Ideal) c arg0 harg0 x0 = x0 (ix1 1) := by
  unfold kernelRun0_A.sl.r_3
  simp (disch := decide) only [View.readAt_eq_ld, Memref.IsWhole.read_unread]
  exact mul_ld 1 (by decide) _ _ _

/-- The run's key scale of the first head. -/
theorem r10_eq (c : Dev nD) (arg1 : Memref sig .tc .smem S2 .f32) (harg1 : arg1.IsWhole) (x1 : Vec Ideal S2 .f32) :
    kernelRun0_A.sl.r_10 (F := Ideal) c arg1 harg1 x1 = x1 (ix1 0) := by
  unfold kernelRun0_A.sl.r_10
  simp (disch := decide) only [View.readAt_eq_ld, Memref.IsWhole.read_unread]
  exact two_ld 0 (by decide) _ _ _

/-- The run's key scale of the second head. -/
theorem r14_eq (c : Dev nD) (arg1 : Memref sig .tc .smem S2 .f32) (harg1 : arg1.IsWhole) (x1 : Vec Ideal S2 .f32) :
    kernelRun0_A.sl.r_14 (F := Ideal) c arg1 harg1 x1 = x1 (ix1 1) := by
  unfold kernelRun0_A.sl.r_14
  simp (disch := decide) only [View.readAt_eq_ld, Memref.IsWhole.read_unread]
  exact two_ld 1 (by decide) _ _ _

/-- The run's value scale of the first head. -/
theorem r11_eq (c : Dev nD) (arg2 : Memref sig .tc .smem S2 .f32) (harg2 : arg2.IsWhole) (x2 : Vec Ideal S2 .f32) :
    kernelRun0_A.sl.r_11 (F := Ideal) c arg2 harg2 x2 = x2 (ix1 0) := by
  unfold kernelRun0_A.sl.r_11
  simp (disch := decide) only [View.readAt_eq_ld, Memref.IsWhole.read_unread]
  exact two_ld 0 (by decide) _ _ _

/-- The run's value scale of the second head. -/
theorem r15_eq (c : Dev nD) (arg2 : Memref sig .tc .smem S2 .f32) (harg2 : arg2.IsWhole) (x2 : Vec Ideal S2 .f32) :
    kernelRun0_A.sl.r_15 (F := Ideal) c arg2 harg2 x2 = x2 (ix1 1) := by
  unfold kernelRun0_A.sl.r_15
  simp (disch := decide) only [View.readAt_eq_ld, Memref.IsWhole.read_unread]
  exact two_ld 1 (by decide) _ _ _

/-- The run's projection, as a function of the blocks read. -/
theorem r4_eq (c : Dev nD) (arg3 : Memref sig .tc .vmem S5x384x2048 .bf16) (harg3 : arg3.IsWhole) (arg4 : Memref sig .tc .vmem S1x2048 .f32) (harg4 : arg4.IsWhole) (arg5 : Memref sig .tc .vmem S2048x5144 .fp8e4m3) (harg5 : arg5.IsWhole) (arg6 : Memref sig .tc .vmem S1x5144 .f32) (harg6 : arg6.IsWhole) (x3 : Vec Ideal S5x384x2048 .bf16) (x4 : Vec Ideal S1x2048 .f32) (x5 : Vec Ideal S2048x5144 .fp8e4m3) (x6 : Vec Ideal S1x5144 .f32) :
    kernelRun0_A.sl.r_4 (F := Ideal) c arg3 harg3 arg4 harg4 arg5 harg5 arg6 harg6 x3 x4 x5 x6 = k0_pay6 (k0_pay2 x3 x4) (k0_pay3 x3 x4) x5 x6 := by
  unfold kernelRun0_A.sl.r_4 kernelRun0_A.sl.r kernelRun0_A.sl.r_1
  simp (disch := decide) only [View.ld_unit_lit', View.readAt_eq_ld, Memref.IsWhole.read_unread]

/-- The run's scaled key columns, as a function of the blocks read. -/
theorem r5_eq (c : Dev nD) (arg0 : Memref sig .tc .smem S12 .f32) (harg0 : arg0.IsWhole) (arg3 : Memref sig .tc .vmem S5x384x2048 .bf16) (harg3 : arg3.IsWhole) (arg4 : Memref sig .tc .vmem S1x2048 .f32) (harg4 : arg4.IsWhole) (arg5 : Memref sig .tc .vmem S2048x5144 .fp8e4m3) (harg5 : arg5.IsWhole) (arg6 : Memref sig .tc .vmem S1x5144 .f32) (harg6 : arg6.IsWhole) (x0 : Vec Ideal S12 .f32) (x3 : Vec Ideal S5x384x2048 .bf16) (x4 : Vec Ideal S1x2048 .f32) (x5 : Vec Ideal S2048x5144 .fp8e4m3) (x6 : Vec Ideal S1x5144 .f32) :
    kernelRun0_A.sl.r_5 (F := Ideal) c arg0 harg0 arg3 harg3 arg4 harg4 arg5 harg5 arg6 harg6 x0 x3 x4 x5 x6 = k0_pay7 (k0_pay2 x3 x4) (k0_pay3 x3 x4) x5 x6 (x0 (ix1 0)) (x0 (ix1 1)) := by
  unfold kernelRun0_A.sl.r_5 kernelRun0_A.sl.r kernelRun0_A.sl.r_1
  simp (disch := decide) only [View.ld_unit_lit', View.readAt_eq_ld, Memref.IsWhole.read_unread]
  rw [r2_eq, r3_eq]

/-- The run's second half of the scaled key columns, as a function of the blocks read. -/
theorem r9_eq (c : Dev nD) (arg0 : Memref sig .tc .smem S12 .f32) (harg0 : arg0.IsWhole) (arg3 : Memref sig .tc .vmem S5x384x2048 .bf16) (harg3 : arg3.IsWhole) (arg4 : Memref sig .tc .vmem S1x2048 .f32) (harg4 : arg4.IsWhole) (arg5 : Memref sig .tc .vmem S2048x5144 .fp8e4m3) (harg5 : arg5.IsWhole) (arg6 : Memref sig .tc .vmem S1x5144 .f32) (harg6 : arg6.IsWhole) (x0 : Vec Ideal S12 .f32) (x3 : Vec Ideal S5x384x2048 .bf16) (x4 : Vec Ideal S1x2048 .f32) (x5 : Vec Ideal S2048x5144 .fp8e4m3) (x6 : Vec Ideal S1x5144 .f32) :
    kernelRun0_A.sl.r_9 (F := Ideal) c arg0 harg0 arg3 harg3 arg4 harg4 arg5 harg5 arg6 harg6 x0 x3 x4 x5 x6 = k0_pay11 (k0_pay2 x3 x4) (k0_pay3 x3 x4) x5 x6 (x0 (ix1 0)) (x0 (ix1 1)) := by
  unfold kernelRun0_A.sl.r_9 kernelRun0_A.sl.r kernelRun0_A.sl.r_1
  simp (disch := decide) only [View.ld_unit_lit', View.readAt_eq_ld, Memref.IsWhole.read_unread]
  rw [r2_eq, r3_eq]

/-- The run's cosines, as a function of the block read. -/
theorem r7_eq (c : Dev nD) (arg7 : Memref sig .tc .vmem S5x384x64 .f32) (harg7 : arg7.IsWhole) (x7 : Vec Ideal S5x384x64 .f32) :
    kernelRun0_A.sl.r_7 (F := Ideal) c arg7 harg7 x7 = k0_pay9 x7 := by
  unfold kernelRun0_A.sl.r_7
  simp (disch := decide) only [View.ld_unit_lit', View.readAt_eq_ld, Memref.IsWhole.read_unread]

/-- The run's sines, as a function of the block read. -/
theorem r8_eq (c : Dev nD) (arg8 : Memref sig .tc .vmem S5x384x64 .f32) (harg8 : arg8.IsWhole) (x8 : Vec Ideal S5x384x64 .f32) :
    kernelRun0_A.sl.r_8 (F := Ideal) c arg8 harg8 x8 = k0_pay10 x8 := by
  unfold kernelRun0_A.sl.r_8
  simp (disch := decide) only [View.ld_unit_lit', View.readAt_eq_ld, Memref.IsWhole.read_unread]

/-- The run's rotated keys, as a function of the blocks read. -/
theorem r12_eq (c : Dev nD) (arg0 : Memref sig .tc .smem S12 .f32) (harg0 : arg0.IsWhole) (arg3 : Memref sig .tc .vmem S5x384x2048 .bf16) (harg3 : arg3.IsWhole) (arg4 : Memref sig .tc .vmem S1x2048 .f32) (harg4 : arg4.IsWhole) (arg5 : Memref sig .tc .vmem S2048x5144 .fp8e4m3) (harg5 : arg5.IsWhole) (arg6 : Memref sig .tc .vmem S1x5144 .f32) (harg6 : arg6.IsWhole) (arg7 : Memref sig .tc .vmem S5x384x64 .f32) (harg7 : arg7.IsWhole) (arg8 : Memref sig .tc .vmem S5x384x64 .f32) (harg8 : arg8.IsWhole) (x0 : Vec Ideal S12 .f32) (x3 : Vec Ideal S5x384x2048 .bf16) (x4 : Vec Ideal S1x2048 .f32) (x5 : Vec Ideal S2048x5144 .fp8e4m3) (x6 : Vec Ideal S1x5144 .f32) (x7 : Vec Ideal S5x384x64 .f32) (x8 : Vec Ideal S5x384x64 .f32) :
    kernelRun0_A.sl.r_12 (F := Ideal) c arg0 harg0 arg3 harg3 arg4 harg4 arg5 harg5 arg6 harg6 arg7 harg7 arg8 harg8 x0 x3 x4 x5 x6 x7 x8 = k0_pay12 (k0_pay7 (k0_pay2 x3 x4) (k0_pay3 x3 x4) x5 x6 (x0 (ix1 0)) (x0 (ix1 1))) (k0_pay9 x7) (k0_pay10 x8) (k0_pay11 (k0_pay2 x3 x4) (k0_pay3 x3 x4) x5 x6 (x0 (ix1 0)) (x0 (ix1 1))) := by
  unfold kernelRun0_A.sl.r_12
  rw [r5_eq, r9_eq, r7_eq, r8_eq]

/-- The run's value codes of the first head, as a function of the blocks read. -/
theorem r13_eq (c : Dev nD) (arg0 : Memref sig .tc .smem S12 .f32) (harg0 : arg0.IsWhole) (arg2 : Memref sig .tc .smem S2 .f32) (harg2 : arg2.IsWhole) (arg3 : Memref sig .tc .vmem S5x384x2048 .bf16) (harg3 : arg3.IsWhole) (arg4 : Memref sig .tc .vmem S1x2048 .f32) (harg4 : arg4.IsWhole) (arg5 : Memref sig .tc .vmem S2048x5144 .fp8e4m3) (harg5 : arg5.IsWhole) (arg6 : Memref sig .tc .vmem S1x5144 .f32) (harg6 : arg6.IsWhole) (x0 : Vec Ideal S12 .f32) (x2 : Vec Ideal S2 .f32) (x3 : Vec Ideal S5x384x2048 .bf16) (x4 : Vec Ideal S1x2048 .f32) (x5 : Vec Ideal S2048x5144 .fp8e4m3) (x6 : Vec Ideal S1x5144 .f32) :
    kernelRun0_A.sl.r_13 (F := Ideal) c arg0 harg0 arg2 harg2 arg3 harg3 arg4 harg4 arg5 harg5 arg6 harg6 x0 x2 x3 x4 x5 x6 = k0_pay15 (k0_pay6 (k0_pay2 x3 x4) (k0_pay3 x3 x4) x5 x6) (x0 (ix1 0)) (x2 (ix1 0)) := by
  unfold kernelRun0_A.sl.r_13
  rw [r4_eq, r2_eq, r11_eq]

/-- The key codes of head 1. -/
theorem kB_gen (c : Dev nD) (v : FVec Ideal S5x384x2x128 .f32) (hv : ∀ b r i d, v (ix4 b r i d) = kRot (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b i r d) (s : Elt Ideal .f32) (hs : s = (m ((c : Thread nD τ).loc main_arg7)) (ix1 1)) (x : S5x1x384x128.Idx) (b : Fin 5) (i : Fin 2) (r : Fin 384) (d : Fin 128)
    (h0 : (b : ℕ) = x 0) (h1 : (i : ℕ) = 1 + x 1) (h2 : (r : ℕ) = x 2) (h3 : (d : ℕ) = x 3) : k0_pay17 v s x = InRow.kG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b i r d := by
  have hx1 : (x 1 : ℕ) < 1 := (x 1).isLt
  have hi : i = 1 := Fin.ext (by rw [h1]; show _ = 1; omega)
  have hx : x = ix4 b 0 r d := by
    funext a; fin_cases a
    · exact Fin.ext h0.symm
    · exact Fin.ext (by show (x 1 : ℕ) = 0; omega)
    · exact Fin.ext h2.symm
    · exact Fin.ext h3.symm
  subst hi
  refine (congrArg _ hx).trans ?_
  refine (kc1_at v s b r d).trans ?_
  rw [hv, hs]
  rfl

/-- The key codes of head 0. -/
theorem kA_gen (c : Dev nD) (v : FVec Ideal S5x384x2x128 .f32) (cs sn : FVec Ideal S5x384x1x64 .f32) (u : FVec Ideal S5x384x2x64 .f32) (hv : ∀ b r i d, k0_pay12 v cs sn u (ix4 b r i d) = kRot (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b i r d) (s : Elt Ideal .f32) (hs : s = (m ((c : Thread nD τ).loc main_arg7)) (ix1 0)) (x : S5x1x384x128.Idx) (b : Fin 5) (i : Fin 2) (r : Fin 384) (d : Fin 128)
    (h0 : (b : ℕ) = x 0) (h1 : (i : ℕ) = x 1) (h2 : (r : ℕ) = x 2) (h3 : (d : ℕ) = x 3) : k0_pay14 v cs sn u s x = InRow.kG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b i r d := by
  have hx1 : (x 1 : ℕ) < 1 := (x 1).isLt
  have hi : i = 0 := Fin.ext (by rw [h1]; show _ = 0; omega)
  have hx : x = ix4 b 0 r d := by
    funext a; fin_cases a
    · exact Fin.ext h0.symm
    · exact Fin.ext (by show (x 1 : ℕ) = 0; omega)
    · exact Fin.ext h2.symm
    · exact Fin.ext h3.symm
  subst hi
  refine (congrArg _ hx).trans ?_
  refine (kc0_at v cs sn u s b r d).trans ?_
  rw [hv, hs]
  rfl

/-- The value codes of head 1. -/
theorem vB_gen (c : Dev nD) (v : FVec Ideal S5x384x5144 .f32) (hv : v = projB m c) (a : Elt Ideal .f32) (ha : a = (m ((c : Thread nD τ).loc main_arg4)) (ix1 0)) (s : Elt Ideal .f32) (hs : s = (m ((c : Thread nD τ).loc main_arg8)) (ix1 1)) (x : S5x1x384x128.Idx) (b : Fin 5) (i : Fin 2) (r : Fin 384) (d : Fin 128)
    (h0 : (b : ℕ) = x 0) (h1 : (i : ℕ) = 1 + x 1) (h2 : (r : ℕ) = x 2) (h3 : (d : ℕ) = x 3) : k0_pay18 v a s x = InRow.vG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) b i r d := by
  have hx1 : (x 1 : ℕ) < 1 := (x 1).isLt
  have hi : i = 1 := Fin.ext (by rw [h1]; show _ = 1; omega)
  have hx : x = ix4 b 0 r d := by
    funext a; fin_cases a
    · exact Fin.ext h0.symm
    · exact Fin.ext (by show (x 1 : ℕ) = 0; omega)
    · exact Fin.ext h2.symm
    · exact Fin.ext h3.symm
  subst hi
  refine (congrArg _ hx).trans ?_
  subst hv
  refine (vc1_at (projB m c) a s b r d).trans ?_
  rw [proj_blk m c b r, ha, hs]
  have e : (⟨1408 + d, by omega⟩ : Fin 5144) = ⟨1280 + (((1 : Fin 2) : ℕ) * 128 + d), by show 1280 + (1 * 128 + (d : ℕ)) < 5144; omega⟩ := Fin.ext (by show 1408 + (d : ℕ) = 1280 + (1 * 128 + d); omega)
  rw [e]
  rfl

/-- The value codes of head 0. -/
theorem vA_gen (c : Dev nD) (v : FVec Ideal S5x384x128 .fp8e4m3) (a : Elt Ideal .f32) (ha : a = (m ((c : Thread nD τ).loc main_arg4)) (ix1 0)) (s : Elt Ideal .f32) (hs : s = (m ((c : Thread nD τ).loc main_arg8)) (ix1 0)) (hv : v = k0_pay15 (projB m c) a s) (x : S5x1x384x128.Idx) (b : Fin 5) (i : Fin 2) (r : Fin 384) (d : Fin 128)
    (h0 : (b : ℕ) = x 0) (h1 : (i : ℕ) = x 1) (h2 : (r : ℕ) = x 2) (h3 : (d : ℕ) = x 3) : k0_pay16 v x = InRow.vG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) b i r d := by
  have hx1 : (x 1 : ℕ) < 1 := (x 1).isLt
  have hi : i = 0 := Fin.ext (by rw [h1]; show _ = 0; omega)
  have hx : x = ix4 b 0 r d := by
    funext a; fin_cases a
    · exact Fin.ext h0.symm
    · exact Fin.ext (by show (x 1 : ℕ) = 0; omega)
    · exact Fin.ext h2.symm
    · exact Fin.ext h3.symm
  subst hi
  refine (congrArg _ hx).trans ?_
  subst hv
  refine (vc0_at (projB m c) a s b r d).trans ?_
  rw [proj_blk m c b r, ha, hs]
  have e : (⟨1280 + d, by omega⟩ : Fin 5144) = ⟨1280 + (((0 : Fin 2) : ℕ) * 128 + d), by show 1280 + (0 * 128 + (d : ℕ)) < 5144; omega⟩ := Fin.ext (by show 1280 + (d : ℕ) = 1280 + (0 * 128 + d); omega)
  rw [e]
  rfl

/-- The key codes, after the run. -/
theorem final16 (c : Dev nD) : (dats m 0 c).arrAt 16 (cfgs 0).N = fun i : S5x2x384x128.Idx => InRow.kG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) (i 3) := by
  refine (dats m 0 c).arrAt_eq_of_after_last 16 t0_0 (by decide +kernel) _ fun j => ?_
  blk_simp
  rw [after0_16]
  unfold outsAt0; dsimp only; unfold out0_A_16
  rw [View.read_writes_junk_eq_canon]
  unfold kernelRun0_A; dsimp only
  canon_tiles x h
  case piece0 =>
    refine kB_gen m c _ (fun b r i d => ?_) _ ?_ x (j 0) (j 1) (j 2) (j 3) h0 h1 h2 h3
    · rw [r12_eq]
      exact k_gen m c _ (blk0 m c 0) _ (blk0 m c 1) b r i d
    · rw [r14_eq]
      exact blk1 m c 1
  case piece1 =>
    refine kA_gen m c _ _ _ _ (fun b r i d => ?_) _ ?_ x (j 0) (j 1) (j 2) (j 3) h0 h1 h2 h3
    · rw [r5_eq, r9_eq, r7_eq, r8_eq]
      exact k_gen m c _ (blk0 m c 0) _ (blk0 m c 1) b r i d
    · rw [r10_eq]
      exact blk1 m c 0

/-- The value codes, after the run. -/
theorem final17 (c : Dev nD) : (dats m 0 c).arrAt 17 (cfgs 0).N = fun i : S5x2x384x128.Idx => InRow.vG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (i 0) (i 1) (i 2) (i 3) := by
  refine (dats m 0 c).arrAt_eq_of_after_last 17 t0_0 (by decide +kernel) _ fun j => ?_
  blk_simp
  rw [after0_17]
  unfold outsAt0; dsimp only; unfold out0_A_17
  rw [View.read_writes_junk_eq_canon]
  unfold kernelRun0_A; dsimp only
  canon_tiles x h
  case piece0 =>
    refine vB_gen m c _ ?_ _ ?_ _ ?_ x (j 0) (j 1) (j 2) (j 3) h0 h1 h2 h3
    · exact r4_eq _ _ _ _ _ _ _ _ _ _ _ _ _
    · rw [r2_eq]
      exact blk0 m c 0
    · rw [r15_eq]
      exact blk2 m c 1
  case piece1 =>
    refine vA_gen m c _ _ (blk0 m c 0) _ (blk2 m c 0) ?_ x (j 0) (j 1) (j 2) (j 3) h0 h1 h2 h3
    exact r13_eq _ _ _ _ _ _ _ _ _ _ _ _ _ _ _ _ _ _ _

end Cert.InProjReferenceIdeal.Final
-- ==== Proof.InProj.Reference.lean ====
module

public import proofs.«01_k».proof.Proof.InProj.RefCodes

@[expose] public section

set_option maxRecDepth 16384
noncomputable section
open Idealize.ShloMosaic Idealize.ShloMosaic.TcCoe Idealize.SL.Sem
open Idealize.ShloMosaic.Pipeline (Dat)
namespace Cert.InProjReferenceIdeal.Final
open Cert.InProjReferenceIdeal Cert.InProjReferenceIdeal.Gen
variable (m : (ℓ : Loc nD τ sig) → Buf (Elt Ideal) ℓ)

/-- The codes of the normalised rows, after the run. -/
theorem final13 (c : Dev nD) : (dats m 0 c).arrAt 13 (cfgs 0).N = fun i : S5x384x2048.Idx => InRow.codeG (m ((c : Thread nD τ).loc main_arg0)) (m ((c : Thread nD τ).loc main_arg1)) (i 0) (i 1) (i 2) := by
  refine (dats m 0 c).arrAt_eq_of_after_last 13 t0_0 (by decide +kernel) _ fun j => ?_
  blk_simp
  rw [after0_13]
  unfold outsAt0
  frame_out
  simp only [read_unread_whole]
  have hj : (j : S5x384x2048.Idx) = ix3 (j 0) (j 1) (j 2) := by
    funext d; fin_cases d <;> rfl
  exact (congrArg _ hj).trans ((codes_at _ _ (j 0) (j 1) (j 2)).trans (code_blk m c (j 0) (j 1) (j 2)))

/-- The scales of the normalised rows, after the run. -/
theorem final14 (c : Dev nD) : (dats m 0 c).arrAt 14 (cfgs 0).N = fun i : S5x1x384.Idx => InRow.scaleG (m ((c : Thread nD τ).loc main_arg0)) (m ((c : Thread nD τ).loc main_arg1)) (i 0) (i 2) := by
  refine (dats m 0 c).arrAt_eq_of_after_last 14 t0_0 (by decide +kernel) _ fun j => ?_
  blk_simp
  rw [after0_14]
  unfold outsAt0
  frame_out
  simp only [read_unread_whole]
  have hj : (j : S5x1x384.Idx) = ix3 (j 0) 0 (j 2) := by
    funext d; fin_cases d
    · rfl
    · exact Fin.ext (by have : (j 1 : ℕ) < 1 := (j 1).isLt
                        show (j 1 : ℕ) = 0; omega)
    · rfl
  exact (congrArg _ hj).trans ((scales_at _ _ (j 0) (j 2)).trans (scale_blk m c (j 0) (j 2)))

/-- The rotated queries, after the run. -/
theorem final15 (c : Dev nD) : (dats m 0 c).arrAt 15 (cfgs 0).N = fun i : S5x2x128x1536.Idx => InRow.qTG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2) (i 3) := by
  refine (dats m 0 c).arrAt_eq_of_after_last 15 t0_0 (by decide +kernel) _ fun j => ?_
  blk_simp
  rw [after0_15]
  unfold outsAt0
  frame_out
  simp only [read_unread_whole]
  have hj : (j : S5x2x128x1536.Idx) = ix4 (j 0) (j 1) (j 2) (j 3) := by
    funext d; fin_cases d <;> rfl
  exact (congrArg _ hj).trans (q_gen m c _ (mul_arg m c 0 _ _) (j 0) (j 1) (j 2) (j 3))

/-- The gates, after the run. -/
theorem final18 (c : Dev nD) : (dats m 0 c).arrAt 18 (cfgs 0).N = fun i : S5x384x1536.Idx => InRow.zG (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) := by
  refine (dats m 0 c).arrAt_eq_of_after_last 18 t0_0 (by decide +kernel) _ fun j => ?_
  blk_simp
  rw [after0_18]
  unfold outsAt0
  frame_out
  simp only [read_unread_whole]
  have hj : (j : S5x384x1536.Idx) = ix3 (j 0) (j 1) (j 2) := by
    funext d; fin_cases d <;> rfl
  exact (congrArg _ hj).trans (z_gen m c _ (mul_arg m c 3 _ _) _ (mul_arg m c 7 _ _) (j 0) (j 1) (j 2))

/-- The convolved values, after the run. -/
theorem final19 (c : Dev nD) : (dats m 0 c).arrAt 19 (cfgs 0).N = fun i : S5x384x2048.Idx => InRow.convG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (i 0) (i 1) (i 2) := by
  refine (dats m 0 c).arrAt_eq_of_after_last 19 t0_0 (by decide +kernel) _ fun j => ?_
  blk_simp
  rw [after0_19]
  unfold outsAt0
  frame_out
  simp only [read_unread_whole]
  have hj : (j : S5x384x2048.Idx) = ix3 (j 0) (j 1) (j 2) := by
    funext d; fin_cases d <;> rfl
  exact (congrArg _ hj).trans (conv_gen m c _ (mul_arg m c 3 _ _) _ (mul_arg m c 8 _ _) _ (mul_arg m c 9 _ _) _ (mul_arg m c 10 _ _) _ _ _ _ (tap_arg m c 0 _) (tap_arg m c 1 _) (tap_arg m c 2 _) (tap_arg m c 3 _) (j 0) (j 1) (j 2))

/-- The step sizes, after the run. -/
theorem final20 (c : Dev nD) : (dats m 0 c).arrAt 20 (cfgs 0).N = fun i : S5x32x384.Idx => InRow.dtG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) (i 0) (i 1) (i 2) := by
  refine (dats m 0 c).arrAt_eq_of_after_last 20 t0_0 (by decide +kernel) _ fun j => ?_
  blk_simp
  rw [after0_20]
  unfold outsAt0
  frame_out
  simp only [read_unread_whole]
  have hj : (j : S5x32x384.Idx) = ix3 (j 0) (j 1) (j 2) := by
    funext d; fin_cases d <;> rfl
  exact (congrArg _ hj).trans (dt_gen m c _ (mul_arg m c 3 _ _) _ (mul_arg m c 11 _ _) (j 0) (j 1) (j 2))

/-- The last three values before the convolution, after the run. -/
theorem final21 (c : Dev nD) : (dats m 0 c).arrAt 21 (cfgs 0).N = fun i : S5x3x2048.Idx => InRow.tailG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (i 0) (i 1) (i 2) := by
  refine (dats m 0 c).arrAt_eq_of_after_last 21 t0_0 (by decide +kernel) _ fun j => ?_
  blk_simp
  rw [after0_21]
  unfold outsAt0
  frame_out
  simp only [read_unread_whole]
  have hj : (j : S5x3x2048.Idx) = ix3 (j 0) (j 1) (j 2) := by
    funext d; fin_cases d <;> rfl
  exact (congrArg _ hj).trans (tail_gen m c _ (mul_arg m c 3 _ _) _ (mul_arg m c 8 _ _) _ (mul_arg m c 9 _ _) _ (mul_arg m c 10 _ _) (j 0) (j 1) (j 2))

end Cert.InProjReferenceIdeal.Final
-- ==== Proof.InProj.Algebraic.lean ====
module

public import proofs.«01_k».proof.Defs
public import proofs.«01_k».proof.Proof.InProj.Kernel
public import proofs.«01_k».proof.Proof.InProj.Reference

@[expose] public section

/-!
The input projection's kernel and its reference end with the same nine arrays: each side's arrays are the
formulas of `Proof/InProj/Target.lean` over that side's arguments, and the arguments agree.
-/
set_option maxHeartbeats 4000000
noncomputable section
open Idealize.ShloMosaic Idealize.ShloMosaic.TcCoe Idealize.SL.Sem
namespace Cert.Proof

/-- From memories agreeing on the arguments, the kernel's and the reference's nine results are equal: the codes and
scales of the normalised tokens, the rotated queries, the key and value codes, the gates, the convolved values, the
step sizes and the convolution's kept values. -/
theorem inProj : Cert.algebraic_InProjIdeal_InProjReferenceIdeal (hInProjIdeal := Cert.InProjIdeal.Gen.facts) (hInProjReferenceIdeal := Cert.InProjReferenceIdeal.Gen.facts) := by
  intro m g m' g' _ hagree
  refine ⟨fun c i => InRow.codeG (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (i 0) (i 1) (i 2),
    fun c i => InRow.scaleG (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (i 0) (i 2),
    fun c i => InRow.qTG (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (i 0) (i 1) (i 2) (i 3),
    fun c i => InRow.kG (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (i 0) (i 1) (i 2) (i 3),
    fun c i => InRow.vG (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg8)) (i 0) (i 1) (i 2) (i 3),
    fun c i => InRow.zG (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (i 0) (i 1) (i 2),
    fun c i => InRow.convG (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg9)) (m ((c.tc : Thread Cert.InProjIdeal.nD Cert.InProjIdeal.τ).loc Cert.InProjIdeal.main_arg10)) (m ((c.tc : Thread Cert.InProjIdeal.nD Cert.InProjIdeal.τ).loc Cert.InProjIdeal.main_arg11)) (i 0) (i 1) (i 2),
    fun c i => InRow.dtG (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg12)) (i 0) (i 1) (i 2),
    fun c i => InRow.tailG (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg9)) (i 0) (i 1) (i 2), ?_, ?_⟩
  · refine (θ_run _ _ _).mono (fun r h c => ?_) (Cert.InProjIdeal.Value.run_blocks m g)
    obtain ⟨h0, h1, h2, h3, h4, h5, h6, h7, h8, hargs⟩ := h c
    exact ⟨h0.trans (Cert.InProjIdeal.Final.final15 m c), h1.trans (Cert.InProjIdeal.Final.final16 m c), h2.trans (Cert.InProjIdeal.Final.final17 m c), h3.trans (Cert.InProjIdeal.Final.final18 m c), h4.trans (Cert.InProjIdeal.Final.final19 m c), h5.trans (Cert.InProjIdeal.Final.final20 m c), h6.trans (Cert.InProjIdeal.Final.final21 m c), h7.trans (Cert.InProjIdeal.Final.final22 m c), h8.trans (Cert.InProjIdeal.Final.final23 m c), hargs⟩
  · refine (θ_run _ _ _).mono (fun r h c => ?_) (Cert.InProjReferenceIdeal.Value.run_blocks m' g')
    obtain ⟨h0, h1, h2, h3, h4, h5, h6, h7, h8, hargs⟩ := h c
    obtain ⟨a0, a1, a2, a3, a4, a5, a6, a7, a8, a9, a10, a11, a12⟩ := hagree c
    refine ⟨h0.trans ((Cert.InProjReferenceIdeal.Final.final13 m' c).trans ?_), h1.trans ((Cert.InProjReferenceIdeal.Final.final14 m' c).trans ?_), h2.trans ((Cert.InProjReferenceIdeal.Final.final15 m' c).trans ?_), h3.trans ((Cert.InProjReferenceIdeal.Final.final16 m' c).trans ?_), h4.trans ((Cert.InProjReferenceIdeal.Final.final17 m' c).trans ?_), h5.trans ((Cert.InProjReferenceIdeal.Final.final18 m' c).trans ?_), h6.trans ((Cert.InProjReferenceIdeal.Final.final19 m' c).trans ?_), h7.trans ((Cert.InProjReferenceIdeal.Final.final20 m' c).trans ?_), h8.trans ((Cert.InProjReferenceIdeal.Final.final21 m' c).trans ?_), hargs⟩
    · rw [a0, a1]; rfl
    · rw [a0, a1]; rfl
    · rw [a0, a1, a2, a3, a4, a5, a6]; rfl
    · rw [a0, a1, a2, a3, a4, a5, a6, a7]; rfl
    · rw [a0, a1, a2, a3, a4, a8]; rfl
    · rw [a0, a1, a2, a3, a4]; rfl
    · rw [a0, a1, a2, a3, a4, a9, a10, a11]; rfl
    · rw [a0, a1, a2, a3, a4, a12]; rfl
    · rw [a0, a1, a2, a3, a4, a9]; rfl
end Cert.Proof
-- ==== Proof.lean ====
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.InProjReferenceIdeal.Skeleton
public import proofs.«01_k».proof.Proof.Gen.InProjReferenceIdeal.Launch
public import proofs.«01_k».proof.Proof.Gen.InProjReferenceIdeal.Points
public import proofs.«01_k».proof.Proof.Gen.InProjReferenceIdeal.Frame
public import proofs.«01_k».proof.Proof.Gen.InProjIdeal.Value
public import proofs.«01_k».proof.Proof.Gen.InProjReferenceIdeal.Value
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.Gen.MlpReferenceIdeal.Skeleton
public import proofs.«01_k».proof.Proof.Gen.MlpReferenceIdeal.Launch
public import proofs.«01_k».proof.Proof.Gen.MlpReferenceIdeal.Points
public import proofs.«01_k».proof.Proof.Gen.MlpReferenceIdeal.Frame
public import proofs.«01_k».proof.Proof.Gen.MlpIdeal.Value
public import proofs.«01_k».proof.Proof.Gen.MlpReferenceIdeal.Value
public import proofs.«01_k».proof.Proof.Mlp.Algebraic
public import proofs.«01_k».proof.Proof.InProj.Algebraic
public import Idealize.ShloMosaic.Adequacy
public import Idealize.ShloMosaic.Init

@[expose] public section

noncomputable section

namespace Cert.Proof

open Idealize.ShloMosaic Idealize.SL.Sem Cert.Mlp

theorem claim : Cert.Claim := ⟨Cert.Mlp.Gen.facts, Cert.MlpIdeal.Gen.facts, Cert.MlpReferenceIdeal.Gen.facts, Cert.InProj.Gen.facts, Cert.InProjIdeal.Gen.facts, Cert.InProjReferenceIdeal.Gen.facts,
  fun m ρ _ => Cert.Mlp.Gen.frame m ρ, fun m ρ _ => Cert.MlpIdeal.Gen.frame m ρ, fun m ρ _ => Cert.MlpReferenceIdeal.Gen.frame m ρ,
  fun m ρ _ => Cert.InProj.Gen.frame m ρ, fun m ρ _ => Cert.InProjIdeal.Gen.frame m ρ, fun m ρ _ => Cert.InProjReferenceIdeal.Gen.frame m ρ,
  trivial, Cert.Proof.mlp, trivial, Cert.Proof.inProj⟩

end Cert.Proof

end
